-- ==== Defs.lean ====
def Pre_Kernel [hPre_candidates : Cert.Pre_candidates.Facts] (m : (ℓ : Loc Cert.Kernel.nD Cert.Kernel.τ Cert.Kernel.sig) → Buf (Elt Bits) ℓ) : Prop :=
  ∀ c : Dev Cert.Kernel.nD,
    (Cert.Pre_candidates.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_candidates : Cert.Pre_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_candidates : Cert.Pre_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_candidates : Cert.Pre_candidates.Facts] (m : (ℓ : Loc Cert.Reference.nD Cert.Reference.τ Cert.Reference.sig) → Buf (Elt Bits) ℓ) : Prop :=
  ∀ c : Dev Cert.Reference.nD,
    (Cert.Pre_candidates.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Rescore (m : (ℓ : Loc Cert.Rescore.nD Cert.Rescore.τ Cert.Rescore.sig) → Buf (Elt Bits) ℓ) : Prop :=
  True

def Pre_RescoreIdeal (m : (ℓ : Loc Cert.RescoreIdeal.nD Cert.RescoreIdeal.τ Cert.RescoreIdeal.sig) → Buf (Elt Ideal) ℓ) : Prop :=
  True

def Pre_RescoreIdeal_inputs [hPre_inputs : Cert.Pre_inputs.Facts] (m : (ℓ : Loc Cert.RescoreIdeal.nD Cert.RescoreIdeal.τ Cert.RescoreIdeal.sig) → Buf (Elt Ideal) ℓ) : Prop :=
  ∀ c : Dev Cert.RescoreIdeal.nD,
    (Cert.Pre_inputs.fn (F := Ideal) (m ((c.tc : Thread Cert.RescoreIdeal.nD Cert.RescoreIdeal.τ).loc Cert.RescoreIdeal.main_arg0)) (m ((c.tc : Thread Cert.RescoreIdeal.nD Cert.RescoreIdeal.τ).loc Cert.RescoreIdeal.main_arg1)) (m ((c.tc : Thread Cert.RescoreIdeal.nD Cert.RescoreIdeal.τ).loc Cert.RescoreIdeal.main_arg2)) (m ((c.tc : Thread Cert.RescoreIdeal.nD Cert.RescoreIdeal.τ).loc Cert.RescoreIdeal.main_arg3))) = (fun _ => 1#1)

def Pre_RescoreReferenceIdeal (m : (ℓ : Loc Cert.RescoreReferenceIdeal.nD Cert.RescoreReferenceIdeal.τ Cert.RescoreReferenceIdeal.sig) → Buf (Elt Ideal) ℓ) : Prop :=
  True

def Pre_RescoreReferenceIdeal_inputs [hPre_inputs : Cert.Pre_inputs.Facts] (m : (ℓ : Loc Cert.RescoreReferenceIdeal.nD Cert.RescoreReferenceIdeal.τ Cert.RescoreReferenceIdeal.sig) → Buf (Elt Ideal) ℓ) : Prop :=
  ∀ c : Dev Cert.RescoreReferenceIdeal.nD,
    (Cert.Pre_inputs.fn (F := Ideal) (m ((c.tc : Thread Cert.RescoreReferenceIdeal.nD Cert.RescoreReferenceIdeal.τ).loc Cert.RescoreReferenceIdeal.main_arg0)) (m ((c.tc : Thread Cert.RescoreReferenceIdeal.nD Cert.RescoreReferenceIdeal.τ).loc Cert.RescoreReferenceIdeal.main_arg1)) (m ((c.tc : Thread Cert.RescoreReferenceIdeal.nD Cert.RescoreReferenceIdeal.τ).loc Cert.RescoreReferenceIdeal.main_arg2)) (m ((c.tc : Thread Cert.RescoreReferenceIdeal.nD Cert.RescoreReferenceIdeal.τ).loc Cert.RescoreReferenceIdeal.main_arg3))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_no_tie [hPre_no_tie : Cert.Pre_no_tie.Facts] (m : (ℓ : Loc Cert.SelectIdeal.nD Cert.SelectIdeal.τ Cert.SelectIdeal.sig) → Buf (Elt Ideal) ℓ) : Prop :=
  ∀ c : Dev Cert.SelectIdeal.nD,
    (Cert.Pre_no_tie.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_no_tie [hPre_no_tie : Cert.Pre_no_tie.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_no_tie.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1))) = (fun _ => 1#1)

def quiescent_Kernel [hKernel : Cert.Kernel.Facts] [hPre_candidates : Cert.Pre_candidates.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_candidates : Cert.Pre_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_candidates : Cert.Pre_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_candidates : Cert.Pre_candidates.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Rescore [hRescore : Cert.Rescore.Facts] : Prop :=
  ∀ (m : (ℓ : Loc Cert.Rescore.nD Cert.Rescore.τ Cert.Rescore.sig) → Buf (Elt Bits) ℓ) (g : Dev Cert.Rescore.nD → PrngReg), Pre_Rescore m →
    θ_run (Cert.Rescore.defs (F := Bits)) (onTc (τ := Cert.Rescore.τ) (Cert.Rescore.main (F := Bits))) ⟨m, fun _ => 0, g⟩ (fun r => (∀ c : Dev Cert.Rescore.nD,
      r.2.mem ((c.tc : Thread Cert.Rescore.nD Cert.Rescore.τ).loc Cert.Rescore.main_arg0) = m ((c.tc : Thread Cert.Rescore.nD Cert.Rescore.τ).loc Cert.Rescore.main_arg0)
      ∧ r.2.mem ((c.tc : Thread Cert.Rescore.nD Cert.Rescore.τ).loc Cert.Rescore.main_arg1) = m ((c.tc : Thread Cert.Rescore.nD Cert.Rescore.τ).loc Cert.Rescore.main_arg1)
      ∧ r.2.mem ((c.tc : Thread Cert.Rescore.nD Cert.Rescore.τ).loc Cert.Rescore.main_arg2) = m ((c.tc : Thread Cert.Rescore.nD Cert.Rescore.τ).loc Cert.Rescore.main_arg2)
      ∧ r.2.mem ((c.tc : Thread Cert.Rescore.nD Cert.Rescore.τ).loc Cert.Rescore.main_arg3) = m ((c.tc : Thread Cert.Rescore.nD Cert.Rescore.τ).loc Cert.Rescore.main_arg3))
      ∧ r.2.sem = fun _ => 0)

def quiescent_RescoreIdeal [hRescoreIdeal : Cert.RescoreIdeal.Facts] : Prop :=
  ∀ (m : (ℓ : Loc Cert.RescoreIdeal.nD Cert.RescoreIdeal.τ Cert.RescoreIdeal.sig) → Buf (Elt Ideal) ℓ) (g : Dev Cert.RescoreIdeal.nD → PrngReg), Pre_RescoreIdeal m →
    θ_run (Cert.RescoreIdeal.defs (F := Ideal)) (onTc (τ := Cert.RescoreIdeal.τ) (Cert.RescoreIdeal.main (F := Ideal))) ⟨m, fun _ => 0, g⟩ (fun r => (∀ c : Dev Cert.RescoreIdeal.nD,
      r.2.mem ((c.tc : Thread Cert.RescoreIdeal.nD Cert.RescoreIdeal.τ).loc Cert.RescoreIdeal.main_arg0) = m ((c.tc : Thread Cert.RescoreIdeal.nD Cert.RescoreIdeal.τ).loc Cert.RescoreIdeal.main_arg0)
      ∧ r.2.mem ((c.tc : Thread Cert.RescoreIdeal.nD Cert.RescoreIdeal.τ).loc Cert.RescoreIdeal.main_arg1) = m ((c.tc : Thread Cert.RescoreIdeal.nD Cert.RescoreIdeal.τ).loc Cert.RescoreIdeal.main_arg1)
      ∧ r.2.mem ((c.tc : Thread Cert.RescoreIdeal.nD Cert.RescoreIdeal.τ).loc Cert.RescoreIdeal.main_arg2) = m ((c.tc : Thread Cert.RescoreIdeal.nD Cert.RescoreIdeal.τ).loc Cert.RescoreIdeal.main_arg2)
      ∧ r.2.mem ((c.tc : Thread Cert.RescoreIdeal.nD Cert.RescoreIdeal.τ).loc Cert.RescoreIdeal.main_arg3) = m ((c.tc : Thread Cert.RescoreIdeal.nD Cert.RescoreIdeal.τ).loc Cert.RescoreIdeal.main_arg3))
      ∧ r.2.sem = fun _ => 0)

def quiescent_RescoreIdeal_pre_inputs [hRescoreIdeal : Cert.RescoreIdeal.Facts] [hPre_inputs : Cert.Pre_inputs.Facts] : Prop :=
  ∀ (m : (ℓ : Loc Cert.RescoreIdeal.nD Cert.RescoreIdeal.τ Cert.RescoreIdeal.sig) → Buf (Elt Ideal) ℓ) (g : Dev Cert.RescoreIdeal.nD → PrngReg), Pre_RescoreIdeal_inputs m →
    θ_run (Cert.RescoreIdeal.defs (F := Ideal)) (onTc (τ := Cert.RescoreIdeal.τ) (Cert.RescoreIdeal.main (F := Ideal))) ⟨m, fun _ => 0, g⟩ (fun r => (∀ c : Dev Cert.RescoreIdeal.nD,
      r.2.mem ((c.tc : Thread Cert.RescoreIdeal.nD Cert.RescoreIdeal.τ).loc Cert.RescoreIdeal.main_arg0) = m ((c.tc : Thread Cert.RescoreIdeal.nD Cert.RescoreIdeal.τ).loc Cert.RescoreIdeal.main_arg0)
      ∧ r.2.mem ((c.tc : Thread Cert.RescoreIdeal.nD Cert.RescoreIdeal.τ).loc Cert.RescoreIdeal.main_arg1) = m ((c.tc : Thread Cert.RescoreIdeal.nD Cert.RescoreIdeal.τ).loc Cert.RescoreIdeal.main_arg1)
      ∧ r.2.mem ((c.tc : Thread Cert.RescoreIdeal.nD Cert.RescoreIdeal.τ).loc Cert.RescoreIdeal.main_arg2) = m ((c.tc : Thread Cert.RescoreIdeal.nD Cert.RescoreIdeal.τ).loc Cert.RescoreIdeal.main_arg2)
      ∧ r.2.mem ((c.tc : Thread Cert.RescoreIdeal.nD Cert.RescoreIdeal.τ).loc Cert.RescoreIdeal.main_arg3) = m ((c.tc : Thread Cert.RescoreIdeal.nD Cert.RescoreIdeal.τ).loc Cert.RescoreIdeal.main_arg3))
      ∧ r.2.sem = fun _ => 0)

def quiescent_RescoreReferenceIdeal [hRescoreReferenceIdeal : Cert.RescoreReferenceIdeal.Facts] : Prop :=
  ∀ (m : (ℓ : Loc Cert.RescoreReferenceIdeal.nD Cert.RescoreReferenceIdeal.τ Cert.RescoreReferenceIdeal.sig) → Buf (Elt Ideal) ℓ) (g : Dev Cert.RescoreReferenceIdeal.nD → PrngReg), Pre_RescoreReferenceIdeal m →
    θ_run (Cert.RescoreReferenceIdeal.defs (F := Ideal)) (onTc (τ := Cert.RescoreReferenceIdeal.τ) (Cert.RescoreReferenceIdeal.main (F := Ideal))) ⟨m, fun _ => 0, g⟩ (fun r => (∀ c : Dev Cert.RescoreReferenceIdeal.nD,
      r.2.mem ((c.tc : Thread Cert.RescoreReferenceIdeal.nD Cert.RescoreReferenceIdeal.τ).loc Cert.RescoreReferenceIdeal.main_arg0) = m ((c.tc : Thread Cert.RescoreReferenceIdeal.nD Cert.RescoreReferenceIdeal.τ).loc Cert.RescoreReferenceIdeal.main_arg0)
      ∧ r.2.mem ((c.tc : Thread Cert.RescoreReferenceIdeal.nD Cert.RescoreReferenceIdeal.τ).loc Cert.RescoreReferenceIdeal.main_arg1) = m ((c.tc : Thread Cert.RescoreReferenceIdeal.nD Cert.RescoreReferenceIdeal.τ).loc Cert.RescoreReferenceIdeal.main_arg1)
      ∧ r.2.mem ((c.tc : Thread Cert.RescoreReferenceIdeal.nD Cert.RescoreReferenceIdeal.τ).loc Cert.RescoreReferenceIdeal.main_arg2) = m ((c.tc : Thread Cert.RescoreReferenceIdeal.nD Cert.RescoreReferenceIdeal.τ).loc Cert.RescoreReferenceIdeal.main_arg2)
      ∧ r.2.mem ((c.tc : Thread Cert.RescoreReferenceIdeal.nD Cert.RescoreReferenceIdeal.τ).loc Cert.RescoreReferenceIdeal.main_arg3) = m ((c.tc : Thread Cert.RescoreReferenceIdeal.nD Cert.RescoreReferenceIdeal.τ).loc Cert.RescoreReferenceIdeal.main_arg3))
      ∧ r.2.sem = fun _ => 0)

def quiescent_RescoreReferenceIdeal_pre_inputs [hRescoreReferenceIdeal : Cert.RescoreReferenceIdeal.Facts] [hPre_inputs : Cert.Pre_inputs.Facts] : Prop :=
  ∀ (m : (ℓ : Loc Cert.RescoreReferenceIdeal.nD Cert.RescoreReferenceIdeal.τ Cert.RescoreReferenceIdeal.sig) → Buf (Elt Ideal) ℓ) (g : Dev Cert.RescoreReferenceIdeal.nD → PrngReg), Pre_RescoreReferenceIdeal_inputs m →
    θ_run (Cert.RescoreReferenceIdeal.defs (F := Ideal)) (onTc (τ := Cert.RescoreReferenceIdeal.τ) (Cert.RescoreReferenceIdeal.main (F := Ideal))) ⟨m, fun _ => 0, g⟩ (fun r => (∀ c : Dev Cert.RescoreReferenceIdeal.nD,
      r.2.mem ((c.tc : Thread Cert.RescoreReferenceIdeal.nD Cert.RescoreReferenceIdeal.τ).loc Cert.RescoreReferenceIdeal.main_arg0) = m ((c.tc : Thread Cert.RescoreReferenceIdeal.nD Cert.RescoreReferenceIdeal.τ).loc Cert.RescoreReferenceIdeal.main_arg0)
      ∧ r.2.mem ((c.tc : Thread Cert.RescoreReferenceIdeal.nD Cert.RescoreReferenceIdeal.τ).loc Cert.RescoreReferenceIdeal.main_arg1) = m ((c.tc : Thread Cert.RescoreReferenceIdeal.nD Cert.RescoreReferenceIdeal.τ).loc Cert.RescoreReferenceIdeal.main_arg1)
      ∧ r.2.mem ((c.tc : Thread Cert.RescoreReferenceIdeal.nD Cert.RescoreReferenceIdeal.τ).loc Cert.RescoreReferenceIdeal.main_arg2) = m ((c.tc : Thread Cert.RescoreReferenceIdeal.nD Cert.RescoreReferenceIdeal.τ).loc Cert.RescoreReferenceIdeal.main_arg2)
      ∧ r.2.mem ((c.tc : Thread Cert.RescoreReferenceIdeal.nD Cert.RescoreReferenceIdeal.τ).loc Cert.RescoreReferenceIdeal.main_arg3) = m ((c.tc : Thread Cert.RescoreReferenceIdeal.nD Cert.RescoreReferenceIdeal.τ).loc Cert.RescoreReferenceIdeal.main_arg3))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectIdeal_pre_no_tie [hSelectIdeal : Cert.SelectIdeal.Facts] [hPre_no_tie : Cert.Pre_no_tie.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_no_tie m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1))
      ∧ r.2.sem = fun _ => 0)

def quiescent_SelectReferenceIdeal_pre_no_tie [hSelectReferenceIdeal : Cert.SelectReferenceIdeal.Facts] [hPre_no_tie : Cert.Pre_no_tie.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_no_tie m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1))
      ∧ r.2.sem = fun _ => 0)

def preserves_Kernel_KernelIdeal : Prop :=
  True

def bitexact_Kernel_Reference [hKernel : Cert.Kernel.Facts] [hReference : Cert.Reference.Facts] [hPre_candidates : Cert.Pre_candidates.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v8)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v8) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v10) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_candidates : Cert.Pre_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Rescore_RescoreIdeal : Prop :=
  True

def algebraic_RescoreIdeal_RescoreReferenceIdeal_pre_inputs [hRescoreIdeal : Cert.RescoreIdeal.Facts] [hRescoreReferenceIdeal : Cert.RescoreReferenceIdeal.Facts] [hPre_inputs : Cert.Pre_inputs.Facts] : Prop :=
  ∀ (m : (ℓ : Loc Cert.RescoreIdeal.nD Cert.RescoreIdeal.τ Cert.RescoreIdeal.sig) → Buf (Elt Ideal) ℓ) (g : Dev Cert.RescoreIdeal.nD → PrngReg)
    (m' : (ℓ : Loc Cert.RescoreReferenceIdeal.nD Cert.RescoreReferenceIdeal.τ Cert.RescoreReferenceIdeal.sig) → Buf (Elt Ideal) ℓ) (g' : Dev Cert.RescoreReferenceIdeal.nD → PrngReg), Pre_RescoreIdeal_inputs m →
    (∀ c : Dev Cert.RescoreIdeal.nD,
      m' ((c.tc : Thread Cert.RescoreReferenceIdeal.nD Cert.RescoreReferenceIdeal.τ).loc Cert.RescoreReferenceIdeal.main_arg0) = m ((c.tc : Thread Cert.RescoreIdeal.nD Cert.RescoreIdeal.τ).loc Cert.RescoreIdeal.main_arg0)
      ∧ m' ((c.tc : Thread Cert.RescoreReferenceIdeal.nD Cert.RescoreReferenceIdeal.τ).loc Cert.RescoreReferenceIdeal.main_arg1) = m ((c.tc : Thread Cert.RescoreIdeal.nD Cert.RescoreIdeal.τ).loc Cert.RescoreIdeal.main_arg1)
      ∧ m' ((c.tc : Thread Cert.RescoreReferenceIdeal.nD Cert.RescoreReferenceIdeal.τ).loc Cert.RescoreReferenceIdeal.main_arg2) = m ((c.tc : Thread Cert.RescoreIdeal.nD Cert.RescoreIdeal.τ).loc Cert.RescoreIdeal.main_arg2)
      ∧ m' ((c.tc : Thread Cert.RescoreReferenceIdeal.nD Cert.RescoreReferenceIdeal.τ).loc Cert.RescoreReferenceIdeal.main_arg3) = m ((c.tc : Thread Cert.RescoreIdeal.nD Cert.RescoreIdeal.τ).loc Cert.RescoreIdeal.main_arg3)) →
    ∃ (v0 : (c : Dev Cert.RescoreIdeal.nD) → Buf (Elt Ideal) ((c.tc : Thread Cert.RescoreIdeal.nD Cert.RescoreIdeal.τ).loc Cert.RescoreIdeal.main_v0_0)) (v1 : (c : Dev Cert.RescoreIdeal.nD) → Buf (Elt Ideal) ((c.tc : Thread Cert.RescoreIdeal.nD Cert.RescoreIdeal.τ).loc Cert.RescoreIdeal.main_v2)) (v2 : (c : Dev Cert.RescoreIdeal.nD) → Buf (Elt Ideal) ((c.tc : Thread Cert.RescoreIdeal.nD Cert.RescoreIdeal.τ).loc Cert.RescoreIdeal.main_v3)),
      θ_run (Cert.RescoreIdeal.defs (F := Ideal)) (onTc (τ := Cert.RescoreIdeal.τ) (Cert.RescoreIdeal.main (F := Ideal))) ⟨m, fun _ => 0, g⟩ (fun r => ∀ c : Dev Cert.RescoreIdeal.nD,
          r.2.mem ((c.tc : Thread Cert.RescoreIdeal.nD Cert.RescoreIdeal.τ).loc Cert.RescoreIdeal.main_v0_0) = v0 c
          ∧ r.2.mem ((c.tc : Thread Cert.RescoreIdeal.nD Cert.RescoreIdeal.τ).loc Cert.RescoreIdeal.main_v2) = v1 c
          ∧ r.2.mem ((c.tc : Thread Cert.RescoreIdeal.nD Cert.RescoreIdeal.τ).loc Cert.RescoreIdeal.main_v3) = v2 c
          ∧ r.2.mem ((c.tc : Thread Cert.RescoreIdeal.nD Cert.RescoreIdeal.τ).loc Cert.RescoreIdeal.main_arg0) = m ((c.tc : Thread Cert.RescoreIdeal.nD Cert.RescoreIdeal.τ).loc Cert.RescoreIdeal.main_arg0)
          ∧ r.2.mem ((c.tc : Thread Cert.RescoreIdeal.nD Cert.RescoreIdeal.τ).loc Cert.RescoreIdeal.main_arg1) = m ((c.tc : Thread Cert.RescoreIdeal.nD Cert.RescoreIdeal.τ).loc Cert.RescoreIdeal.main_arg1)
          ∧ r.2.mem ((c.tc : Thread Cert.RescoreIdeal.nD Cert.RescoreIdeal.τ).loc Cert.RescoreIdeal.main_arg2) = m ((c.tc : Thread Cert.RescoreIdeal.nD Cert.RescoreIdeal.τ).loc Cert.RescoreIdeal.main_arg2)
          ∧ r.2.mem ((c.tc : Thread Cert.RescoreIdeal.nD Cert.RescoreIdeal.τ).loc Cert.RescoreIdeal.main_arg3) = m ((c.tc : Thread Cert.RescoreIdeal.nD Cert.RescoreIdeal.τ).loc Cert.RescoreIdeal.main_arg3))
      ∧ θ_run (Cert.RescoreReferenceIdeal.defs (F := Ideal)) (onTc (τ := Cert.RescoreReferenceIdeal.τ) (Cert.RescoreReferenceIdeal.main (F := Ideal))) ⟨m', fun _ => 0, g'⟩ (fun r => ∀ c : Dev Cert.RescoreReferenceIdeal.nD,
          r.2.mem ((c.tc : Thread Cert.RescoreReferenceIdeal.nD Cert.RescoreReferenceIdeal.τ).loc Cert.RescoreReferenceIdeal.main_v62) = v0 c
          ∧ r.2.mem ((c.tc : Thread Cert.RescoreReferenceIdeal.nD Cert.RescoreReferenceIdeal.τ).loc Cert.RescoreReferenceIdeal.main_v66) = v1 c
          ∧ r.2.mem ((c.tc : Thread Cert.RescoreReferenceIdeal.nD Cert.RescoreReferenceIdeal.τ).loc Cert.RescoreReferenceIdeal.main_v42) = v2 c
          ∧ r.2.mem ((c.tc : Thread Cert.RescoreReferenceIdeal.nD Cert.RescoreReferenceIdeal.τ).loc Cert.RescoreReferenceIdeal.main_arg0) = m' ((c.tc : Thread Cert.RescoreReferenceIdeal.nD Cert.RescoreReferenceIdeal.τ).loc Cert.RescoreReferenceIdeal.main_arg0)
          ∧ r.2.mem ((c.tc : Thread Cert.RescoreReferenceIdeal.nD Cert.RescoreReferenceIdeal.τ).loc Cert.RescoreReferenceIdeal.main_arg1) = m' ((c.tc : Thread Cert.RescoreReferenceIdeal.nD Cert.RescoreReferenceIdeal.τ).loc Cert.RescoreReferenceIdeal.main_arg1)
          ∧ r.2.mem ((c.tc : Thread Cert.RescoreReferenceIdeal.nD Cert.RescoreReferenceIdeal.τ).loc Cert.RescoreReferenceIdeal.main_arg2) = m' ((c.tc : Thread Cert.RescoreReferenceIdeal.nD Cert.RescoreReferenceIdeal.τ).loc Cert.RescoreReferenceIdeal.main_arg2)
          ∧ r.2.mem ((c.tc : Thread Cert.RescoreReferenceIdeal.nD Cert.RescoreReferenceIdeal.τ).loc Cert.RescoreReferenceIdeal.main_arg3) = m' ((c.tc : Thread Cert.RescoreReferenceIdeal.nD Cert.RescoreReferenceIdeal.τ).loc Cert.RescoreReferenceIdeal.main_arg3))

def preserves_Select_SelectIdeal : Prop :=
  True

def algebraic_SelectIdeal_SelectReferenceIdeal_pre_no_tie [hSelectIdeal : Cert.SelectIdeal.Facts] [hSelectReferenceIdeal : Cert.SelectReferenceIdeal.Facts] [hPre_no_tie : Cert.Pre_no_tie.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_no_tie m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v1) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v18) = v0 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hRescore : Cert.Rescore.Facts) (hRescoreIdeal : Cert.RescoreIdeal.Facts) (hRescoreReferenceIdeal : Cert.RescoreReferenceIdeal.Facts) (hSelect : Cert.Select.Facts) (hSelectIdeal : Cert.SelectIdeal.Facts) (hSelectReferenceIdeal : Cert.SelectReferenceIdeal.Facts) (hPre_candidates : Cert.Pre_candidates.Facts) (hPre_inputs : Cert.Pre_inputs.Facts) (hPre_no_tie : Cert.Pre_no_tie.Facts),
    quiescent_Kernel (hKernel := hKernel) (hPre_candidates := hPre_candidates)
    ∧ quiescent_KernelIdeal (hKernelIdeal := hKernelIdeal) (hPre_candidates := hPre_candidates)
    ∧ quiescent_ReferenceIdeal (hReferenceIdeal := hReferenceIdeal) (hPre_candidates := hPre_candidates)
    ∧ quiescent_Reference (hReference := hReference) (hPre_candidates := hPre_candidates)
    ∧ quiescent_Rescore (hRescore := hRescore)
    ∧ quiescent_RescoreIdeal (hRescoreIdeal := hRescoreIdeal)
    ∧ quiescent_RescoreIdeal_pre_inputs (hRescoreIdeal := hRescoreIdeal) (hPre_inputs := hPre_inputs)
    ∧ quiescent_RescoreReferenceIdeal (hRescoreReferenceIdeal := hRescoreReferenceIdeal)
    ∧ quiescent_RescoreReferenceIdeal_pre_inputs (hRescoreReferenceIdeal := hRescoreReferenceIdeal) (hPre_inputs := hPre_inputs)
    ∧ quiescent_Select (hSelect := hSelect)
    ∧ quiescent_SelectIdeal (hSelectIdeal := hSelectIdeal)
    ∧ quiescent_SelectIdeal_pre_no_tie (hSelectIdeal := hSelectIdeal) (hPre_no_tie := hPre_no_tie)
    ∧ quiescent_SelectReferenceIdeal (hSelectReferenceIdeal := hSelectReferenceIdeal)
    ∧ quiescent_SelectReferenceIdeal_pre_no_tie (hSelectReferenceIdeal := hSelectReferenceIdeal) (hPre_no_tie := hPre_no_tie)
    ∧ preserves_Kernel_KernelIdeal
    ∧ bitexact_Kernel_Reference (hKernel := hKernel) (hReference := hReference) (hPre_candidates := hPre_candidates)
    ∧ algebraic_KernelIdeal_ReferenceIdeal (hKernelIdeal := hKernelIdeal) (hReferenceIdeal := hReferenceIdeal) (hPre_candidates := hPre_candidates)
    ∧ preserves_Rescore_RescoreIdeal
    ∧ algebraic_RescoreIdeal_RescoreReferenceIdeal_pre_inputs (hRescoreIdeal := hRescoreIdeal) (hRescoreReferenceIdeal := hRescoreReferenceIdeal) (hPre_inputs := hPre_inputs)
    ∧ preserves_Select_SelectIdeal
    ∧ algebraic_SelectIdeal_SelectReferenceIdeal_pre_no_tie (hSelectIdeal := hSelectIdeal) (hSelectReferenceIdeal := hSelectReferenceIdeal) (hPre_no_tie := hPre_no_tie)
-- ==== Pre_candidates.lean ====
abbrev S100000x64 : Shape := ⟨2, ![100000, 64]⟩
abbrev S1024x40 : Shape := ⟨2, ![1024, 40]⟩
abbrev S_ : Shape := ⟨0, ![]⟩

class Facts : Prop where
  bcast_S_S1024x40 : S_.BroadcastsInDim S1024x40 (![] : Fin 0 → Fin S1024x40.rank)

variable [Facts]

def fn {F : FTy → Type} [FloatOps F] (main_arg0 : FVec F S100000x64 .f32) (main_arg1 : IVec S1024x40 32) : IVec S1024x40 1 :=
  let main_c : IVec S_ 32 := constantI S_ 32 0#32
  let main_v0 : IVec S1024x40 32 := broadcastInDim S1024x40 ![] bcast_S_S1024x40 main_c
  let main_v1 : IVec S1024x40 1 := cmpi .sge main_arg1 main_v0
  main_v1
-- ==== Pre_inputs.lean ====
abbrev S1024x64 : Shape := ⟨2, ![1024, 64]⟩
abbrev S1024x5120 : Shape := ⟨2, ![1024, 5120]⟩
abbrev S1024x40 : Shape := ⟨2, ![1024, 40]⟩
abbrev S40 : Shape := ⟨1, ![40]⟩
abbrev S1024x40x1 : Shape := ⟨3, ![1024, 40, 1]⟩
abbrev S1024x1x40 : Shape := ⟨3, ![1024, 1, 40]⟩
abbrev S1024x40x40 : Shape := ⟨3, ![1024, 40, 40]⟩
abbrev S1x40x1 : Shape := ⟨3, ![1, 40, 1]⟩
abbrev S1x1x40 : Shape := ⟨3, ![1, 1, 40]⟩
abbrev S1x40x40 : Shape := ⟨3, ![1, 40, 40]⟩
abbrev S_ : Shape := ⟨0, ![]⟩
abbrev S1024 : Shape := ⟨1, ![1024]⟩

class Facts : Prop where
  bcast_S1024x40_S1024x40x1_0_1 : S1024x40.BroadcastsInDim S1024x40x1 (![0, 1] : Fin 2 → Fin S1024x40x1.rank)
  bcast_S1024x40_S1024x1x40_0_2 : S1024x40.BroadcastsInDim S1024x1x40 (![0, 2] : Fin 2 → Fin S1024x1x40.rank)
  bcast_S1024x40x1_S1024x40x40_0_1_2 : S1024x40x1.BroadcastsInDim S1024x40x40 (![0, 1, 2] : Fin 3 → Fin S1024x40x40.rank)
  bcast_S1024x1x40_S1024x40x40_0_1_2 : S1024x1x40.BroadcastsInDim S1024x40x40 (![0, 1, 2] : Fin 3 → Fin S1024x40x40.rank)
  bcast_S40_S1x40x1_1 : S40.BroadcastsInDim S1x40x1 (![1] : Fin 1 → Fin S1x40x1.rank)
  bcast_S40_S1x1x40_2 : S40.BroadcastsInDim S1x1x40 (![2] : Fin 1 → Fin S1x1x40.rank)
  bcast_S1x40x1_S1x40x40_0_1_2 : S1x40x1.BroadcastsInDim S1x40x40 (![0, 1, 2] : Fin 3 → Fin S1x40x40.rank)
  bcast_S1x1x40_S1x40x40_0_1_2 : S1x1x40.BroadcastsInDim S1x40x40 (![0, 1, 2] : Fin 3 → Fin S1x40x40.rank)
  bcast_S1x40x40_S1024x40x40_0_1_2 : S1x40x40.BroadcastsInDim S1024x40x40 (![0, 1, 2] : Fin 3 → Fin S1024x40x40.rank)
  bcast_S_S1024x40 : S_.BroadcastsInDim S1024x40 (![] : Fin 0 → Fin S1024x40.rank)
  reducesTo_S1024x40x40_S1024x40_d2 : S1024x40x40.ReducesTo [2] S1024x40
  h_S_ : 0 < S_.numel
  reducesTo_S1024x40_S1024_d1 : S1024x40.ReducesTo [1] S1024
  bcast_S_S1024x64 : S_.BroadcastsInDim S1024x64 (![] : Fin 0 → Fin S1024x64.rank)
  reducesTo_S1024x64_S_d0_1 : S1024x64.ReducesTo [0, 1] S_
  bcast_S_S1024x5120 : S_.BroadcastsInDim S1024x5120 (![] : Fin 0 → Fin S1024x5120.rank)
  reducesTo_S1024x5120_S_d0_1 : S1024x5120.ReducesTo [0, 1] S_
  reducesTo_S1024x40_S_d0_1 : S1024x40.ReducesTo [0, 1] S_
  bcast_S_S1024 : S_.BroadcastsInDim S1024 (![] : Fin 0 → Fin S1024.rank)
  reducesTo_S1024_S_d0 : S1024.ReducesTo [0] S_

variable [Facts]

def fn_where {F : FTy → Type} [FloatOps F] (arg0 : IVec S1024x40 1) (arg1 : FVec F S_ .f32) (arg2 : FVec F S_ .f32) : FVec F S1024x40 .f32 :=
  let v0 : FVec F S1024x40 .f32 := broadcastInDim S1024x40 ![] bcast_S_S1024x40 arg1
  let v1 : FVec F S1024x40 .f32 := broadcastInDim S1024x40 ![] bcast_S_S1024x40 arg2
  let v2 : FVec F S1024x40 .f32 := select arg0 v0 v1
  v2

def fn_part2 {F : FTy → Type} [FloatOps F] (main_v33 : IVec S_ 1) (main_v35 : IVec S1024 1) : IVec S_ 1 :=
  let main_c_10 : IVec S_ 1 := constantI S_ 1 1#1
  let main_v36 : IVec S_ 1 := (fun x v => Host.reduce IntOp.andi x v reducesTo_S1024_S_d0 h_S_) main_v35 main_c_10
  let main_v37 : IVec S_ 1 := andi main_v33 main_v36
  main_v37

def fn_part1 {F : FTy → Type} [FloatOps F] (main_arg0 : FVec F S1024x64 .f32) (main_arg1 : FVec F S1024x5120 .f32) (main_arg2 : IVec S1024x40 32) (main_v19 : FVec F S1024x40 .f32) : IVec S_ 1 :=
  let main_cst_2 : FVec F S_ .f32 := constant S_ .f32 0x00000000#32
  let main_v20 : FVec F S1024 .f32 := (fun x v => Host.reduceAdd x v reducesTo_S1024x40_S1024_d1 h_S_) main_v19 main_cst_2
  let main_v21 : FVec F S1024x64 .f32 := Host.absf main_arg0
  let main_cst_3 : FVec F S_ .f32 := constant S_ .f32 0x7F800000#32
  let main_v22 : FVec F S1024x64 .f32 := broadcastInDim S1024x64 ![] bcast_S_S1024x64 main_cst_3
  let main_v23 : IVec S1024x64 1 := cmpf .olt main_v21 main_v22
  let main_c_4 : IVec S_ 1 := constantI S_ 1 1#1
  let main_v24 : IVec S_ 1 := (fun x v => Host.reduce IntOp.andi x v reducesTo_S1024x64_S_d0_1 h_S_) main_v23 main_c_4
  let main_v25 : FVec F S1024x5120 .f32 := Host.absf main_arg1
  let main_cst_5 : FVec F S_ .f32 := constant S_ .f32 0x7F800000#32
  let main_v26 : FVec F S1024x5120 .f32 := broadcastInDim S1024x5120 ![] bcast_S_S1024x5120 main_cst_5
  let main_v27 : IVec S1024x5120 1 := cmpf .olt main_v25 main_v26
  let main_c_6 : IVec S_ 1 := constantI S_ 1 1#1
  let main_v28 : IVec S_ 1 := (fun x v => Host.reduce IntOp.andi x v reducesTo_S1024x5120_S_d0_1 h_S_) main_v27 main_c_6
  let main_v29 : IVec S_ 1 := andi main_v24 main_v28
  let main_c_7 : IVec S_ 32 := constantI S_ 32 0#32
  let main_v30 : IVec S1024x40 32 := broadcastInDim S1024x40 ![] bcast_S_S1024x40 main_c_7
  let main_v31 : IVec S1024x40 1 := cmpi .sge main_arg2 main_v30
  let main_c_8 : IVec S_ 1 := constantI S_ 1 1#1
  let main_v32 : IVec S_ 1 := (fun x v => Host.reduce IntOp.andi x v reducesTo_S1024x40_S_d0_1 h_S_) main_v31 main_c_8
  let main_v33 : IVec S_ 1 := andi main_v29 main_v32
  let main_cst_9 : FVec F S_ .f32 := constant S_ .f32 0x40A00000#32
  let main_v34 : FVec F S1024 .f32 := broadcastInDim S1024 ![] bcast_S_S1024 main_cst_9
  let main_v35 : IVec S1024 1 := cmpf .oge main_v20 main_v34
  fn_part2 (F := F) main_v33 main_v35

def fn {F : FTy → Type} [FloatOps F] (main_arg0 : FVec F S1024x64 .f32) (main_arg1 : FVec F S1024x5120 .f32) (main_arg2 : IVec S1024x40 32) (main_arg3 : IVec S1024x40 32) : IVec S_ 1 :=
  let main_v0 : IVec S40 32 := iotaInDim S40 32 0
  let main_v1 : IVec S1024x40x1 32 := broadcastInDim S1024x40x1 ![0, 1] bcast_S1024x40_S1024x40x1_0_1 main_arg2
  let main_v2 : IVec S1024x1x40 32 := broadcastInDim S1024x1x40 ![0, 2] bcast_S1024x40_S1024x1x40_0_2 main_arg2
  let main_v3 : IVec S1024x40x40 32 := broadcastInDim S1024x40x40 ![0, 1, 2] bcast_S1024x40x1_S1024x40x40_0_1_2 main_v1
  let main_v4 : IVec S1024x40x40 32 := broadcastInDim S1024x40x40 ![0, 1, 2] bcast_S1024x1x40_S1024x40x40_0_1_2 main_v2
  let main_v5 : IVec S1024x40x40 1 := cmpi .eq main_v3 main_v4
  let main_v6 : IVec S1x40x1 32 := broadcastInDim S1x40x1 ![1] bcast_S40_S1x40x1_1 main_v0
  let main_v7 : IVec S1x1x40 32 := broadcastInDim S1x1x40 ![2] bcast_S40_S1x1x40_2 main_v0
  let main_v8 : IVec S1x40x40 32 := broadcastInDim S1x40x40 ![0, 1, 2] bcast_S1x40x1_S1x40x40_0_1_2 main_v6
  let main_v9 : IVec S1x40x40 32 := broadcastInDim S1x40x40 ![0, 1, 2] bcast_S1x1x40_S1x40x40_0_1_2 main_v7
  let main_v10 : IVec S1x40x40 1 := cmpi .sgt main_v8 main_v9
  let main_v11 : IVec S1024x40x40 1 := broadcastInDim S1024x40x40 ![0, 1, 2] bcast_S1x40x40_S1024x40x40_0_1_2 main_v10
  let main_v12 : IVec S1024x40x40 1 := andi main_v5 main_v11
  let main_c : IVec S_ 32 := constantI S_ 32 100000#32
  let main_v13 : IVec S1024x40 32 := broadcastInDim S1024x40 ![] bcast_S_S1024x40 main_c
  let main_v14 : IVec S1024x40 1 := cmpi .slt main_arg2 main_v13
  let main_c_0 : IVec S_ 1 := constantI S_ 1 0#1
  let main_v15 : IVec S1024x40 1 := (fun x v => Host.reduce IntOp.ori x v reducesTo_S1024x40x40_S1024x40_d2 h_S_) main_v12 main_c_0
  let main_v16 : IVec S1024x40 1 := noti main_v15
  let main_v17 : IVec S1024x40 1 := andi main_v14 main_v16
  let main_cst : FVec F S_ .f32 := constant S_ .f32 0x3F800000#32
  let main_cst_1 : FVec F S_ .f32 := constant S_ .f32 0x00000000#32
  let main_v18 : FVec F S1024x40 .f32 := fn_where (F := F) main_v17 main_cst main_cst_1
  let main_v19 : FVec F S1024x40 .f32 := id main_v18
  fn_part1 (F := F) main_arg0 main_arg1 main_arg2 main_v19
-- ==== Pre_no_tie.lean ====
abbrev S1024x64 : Shape := ⟨2, ![1024, 64]⟩
abbrev S100000x64 : Shape := ⟨2, ![100000, 64]⟩
abbrev S_ : Shape := ⟨0, ![]⟩
abbrev S1024 : Shape := ⟨1, ![1024]⟩
abbrev S1024x1 : Shape := ⟨2, ![1024, 1]⟩
abbrev S64x100000 : Shape := ⟨2, ![64, 100000]⟩
abbrev S1024x100000 : Shape := ⟨2, ![1024, 100000]⟩
abbrev S1024x98304 : Shape := ⟨2, ![1024, 98304]⟩
abbrev S1024x352 : Shape := ⟨2, ![1024, 352]⟩
abbrev S1024x1696 : Shape := ⟨2, ![1024, 1696]⟩
abbrev S1024x100352 : Shape := ⟨2, ![1024, 100352]⟩
abbrev S1024x98x8x128 : Shape := ⟨4, ![1024, 98, 8, 128]⟩
abbrev S1024x98x128 : Shape := ⟨3, ![1024, 98, 128]⟩
abbrev S1024x12544 : Shape := ⟨2, ![1024, 12544]⟩
abbrev S1024x6 : Shape := ⟨2, ![1024, 6]⟩
abbrev S1024x5 : Shape := ⟨2, ![1024, 5]⟩

class Facts : Prop where
  reducesTo_S1024x64_S1024_d1 : S1024x64.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  transposes_S100000x64_S64x100000_1_0 : S100000x64.Transposes [1, 0] S64x100000
  slices_S1024x100000_S1024x98304_0_0 : S1024x100000.Slices ![0, 0] S1024x98304
  bcast_S_S1024x352 : S_.BroadcastsInDim S1024x352 (![] : Fin 0 → Fin S1024x352.rank)
  slices_S1024x100000_S1024x1696_0_98304 : S1024x100000.Slices ![0, 98304] S1024x1696
  concatenates_S1024x98304_S1024x352_S1024x1696_S1024x100352_d1 : Shape.Concatenates [S1024x98304, S1024x352, S1024x1696] S1024x100352 1
  shapeCasts_S1024x100352_S1024x98x8x128 : S1024x100352.ShapeCasts S1024x98x8x128
  reducesTo_S1024x98x8x128_S1024x98x128_d2 : S1024x98x8x128.ReducesTo [2] S1024x98x128
  shapeCasts_S1024x98x128_S1024x12544 : S1024x98x128.ShapeCasts S1024x12544
  sliceFits_S1024x12544_S1024x6 : S1024x12544.Slices (fun _ => 0) S1024x6
  slices_S1024x6_S1024x5_0_0 : S1024x6.Slices ![0, 0] S1024x5
  slices_S1024x6_S1024x5_0_1 : S1024x6.Slices ![0, 1] S1024x5
  reducesTo_S1024x5_S_d0_1 : S1024x5.ReducesTo [0, 1] S_
  dot_S1024x64_S64x100000_S1024x100000_1_0_0_1_n_n_wf : DotDims.WF S1024x64 S64x100000 S1024x100000 [1] [0] [0] [1] [] []

variable [Facts]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def fn_part1 {F : FTy → Type} [FloatOps F] (main_values : FVec F S1024x6 .f32) (main_v17 : FVec F S1024x5 .f32) : IVec S_ 1 :=
  let main_v18 : FVec F S1024x5 .f32 := (extractStridedSlice S1024x5 ![0, 1] · slices_S1024x6_S1024x5_0_1) main_values
  let main_v19 : IVec S1024x5 1 := cmpf .ogt main_v17 main_v18
  let main_c : IVec S_ 1 := constantI S_ 1 1#1
  let main_v20 : IVec S_ 1 := (fun x v => Host.reduce IntOp.andi x v reducesTo_S1024x5_S_d0_1 h_S_) main_v19 main_c
  main_v20

def fn {F : FTy → Type} [FloatOps F] (main_arg0 : FVec F S1024x64 .f32) (main_arg1 : FVec F S100000x64 .f32) : IVec S_ 1 :=
  let main_v0 : FVec F S1024x64 .f32 := mulf main_arg0 main_arg0
  let main_cst : FVec F S_ .f32 := constant S_ .f32 0x00000000#32
  let main_v1 : FVec F S1024 .f32 := (fun x v => Host.reduceAdd x v reducesTo_S1024x64_S1024_d1 h_S_) main_v0 main_cst
  let main_v2 : FVec F S1024x1 .f32 := broadcastInDim S1024x1 ![0] bcast_S1024_S1024x1_0 main_v1
  let main_v3 : FVec F S1024x1 .f32 := Host.sqrt main_v2
  let main_cst_0 : FVec F S_ .f32 := constant S_ .f32 0x2B8CBCCC#32
  let main_v4 : FVec F S1024x1 .f32 := broadcastInDim S1024x1 ![] bcast_S_S1024x1 main_cst_0
  let main_v5 : FVec F S1024x1 .f32 := maximumf main_v3 main_v4
  let main_v6 : FVec F S1024x64 .f32 := broadcastInDim S1024x64 ![0, 1] bcast_S1024x1_S1024x64_0_1 main_v5
  let main_v7 : FVec F S1024x64 .f32 := Host.divf main_arg0 main_v6
  let main_v8 : FVec F S64x100000 .f32 := (transpose S64x100000 [1, 0] · transposes_S100000x64_S64x100000_1_0) main_arg1
  let main_v9 : FVec F S1024x100000 .f32 := (fun l r => Host.dotGeneral dot_S1024x64_S64x100000_S1024x100000_1_0_0_1_n_n none l r) main_v7 main_v8
  let main_v10 : FVec F S1024x98304 .f32 := (extractStridedSlice S1024x98304 ![0, 0] · slices_S1024x100000_S1024x98304_0_0) main_v9
  let main_cst_1 : FVec F S_ .f32 := constant S_ .f32 0xFF800000#32
  let main_v11 : FVec F S1024x352 .f32 := broadcastInDim S1024x352 ![] bcast_S_S1024x352 main_cst_1
  let main_v12 : FVec F S1024x1696 .f32 := (extractStridedSlice S1024x1696 ![0, 98304] · slices_S1024x100000_S1024x1696_0_98304) main_v9
  let main_v13 : FVec F S1024x100352 .f32 := concatenate S1024x100352 1 [⟨S1024x98304, main_v10⟩, ⟨S1024x352, main_v11⟩, ⟨S1024x1696, main_v12⟩] concatenates_S1024x98304_S1024x352_S1024x1696_S1024x100352_d1
  let main_v14 : FVec F S1024x98x8x128 .f32 := shapeCast S1024x98x8x128 main_v13 shapeCasts_S1024x100352_S1024x98x8x128
  let main_cst_2 : FVec F S_ .f32 := constant S_ .f32 0xFF800000#32
  let main_v15 : FVec F S1024x98x128 .f32 := (fun x v => Host.reduce FloatOps.maximumf x v reducesTo_S1024x98x8x128_S1024x98x128_d2 h_S_) main_v14 main_cst_2
  let main_v16 : FVec F S1024x12544 .f32 := shapeCast S1024x12544 main_v15 shapeCasts_S1024x98x128_S1024x12544
  let main_values : FVec F S1024x6 .f32 := (fun x => (Host.topK S1024x6 1 (FloatOps.cmpfTotal .gt) x sliceFits_S1024x12544_S1024x6).1) main_v16
  let main_indices : IVec S1024x6 32 := (fun x => (Host.topK S1024x6 1 (FloatOps.cmpfTotal .gt) x sliceFits_S1024x12544_S1024x6).2) main_v16
  let main_v17 : FVec F S1024x5 .f32 := (extractStridedSlice S1024x5 ![0, 0] · slices_S1024x6_S1024x5_0_0) main_values
  fn_part1 (F := F) main_values main_v17
-- ==== Kernel.lean ====
abbrev S100000x64 : Shape := ⟨2, ![100000, 64]⟩
abbrev S1024x40 : Shape := ⟨2, ![1024, 40]⟩
abbrev S_ : Shape := ⟨0, ![]⟩
abbrev S50000x128 : Shape := ⟨2, ![50000, 128]⟩
abbrev S40960 : Shape := ⟨1, ![40960]⟩
abbrev S1x40960 : Shape := ⟨2, ![1, 40960]⟩
abbrev S40960x128 : Shape := ⟨2, ![40960, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩

abbrev nBuf : Table → Nat
  | .hbm => 16
  | .local .scVector .vmem => 2
  | _ => 0

abbrev bufTy : (tb : Table) → Fin (nBuf tb) → BufTy
  | .hbm, ⟨0, _⟩ => ⟨S100000x64, .f32⟩
  | .hbm, ⟨1, _⟩ => ⟨S1024x40, .i32⟩
  | .hbm, ⟨2, _⟩ => ⟨S_, .i32⟩
  | .hbm, ⟨3, _⟩ => ⟨S1024x40, .i32⟩
  | .hbm, ⟨4, _⟩ => ⟨S1024x40, .i1⟩
  | .hbm, ⟨5, _⟩ => ⟨S_, .i32⟩
  | .hbm, ⟨6, _⟩ => ⟨S_, .i32⟩
  | .hbm, ⟨7, _⟩ => ⟨S1024x40, .i32⟩
  | .hbm, ⟨8, _⟩ => ⟨S1024x40, .i32⟩
  | .hbm, ⟨9, _⟩ => ⟨S50000x128, .f32⟩
  | .hbm, ⟨10, _⟩ => ⟨S_, .i32⟩
  | .hbm, ⟨11, _⟩ => ⟨S1024x40, .i32⟩
  | .hbm, ⟨12, _⟩ => ⟨S1024x40, .i32⟩
  | .hbm, ⟨13, _⟩ => ⟨S40960, .i32⟩
  | .hbm, ⟨14, _⟩ => ⟨S1x40960, .i32⟩
  | .hbm, ⟨15, _⟩ => ⟨S40960x128, .f32⟩
  | .local .scVector .vmem, ⟨0, _⟩ => ⟨S2x1x128, .i32⟩
  | .local .scVector .vmem, ⟨1, _⟩ => ⟨S2x128x128, .f32⟩
  | _, _ => ⟨S100000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v3_scv : Ref sig .scVector := ⟨.hbm, 9, rfl⟩
abbrev main_v7_scv : Ref sig .scVector := ⟨.hbm, 14, rfl⟩
abbrev main_v8_scv : Ref sig .scVector := ⟨.hbm, 15, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c10_i32_27_r0 : BitVec 32 := 10#32
  let v32_r0 : BitVec 32 := Scalar.addi c0_i32_26_r0 c10_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c9_i32_68_r0 : BitVec 32 := 9#32
  let v83_r0 : BitVec 1 := Scalar.cmpi .sge arg5_r0 c9_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c10_i32_62_r0 : BitVec 32 := 10#32
  let v74_r0 : BitVec 1 := Scalar.cmpi .eq v73_r0 c10_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c9_i32_55_r0 : BitVec 32 := 9#32
  let v65_r0 : BitVec 1 := Scalar.cmpi .eq arg5_r0 c9_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c9_i32_59_r0 : BitVec 32 := 9#32
  let v70_r0 : BitVec 32 := Scalar.select v69_r0 c9_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x40960.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x40960.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S40960x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S40960x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x40960.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x40960.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S40960x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S40960x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c9_i32_33_r0 : BitVec 32 := 9#32
  let v37_r0 : BitVec 32 := Scalar.select v36_r0 c9_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c10_i32 : BitVec 32 := 10#32
  let v4 : BitVec 32 := Scalar.muli v3 c10_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S40960x128.size a)
theorem k0_off19_inb : ∀ (i : grid0.Coords) (v33_4_r0 : BitVec 32) (k0_hw5 : k0_chk5 i v33_4_r0), ∀ a, (k0_off19 i v33_4_r0) a + S128x128.size a ≤ S40960x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S100000x64 : Shape := ⟨2, ![100000, 64]⟩
abbrev S1024x40 : Shape := ⟨2, ![1024, 40]⟩
abbrev S_ : Shape := ⟨0, ![]⟩
abbrev S40960 : Shape := ⟨1, ![40960]⟩
abbrev S40960x1 : Shape := ⟨2, ![40960, 1]⟩
abbrev S1 : Shape := ⟨1, ![1]⟩
abbrev S1x1 : Shape := ⟨2, ![1, 1]⟩
abbrev S40960x64 : Shape := ⟨2, ![40960, 64]⟩
abbrev S40960x128 : Shape := ⟨2, ![40960, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1024x40, .i32⟩
  | .hbm, ⟨2, _⟩ => ⟨S_, .i32⟩
  | .hbm, ⟨3, _⟩ => ⟨S1024x40, .i32⟩
  | .hbm, ⟨4, _⟩ => ⟨S1024x40, .i1⟩
  | .hbm, ⟨5, _⟩ => ⟨S_, .i32⟩
  | .hbm, ⟨6, _⟩ => ⟨S_, .i32⟩
  | .hbm, ⟨7, _⟩ => ⟨S1024x40, .i32⟩
  | .hbm, ⟨8, _⟩ => ⟨S1024x40, .i32⟩
  | .hbm, ⟨9, _⟩ => ⟨S40960, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S40960, .i32⟩
  | .hbm, ⟨17, _⟩ => ⟨S40960, .i32⟩
  | .hbm, ⟨18, _⟩ => ⟨S_, .i32⟩
  | .hbm, ⟨19, _⟩ => ⟨S40960, .i32⟩
  | .hbm, ⟨20, _⟩ => ⟨S40960, .i1⟩
  | .hbm, ⟨21, _⟩ => ⟨S_, .i32⟩
  | .hbm, ⟨22, _⟩ => ⟨S40960, .i32⟩
  | .hbm, ⟨23, _⟩ => ⟨S40960, .i1⟩
  | .hbm, ⟨24, _⟩ => ⟨S_, .i32⟩
  | .hbm, ⟨25, _⟩ => ⟨S_, .i1⟩
  | .hbm, ⟨26, _⟩ => ⟨S40960, .i1⟩
  | .hbm, ⟨27, _⟩ => ⟨S40960, .i1⟩
  | .hbm, ⟨28, _⟩ => ⟨S40960, .i1⟩
  | .hbm, ⟨29, _⟩ => ⟨S40960, .i32⟩
  | .hbm, ⟨30, _⟩ => ⟨S40960, .i32⟩
  | .hbm, ⟨31, _⟩ => ⟨S40960, .i32⟩
  | .hbm, ⟨32, _⟩ => ⟨S40960, .i32⟩
  | .hbm, ⟨33, _⟩ => ⟨S_, .i32⟩
  | .hbm, ⟨34, _⟩ => ⟨S40960, .i32⟩
  | .hbm, ⟨35, _⟩ => ⟨S40960, .i1⟩
  | .hbm, ⟨36, _⟩ => ⟨S_, .i32⟩
  | .hbm, ⟨37, _⟩ => ⟨S40960, .i32⟩
  | .hbm, ⟨38, _⟩ => ⟨S40960, .i32⟩
  | .hbm, ⟨39, _⟩ => ⟨S40960, .i32⟩
  | .hbm, ⟨40, _⟩ => ⟨S40960x1, .i32⟩
  | .hbm, ⟨41, _⟩ => ⟨S1, .i32⟩
  | .hbm, ⟨42, _⟩ => ⟨S_, .i32⟩
  | .hbm, ⟨43, _⟩ => ⟨S40960x1, .i32⟩
  | .hbm, ⟨44, _⟩ => ⟨S40960x1, .i1⟩
  | .hbm, ⟨45, _⟩ => ⟨S1x1, .i32⟩
  | .hbm, ⟨46, _⟩ => ⟨S40960x1, .i32⟩
  | .hbm, ⟨47, _⟩ => ⟨S40960x1, .i1⟩
  | .hbm, ⟨48, _⟩ => ⟨S40960x1, .i1⟩
  | .hbm, ⟨49, _⟩ => ⟨S_, .i1⟩
  | .hbm, ⟨50, _⟩ => ⟨S40960, .i1⟩
  | .hbm, ⟨51, _⟩ => ⟨S40960x64, .f32⟩
  | .hbm, ⟨52, _⟩ => ⟨S40960x64, .i1⟩
  | .hbm, ⟨53, _⟩ => ⟨S_, .f32⟩
  | .hbm, ⟨54, _⟩ => ⟨S40960x64, .f32⟩
  | .hbm, ⟨55, _⟩ => ⟨S40960x64, .f32⟩
  | .hbm, ⟨56, _⟩ => ⟨S_, .i32⟩
  | .hbm, ⟨57, _⟩ => ⟨S40960, .i32⟩
  | .hbm, ⟨58, _⟩ => ⟨S40960, .i32⟩
  | .hbm, ⟨59, _⟩ => ⟨S_, .i32⟩
  | .hbm, ⟨60, _⟩ => ⟨S40960, .i32⟩
  | .hbm, ⟨61, _⟩ => ⟨S40960, .i1⟩
  | .hbm, ⟨62, _⟩ => ⟨S_, .i32⟩
  | .hbm, ⟨63, _⟩ => ⟨S40960, .i32⟩
  | .hbm, ⟨64, _⟩ => ⟨S40960, .i32⟩
  | .hbm, ⟨65, _⟩ => ⟨S40960, .i32⟩
  | .hbm, ⟨66, _⟩ => ⟨S40960x1, .i32⟩
  | .hbm, ⟨67, _⟩ => ⟨S1, .i32⟩
  | .hbm, ⟨68, _⟩ => ⟨S_, .i32⟩
  | .hbm, ⟨69, _⟩ => ⟨S40960x1, .i32⟩
  | .hbm, ⟨70, _⟩ => ⟨S40960x1, .i1⟩
  | .hbm, ⟨71, _⟩ => ⟨S1x1, .i32⟩
  | .hbm, ⟨72, _⟩ => ⟨S40960x1, .i32⟩
  | .hbm, ⟨73, _⟩ => ⟨S40960x1, .i1⟩
  | .hbm, ⟨74, _⟩ => ⟨S40960x1, .i1⟩
  | .hbm, ⟨75, _⟩ => ⟨S_, .i1⟩
  | .hbm, ⟨76, _⟩ => ⟨S40960, .i1⟩
  | .hbm, ⟨77, _⟩ => ⟨S40960x64, .f32⟩
  | .hbm, ⟨78, _⟩ => ⟨S40960x64, .i1⟩
  | .hbm, ⟨79, _⟩ => ⟨S_, .f32⟩
  | .hbm, ⟨80, _⟩ => ⟨S40960x64, .f32⟩
  | .hbm, ⟨81, _⟩ => ⟨S40960x64, .f32⟩
  | .hbm, ⟨82, _⟩ => ⟨S40960x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call1_v0 : Ref sig .tc := ⟨.hbm, 11, rfl⟩
abbrev main_call1_c : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_c_1 : Ref sig .tc := ⟨.hbm, 18, rfl⟩
abbrev main_call1_v5 : Ref sig .tc := ⟨.hbm, 19, rfl⟩
abbrev main_call1_v6 : Ref sig .tc := ⟨.hbm, 20, rfl⟩
abbrev main_call1_c_2 : Ref sig .tc := ⟨.hbm, 21, rfl⟩
abbrev main_call1_v7 : Ref sig .tc := ⟨.hbm, 22, rfl⟩
abbrev main_call1_v8 : Ref sig .tc := ⟨.hbm, 23, rfl⟩
abbrev main_call1_c_3 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_v4 : Ref sig .tc := ⟨.hbm, 31, rfl⟩
abbrev main_v5 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v6 : Ref sig .tc := ⟨.hbm, 55, rfl⟩
abbrev main_c_2 : Ref sig .tc := ⟨.hbm, 56, rfl⟩
abbrev main_v7 : Ref sig .tc := ⟨.hbm, 57, rfl⟩
abbrev main_v8 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_v14 : Ref sig .tc := ⟨.hbm, 78, rfl⟩
abbrev main_call3_cst : Ref sig .tc := ⟨.hbm, 79, rfl⟩
abbrev main_call3_v15 : Ref sig .tc := ⟨.hbm, 80, rfl⟩
abbrev main_v9 : Ref sig .tc := ⟨.hbm, 81, rfl⟩
abbrev main_v10 : Ref sig .tc := ⟨.hbm, 82, rfl⟩

abbrev nD : Nat := 1
abbrev τ : Topo := Topo.v7x

variable {F : FTy → Type} [FloatOps F]
-- ==== Rescore.lean ====
abbrev S1024x64 : Shape := ⟨2, ![1024, 64]⟩
abbrev S1024x5120 : Shape := ⟨2, ![1024, 5120]⟩
abbrev S1024x40 : Shape := ⟨2, ![1024, 40]⟩
abbrev S1024x8 : Shape := ⟨2, ![1024, 8]⟩
abbrev S512x64 : Shape := ⟨2, ![512, 64]⟩
abbrev S512x5120 : Shape := ⟨2, ![512, 5120]⟩
abbrev S512x40 : Shape := ⟨2, ![512, 40]⟩
abbrev S512x8 : Shape := ⟨2, ![512, 8]⟩
abbrev S512 : Shape := ⟨1, ![512]⟩
abbrev S512x1 : Shape := ⟨2, ![512, 1]⟩
abbrev S512x128 : Shape := ⟨2, ![512, 128]⟩
abbrev S512x5 : Shape := ⟨2, ![512, 5]⟩
abbrev S512x3 : Shape := ⟨2, ![512, 3]⟩
abbrev S1024x1 : Shape := ⟨2, ![1024, 1]⟩
abbrev S1024 : Shape := ⟨1, ![1024]⟩
abbrev S1024x5 : Shape := ⟨2, ![1024, 5]⟩

abbrev nBuf : Space → Nat
  | .hbm => 10
  | .vmem => 14
  | .smem => 0
  | _ => 0

abbrev bufTy : (tb : Table) → Fin (tcTables nBuf tb) → BufTy
  | .hbm, ⟨0, _⟩ => ⟨S1024x64, .f32⟩
  | .hbm, ⟨1, _⟩ => ⟨S1024x5120, .f32⟩
  | .hbm, ⟨2, _⟩ => ⟨S1024x40, .i32⟩
  | .hbm, ⟨3, _⟩ => ⟨S1024x40, .i32⟩
  | .hbm, ⟨4, _⟩ => ⟨S1024x64, .f32⟩
  | .hbm, ⟨5, _⟩ => ⟨S1024x8, .f32⟩
  | .hbm, ⟨6, _⟩ => ⟨S1024x8, .f32⟩
  | .hbm, ⟨7, _⟩ => ⟨S1024x1, .f32⟩
  | .hbm, ⟨8, _⟩ => ⟨S1024, .f32⟩
  | .hbm, ⟨9, _⟩ => ⟨S1024x5, .f32⟩
  | .local _ .vmem, ⟨0, _⟩ => ⟨S512x64, .f32⟩
  | .local _ .vmem, ⟨1, _⟩ => ⟨S512x64, .f32⟩
  | .local _ .vmem, ⟨2, _⟩ => ⟨S512x5120, .f32⟩
  | .local _ .vmem, ⟨3, _⟩ => ⟨S512x5120, .f32⟩
  | .local _ .vmem, ⟨4, _⟩ => ⟨S512x40, .i32⟩
  | .local _ .vmem, ⟨5, _⟩ => ⟨S512x40, .i32⟩
  | .local _ .vmem, ⟨6, _⟩ => ⟨S512x40, .i32⟩
  | .local _ .vmem, ⟨7, _⟩ => ⟨S512x40, .i32⟩
  | .local _ .vmem, ⟨8, _⟩ => ⟨S512x64, .f32⟩
  | .local _ .vmem, ⟨9, _⟩ => ⟨S512x64, .f32⟩
  | .local _ .vmem, ⟨10, _⟩ => ⟨S512x8, .f32⟩
  | .local _ .vmem, ⟨11, _⟩ => ⟨S512x8, .f32⟩
  | .local _ .vmem, ⟨12, _⟩ => ⟨S512x8, .f32⟩
  | .local _ .vmem, ⟨13, _⟩ => ⟨S512x8, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x40 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x40 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RescoreReferenceIdeal.lean ====
abbrev S1024x64 : Shape := ⟨2, ![1024, 64]⟩
abbrev S1024x5120 : Shape := ⟨2, ![1024, 5120]⟩
abbrev S1024x40 : Shape := ⟨2, ![1024, 40]⟩
abbrev S1024x40x2x64 : Shape := ⟨4, ![1024, 40, 2, 64]⟩
abbrev S1024x40x1 : Shape := ⟨3, ![1024, 40, 1]⟩
abbrev S_ : Shape := ⟨0, ![]⟩
abbrev S1024x40x1x64 : Shape := ⟨4, ![1024, 40, 1, 64]⟩
abbrev S1024x40x64 : Shape := ⟨3, ![1024, 40, 64]⟩
abbrev S1024 : Shape := ⟨1, ![1024]⟩
abbrev S1024x1 : Shape := ⟨2, ![1024, 1]⟩
abbrev S1024x1x64 : Shape := ⟨3, ![1024, 1, 64]⟩
abbrev S100000 : Shape := ⟨1, ![100000]⟩
abbrev S1x1x100000 : Shape := ⟨3, ![1, 1, 100000]⟩
abbrev S1024x40x100000 : Shape := ⟨3, ![1024, 40, 100000]⟩
abbrev S1024x100000 : Shape := ⟨2, ![1024, 100000]⟩
abbrev S1024x5 : Shape := ⟨2, ![1024, 5]⟩
abbrev S1024x1x40 : Shape := ⟨3, ![1024, 1, 40]⟩
abbrev S1024x5x1 : Shape := ⟨3, ![1024, 5, 1]⟩
abbrev S1024x5x40 : Shape := ⟨3, ![1024, 5, 40]⟩

abbrev nBuf : Space → Nat
  | .hbm => 96
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x5120, .f32⟩
  | .hbm, ⟨2, _⟩ => ⟨S1024x40, .i32⟩
  | .hbm, ⟨3, _⟩ => ⟨S1024x40, .i32⟩
  | .hbm, ⟨4, _⟩ => ⟨S1024x40x2x64, .f32⟩
  | .hbm, ⟨5, _⟩ => ⟨S1024x40x1, .i32⟩
  | .hbm, ⟨6, _⟩ => ⟨S_, .i32⟩
  | .hbm, ⟨7, _⟩ => ⟨S1024x40x1, .i32⟩
  | .hbm, ⟨8, _⟩ => ⟨S1024x40x1, .i1⟩
  | .hbm, ⟨9, _⟩ => ⟨S1024x40x1x64, .f32⟩
  | .hbm, ⟨10, _⟩ => ⟨S1024x40x64, .f32⟩
  | .hbm, ⟨11, _⟩ => ⟨S1024x40x1x64, .f32⟩
  | .hbm, ⟨12, _⟩ => ⟨S1024x40x64, .f32⟩
  | .hbm, ⟨13, _⟩ => ⟨S1024x40x64, .i1⟩
  | .hbm, ⟨14, _⟩ => ⟨S1024x40x64, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x1, .f32⟩
  | .hbm, ⟨20, _⟩ => ⟨S_, .f32⟩
  | .hbm, ⟨21, _⟩ => ⟨S1024x1, .f32⟩
  | .hbm, ⟨22, _⟩ => ⟨S1024x1, .f32⟩
  | .hbm, ⟨23, _⟩ => ⟨S1024x64, .f32⟩
  | .hbm, ⟨24, _⟩ => ⟨S1024x64, .f32⟩
  | .hbm, ⟨25, _⟩ => ⟨S1024x1x64, .f32⟩
  | .hbm, ⟨26, _⟩ => ⟨S1024x40x64, .f32⟩
  | .hbm, ⟨27, _⟩ => ⟨S1024x40x64, .f32⟩
  | .hbm, ⟨28, _⟩ => ⟨S_, .f32⟩
  | .hbm, ⟨29, _⟩ => ⟨S1024x40, .f32⟩
  | .hbm, ⟨30, _⟩ => ⟨S1024x40x1, .i32⟩
  | .hbm, ⟨31, _⟩ => ⟨S100000, .i32⟩
  | .hbm, ⟨32, _⟩ => ⟨S1x1x100000, .i32⟩
  | .hbm, ⟨33, _⟩ => ⟨S1024x40x100000, .i32⟩
  | .hbm, ⟨34, _⟩ => ⟨S1024x40x100000, .i32⟩
  | .hbm, ⟨35, _⟩ => ⟨S1024x40x100000, .i1⟩
  | .hbm, ⟨36, _⟩ => ⟨S1024x40x1, .f32⟩
  | .hbm, ⟨37, _⟩ => ⟨S_, .f32⟩
  | .hbm, ⟨38, _⟩ => ⟨S_, .f32⟩
  | .hbm, ⟨39, _⟩ => ⟨S1024x40x100000, .f32⟩
  | .hbm, ⟨40, _⟩ => ⟨S1024x40x100000, .f32⟩
  | .hbm, ⟨41, _⟩ => ⟨S1024x40x100000, .f32⟩
  | .hbm, ⟨42, _⟩ => ⟨S_, .f32⟩
  | .hbm, ⟨43, _⟩ => ⟨S1024x100000, .f32⟩
  | .hbm, ⟨44, _⟩ => ⟨S1024x5, .f32⟩
  | .hbm, ⟨45, _⟩ => ⟨S1024x5, .i32⟩
  | .hbm, ⟨46, _⟩ => ⟨S_, .f32⟩
  | .hbm, ⟨47, _⟩ => ⟨S1024x5, .f32⟩
  | .hbm, ⟨48, _⟩ => ⟨S1024x5, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024x1, .f32⟩
  | .hbm, ⟨55, _⟩ => ⟨S1024x5, .f32⟩
  | .hbm, ⟨56, _⟩ => ⟨S1024x5, .f32⟩
  | .hbm, ⟨57, _⟩ => ⟨S1024x5, .f32⟩
  | .hbm, ⟨58, _⟩ => ⟨S_, .f32⟩
  | .hbm, ⟨59, _⟩ => ⟨S1024, .f32⟩
  | .hbm, ⟨60, _⟩ => ⟨S1024x1, .f32⟩
  | .hbm, ⟨61, _⟩ => ⟨S1024x5, .f32⟩
  | .hbm, ⟨62, _⟩ => ⟨S1024x5, .f32⟩
  | .hbm, ⟨63, _⟩ => ⟨S1024x1x40, .i32⟩
  | .hbm, ⟨64, _⟩ => ⟨S1024x5x1, .i32⟩
  | .hbm, ⟨65, _⟩ => ⟨S1024x5x40, .i32⟩
  | .hbm, ⟨66, _⟩ => ⟨S1024x5x40, .i32⟩
  | .hbm, ⟨67, _⟩ => ⟨S1024x5x40, .i1⟩
  | .hbm, ⟨68, _⟩ => ⟨S1024x5x1, .f32⟩
  | .hbm, ⟨69, _⟩ => ⟨S_, .f32⟩
  | .hbm, ⟨70, _⟩ => ⟨S_, .f32⟩
  | .hbm, ⟨71, _⟩ => ⟨S1024x5x40, .f32⟩
  | .hbm, ⟨72, _⟩ => ⟨S1024x5x40, .f32⟩
  | .hbm, ⟨73, _⟩ => ⟨S1024x5x40, .f32⟩
  | .hbm, ⟨74, _⟩ => ⟨S_, .f32⟩
  | .hbm, ⟨75, _⟩ => ⟨S1024x40, .f32⟩
  | .hbm, ⟨76, _⟩ => ⟨S1024x40x1, .f32⟩
  | .hbm, ⟨77, _⟩ => ⟨S1024x40x64, .f32⟩
  | .hbm, ⟨78, _⟩ => ⟨S1024x40x64, .f32⟩
  | .hbm, ⟨79, _⟩ => ⟨S_, .f32⟩
  | .hbm, ⟨80, _⟩ => ⟨S1024x64, .f32⟩
  | .hbm, ⟨81, _⟩ => ⟨S1024x64, .f32⟩
  | .hbm, ⟨82, _⟩ => ⟨S_, .f32⟩
  | .hbm, ⟨83, _⟩ => ⟨S1024, .f32⟩
  | .hbm, ⟨84, _⟩ => ⟨S1024x1, .f32⟩
  | .hbm, ⟨85, _⟩ => ⟨S1024x1, .f32⟩
  | .hbm, ⟨86, _⟩ => ⟨S_, .f32⟩
  | .hbm, ⟨87, _⟩ => ⟨S1024x1, .f32⟩
  | .hbm, ⟨88, _⟩ => ⟨S1024x1, .f32⟩
  | .hbm, ⟨89, _⟩ => ⟨S1024x64, .f32⟩
  | .hbm, ⟨90, _⟩ => ⟨S1024x64, .f32⟩
  | .hbm, ⟨91, _⟩ => ⟨S1024x1, .f32⟩
  | .hbm, ⟨92, _⟩ => ⟨S1024, .f32⟩
  | .hbm, ⟨93, _⟩ => ⟨S_, .f32⟩
  | .hbm, ⟨94, _⟩ => ⟨S1024, .f32⟩
  | .hbm, ⟨95, _⟩ => ⟨S1024, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_values : Ref sig .tc := ⟨.hbm, 44, rfl⟩
abbrev main_indices : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_13 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== Select.lean ====
abbrev S1024x64 : Shape := ⟨2, ![1024, 64]⟩
abbrev S100000x64 : Shape := ⟨2, ![100000, 64]⟩
abbrev S2048x64 : Shape := ⟨2, ![2048, 64]⟩
abbrev S1024x8 : Shape := ⟨2, ![1024, 8]⟩
abbrev S1024x640 : Shape := ⟨2, ![1024, 640]⟩
abbrev S1024 : Shape := ⟨1, ![1024]⟩
abbrev S1024x1 : Shape := ⟨2, ![1024, 1]⟩
abbrev S1024x2048 : Shape := ⟨2, ![1024, 2048]⟩
abbrev S1024x128 : Shape := ⟨2, ![1024, 128]⟩

abbrev nBuf : Space → Nat
  | .hbm => 4
  | .vmem => 7
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S2048x64, .f32⟩
  | .hbm, ⟨3, _⟩ => ⟨S1024x8, .i32⟩
  | .local _ .vmem, ⟨0, _⟩ => ⟨S1024x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S1024x8, .i32⟩
  | .local _ .vmem, ⟨5, _⟩ => ⟨S1024x640, .f32⟩
  | .local _ .vmem, ⟨6, _⟩ => ⟨S1024x640, .i32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c48_i32_4 : BitVec 32 := 48#32
  let v15 : BitVec 1 := Scalar.cmpi .eq arg0 c48_i32_4
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== SelectReferenceIdeal.lean ====
abbrev S1024x64 : Shape := ⟨2, ![1024, 64]⟩
abbrev S100000x64 : Shape := ⟨2, ![100000, 64]⟩
abbrev S_ : Shape := ⟨0, ![]⟩
abbrev S1024 : Shape := ⟨1, ![1024]⟩
abbrev S1024x1 : Shape := ⟨2, ![1024, 1]⟩
abbrev S64x100000 : Shape := ⟨2, ![64, 100000]⟩
abbrev S1024x100000 : Shape := ⟨2, ![1024, 100000]⟩
abbrev S1024x98304 : Shape := ⟨2, ![1024, 98304]⟩
abbrev S1024x352 : Shape := ⟨2, ![1024, 352]⟩
abbrev S1024x1696 : Shape := ⟨2, ![1024, 1696]⟩
abbrev S1024x100352 : Shape := ⟨2, ![1024, 100352]⟩
abbrev S1024x98x8x128 : Shape := ⟨4, ![1024, 98, 8, 128]⟩
abbrev S1024x98x128 : Shape := ⟨3, ![1024, 98, 128]⟩
abbrev S1024x12544 : Shape := ⟨2, ![1024, 12544]⟩
abbrev S1024x5 : Shape := ⟨2, ![1024, 5]⟩
abbrev S1024x3 : Shape := ⟨2, ![1024, 3]⟩
abbrev S1024x8 : Shape := ⟨2, ![1024, 8]⟩

abbrev nBuf : Space → Nat
  | .hbm => 28
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S1024x64, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x64, .f32⟩
  | .hbm, ⟨11, _⟩ => ⟨S1024x64, .f32⟩
  | .hbm, ⟨12, _⟩ => ⟨S64x100000, .f32⟩
  | .hbm, ⟨13, _⟩ => ⟨S1024x100000, .f32⟩
  | .hbm, ⟨14, _⟩ => ⟨S1024x98304, .f32⟩
  | .hbm, ⟨15, _⟩ => ⟨S_, .f32⟩
  | .hbm, ⟨16, _⟩ => ⟨S1024x352, .f32⟩
  | .hbm, ⟨17, _⟩ => ⟨S1024x1696, .f32⟩
  | .hbm, ⟨18, _⟩ => ⟨S1024x100352, .f32⟩
  | .hbm, ⟨19, _⟩ => ⟨S1024x98x8x128, .f32⟩
  | .hbm, ⟨20, _⟩ => ⟨S_, .f32⟩
  | .hbm, ⟨21, _⟩ => ⟨S1024x98x128, .f32⟩
  | .hbm, ⟨22, _⟩ => ⟨S1024x12544, .f32⟩
  | .hbm, ⟨23, _⟩ => ⟨S1024x5, .f32⟩
  | .hbm, ⟨24, _⟩ => ⟨S1024x5, .i32⟩
  | .hbm, ⟨25, _⟩ => ⟨S_, .i32⟩
  | .hbm, ⟨26, _⟩ => ⟨S1024x3, .i32⟩
  | .hbm, ⟨27, _⟩ => ⟨S1024x8, .i32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Words.lean ====
/-
  The pipeline's words in closed form. A tile's loop runs ten steps; before step `t` it carries five words (the count of
  fetches begun, of fetches awaited, of windows begun, of write-outs awaited, and the step). Each slot number is one of
  these words modulo two, and each window's place in the index list and in the result is computed from the step and
  the tile's coordinates. This file states every such offset, condition and check at the words the loop carries.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Words

open Cert.KernelIdeal Cert.KernelIdeal.Gen
open Idealize.ShloMosaic

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a
  match a with
  | 0 => rfl
  | 1 => rfl

/-- A statement about every tile, from its thirty-two instances. -/
theorem forall_coords {p : grid0.Coords → Prop} (h : ∀ (c : Fin 2) (s : Fin 16), p (coordsV c s)) (L : grid0.Coords) : p L :=
  coordsV_eta L ▸ h (L 0) (L 1)

/-- The tile's number, and its first window. -/
def wid (L : grid0.Coords) : ℕ := (L 1).val + 16 * (L 0).val

/-- Step `n` as a word. -/
abbrev W (n : ℕ) : BitVec 32 := BitVec.ofNat 32 n

/-- The five words carried before step `n`. -/
def words (n : ℕ) : BitVec 32 × BitVec 32 × BitVec 32 × BitVec 32 × BitVec 32 :=
  (W (min (n + 1) 10), W n, W n, W (n - 1), if n = 10 then 0#32 else W n)

abbrev T : Type := Fin k0_t1_loop.trips

theorem trips_eq : k0_t1_loop.trips = 10 := by decide
theorem T.lt (t : T) : t.val < 10 := lt_of_lt_of_eq t.isLt trips_eq

theorem words_trip (t : T) : words t.val = (W (min (t.val + 1) 10), W t.val, W t.val, W (t.val - 1), W t.val) := by
  unfold words; rw [if_neg (by have := t.lt; omega)]

theorem v4_eq (L : grid0.Coords) : Scalar.muli (Scalar.addi (Scalar.addi 0#32 (Scalar.muli (BitVec.ofNat 32 (L 1).val) 1#32)) (Scalar.muli (BitVec.ofNat 32 (L 0).val) 16#32)) 10#32
    = W (10 * wid L) := by
  refine forall_coords (p := fun L => Scalar.muli (Scalar.addi (Scalar.addi 0#32 (Scalar.muli (BitVec.ofNat 32 (L 1).val) 1#32)) (Scalar.muli (BitVec.ofNat 32 (L 0).val) 16#32)) 10#32
    = W (10 * wid L)) ?_ L
  decide +kernel

/-! ## Slots -/

theorem off1_eq : k0_off1 = ![0, 0, 0] := by decide +kernel
theorem off3_eq : k0_off3 = ![0] := by decide +kernel
theorem off4_eq : ∀ t : T, t.val < 9 → k0_off4 (W (min (t.val + 1) 10)) = ![(t.val + 1) % 2, 0, 0] := by decide +kernel
theorem off6_eq : ∀ t : T, t.val < 9 → k0_off6 (W (min (t.val + 1) 10)) = ![(t.val + 1) % 2] := by decide +kernel
theorem off7_eq : ∀ t : T, k0_off7 (W t.val) = ![t.val % 2, 0, 0] := by decide +kernel
theorem off9_eq : ∀ t : T, k0_off9 (W t.val) = ![t.val % 2] := by decide +kernel
theorem off10_eq : ∀ t : T, k0_off10 (W t.val) = ![t.val % 2, 0, 0] := by decide +kernel
theorem off11_eq : ∀ t : T, k0_off11 (W t.val) = ![t.val % 2, 0, 0] := by decide +kernel
theorem off12_eq : ∀ t : T, k0_off12 (W t.val) = ![t.val % 2, 0, 0] := by decide +kernel
theorem off14_eq : ∀ t : T, k0_off14 (W t.val) = ![t.val % 2] := by decide +kernel
theorem off17_eq : ∀ t : T, k0_off17 (W (t.val - 1)) = ![(t.val - 1) % 2] := by decide +kernel
theorem off20_eq : k0_off20 (W 9) = ![9 % 2] := by decide +kernel

/-! ## Windows -/

theorem off2_eq (L : grid0.Coords) : k0_off2 L = ![0, 128 * (10 * wid L)] := by
  refine forall_coords (p := fun L => k0_off2 L = ![0, 128 * (10 * wid L)]) ?_ L
  decide +kernel
theorem off5_eq (L : grid0.Coords) : ∀ t : T, t.val < 9 → k0_off5 L (W t.val) = ![0, 128 * (10 * wid L + (t.val + 1))] := by
  refine forall_coords (p := fun L => ∀ t : T, t.val < 9 → k0_off5 L (W t.val) = ![0, 128 * (10 * wid L + (t.val + 1))]) ?_ L
  decide +kernel
theorem off13_eq (L : grid0.Coords) : ∀ t : T, k0_off13 L (W t.val) = ![128 * (10 * wid L + t.val), 0] := by
  refine forall_coords (p := fun L => ∀ t : T, k0_off13 L (W t.val) = ![128 * (10 * wid L + t.val), 0]) ?_ L
  decide +kernel

/-! ## Conditions -/

theorem cond1_iff (L : grid0.Coords) : ∀ t : T, k0_cond1 L t (W t.val) = 1#1 ↔ t.val < 9 := by
  refine forall_coords (p := fun L => ∀ t : T, k0_cond1 L t (W t.val) = 1#1 ↔ t.val < 9) ?_ L
  decide +kernel
theorem cond2_eq (L : grid0.Coords) : ∀ t : T, k0_cond2 L t (W t.val) = 1#1 := by
  refine forall_coords (p := fun L => ∀ t : T, k0_cond2 L t (W t.val) = 1#1) ?_ L
  decide +kernel
theorem cond5_eq (L : grid0.Coords) : ∀ t : T, k0_cond5 L t (W t.val) = 1#1 := by
  refine forall_coords (p := fun L => ∀ t : T, k0_cond5 L t (W t.val) = 1#1) ?_ L
  decide +kernel
theorem cond7_iff (L : grid0.Coords) : ∀ t : T, k0_cond7 L t (W t.val) = 1#1 ↔ 1 ≤ t.val := by
  refine forall_coords (p := fun L => ∀ t : T, k0_cond7 L t (W t.val) = 1#1 ↔ 1 ≤ t.val) ?_ L
  decide +kernel

/-! ## Checks -/

theorem chk3_ok : ∀ t : T, k0_chk3 (W t.val) := by decide +kernel
theorem chk2_ok : ∀ t : T, k0_chk2 (W t.val) := by decide +kernel
theorem chk1_ok (L : grid0.Coords) : ∀ t : T, k0_chk1 L t (W (min (t.val + 1) 10)) (W t.val) (W t.val) (W (t.val - 1)) (W t.val) := by
  refine forall_coords (p := fun L => ∀ t : T, k0_chk1 L t (W (min (t.val + 1) 10)) (W t.val) (W t.val) (W (t.val - 1)) (W t.val)) ?_ L
  decide +kernel
theorem chk5_ok (L : grid0.Coords) : k0_chk5 L 0#32 := by
  refine forall_coords (p := fun L => k0_chk5 L 0#32) (fun c s => ?_) L
  have h : ∀ (c : Fin 2) (s : Fin 16), ∀ a, k0_off19 (coordsV c s) 0#32 a + S128x128.size a ≤ S40960x128.size a := by decide +kernel
  exact h c s
theorem chk4_ok : k0_chk4 (W 9) := by decide +kernel

end Cert.Proof.Words

end
-- ==== Proof.Setup.lean ====
/-
  The SparseCore call's set-up: the program as the launch theorem sees it, the resource algebra, the buffers of the
  call (the table of row pairs, the index list, the gathered rows, the two double-buffered staging buffers of a tile),
  the slots and windows as element sets, and the value the call leaves: row `r` of the result is the row of the table
  named by entry `r` of the list.
-/
module

public import proofs.«01_k».proof.Proof.Words

@[expose] public section

noncomputable section

namespace Cert.Proof.Gather

open Cert.KernelIdeal Cert.KernelIdeal.Gen
open Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_v3
abbrev iLoc (d : Dev nD) : Loc nD τ sig := (SparseCore.T d).loc main_v7
abbrev oLoc (d : Dev nD) : Loc nD τ sig := (SparseCore.T d).loc main_v8

abbrev xV : Memref sig .scVector .hbm S50000x128 .f32 := Memref.whole main_v3_scv
abbrev iV : Memref sig .scVector .hbm S1x40960 .i32 := Memref.whole main_v7_scv
abbrev oV : Memref sig .scVector .hbm S40960x128 .f32 := Memref.whole main_v8_scv
abbrev lV : Memref sig .scVector .vmem S2x1x128 .i32 := Memref.whole cc0_scoped0
abbrev rV : Memref sig .scVector .vmem S2x128x128 .f32 := Memref.whole cc0_scoped2

abbrev cV (L : grid0.Coords) : Fin τ.nSC := (L 0).castLE hcore0
abbrev jV (L : grid0.Coords) : Fin τ.nSub := (L 1).castLE hsub0
/-- Tile `L`'s thread on device `d`. -/
abbrev thr (d : Dev nD) (L : grid0.Coords) : Thread nD τ := V d (cV L) (jV L)

abbrev lLoc (d : Dev nD) (L : grid0.Coords) : Loc nD τ sig := (thr d L).loc cc0_scoped0
abbrev rLoc (d : Dev nD) (L : grid0.Coords) : Loc nD τ sig := (thr d L).loc cc0_scoped2

/-! ## Slots and windows as the task addresses them, at any offsets -/

/-- A slot of the index staging buffer. -/
abbrev islot (o : Fin 3 → ℕ) (h : ∀ a, o a + S1x1x128.size a ≤ S2x1x128.size a) : Memref sig .scVector .vmem S1x128 .i32 :=
  ((lV).slice (Rect.unit (s := S2x1x128) o S1x1x128.size h) (fun _ => rfl)).squeeze S1x128 squeezes_S1x1x128_S1x128
/-- The slot as the list of a gather. -/
abbrev ilist (o : Fin 3 → ℕ) (h : ∀ a, o a + S1x1x128.size a ≤ S2x1x128.size a) : Memref sig .scVector .vmem S128 .i32 :=
  ((islot o h).slice (Rect.unit (s := S1x128) ![0, 0] S1x128.size inb_S1x128_S1x128_0_0) (fun _ => rfl)).squeeze S128 squeezes_S1x128_S128
/-- A slot of the row staging buffer. -/
abbrev rslot (o : Fin 3 → ℕ) (h : ∀ a, o a + S1x128x128.size a ≤ S2x128x128.size a) : Memref sig .scVector .vmem S128x128 .f32 :=
  ((rV).slice (Rect.unit (s := S2x128x128) o S1x128x128.size h) (fun _ => rfl)).squeeze S128x128 squeezes_S1x128x128_S128x128
/-- A window of the index list. -/
abbrev iwin (o : Fin 2 → ℕ) (h : ∀ a, o a + S1x128.size a ≤ S1x40960.size a) : Memref sig .scVector .hbm S1x128 .i32 :=
  (iV).slice (Rect.unit (s := S1x40960) o S1x128.size h) (fun _ => rfl)
/-- A window of the result. -/
abbrev owin (o : Fin 2 → ℕ) (h : ∀ a, o a + S128x128.size a ≤ S40960x128.size a) : Memref sig .scVector .hbm S128x128 .f32 :=
  (oV).slice (Rect.unit (s := S40960x128) o S128x128.size h) (fun _ => rfl)
/-- The whole table, as the gather addresses it. -/
abbrev xAll : Memref sig .scVector .hbm S50000x128 .f32 :=
  (xV).slice (Rect.unit (s := S50000x128) ![0, 0] S50000x128.size inb_S50000x128_S50000x128_0_0) (fun _ => rfl)
/-- A slot's semaphore. -/
abbrev slotSem (v : DmaSems sig S2) (o : Fin 1 → ℕ) (h : ∀ a, o a + S1.size a ≤ S2.size a) : DmaSem sig :=
  ((v.slice (Rect.unit (s := S2) o S1.size h)).squeeze S_ squeezes_S1_S_).sem

/-! ## As element sets -/

/-- Slot `n % 2` of a staging buffer. -/
def isl (n : ℕ) : Finset S2x1x128.Idx := Finset.univ.filter fun x => (x 0).val = n % 2
def rsl (n : ℕ) : Finset S2x128x128.Idx := Finset.univ.filter fun x => (x 0).val = n % 2
/-- Window `b` of the list and of the result. -/
def iwn (b : ℕ) : Finset S1x40960.Idx := Finset.univ.filter fun x => (x 1).val / 128 = b
def own' (b : ℕ) : Finset S40960x128.Idx := Finset.univ.filter fun x => (x 0).val / 128 = b
/-- A slot's semaphore. -/
def lsem (n : ℕ) : DmaSem sig := ⟨n % 2, by have := Nat.mod_lt n (show 0 < 2 by omega); show n % 2 < 5; omega⟩
def rsem (n : ℕ) : DmaSem sig := ⟨2 + n % 2, by have := Nat.mod_lt n (show 0 < 2 by omega); show 2 + n % 2 < 5; omega⟩

theorem set_islot (n : ℕ) (o : Fin 3 → ℕ) (h : ∀ a, o a + S1x1x128.size a ≤ S2x1x128.size a) (e : o = ![n % 2, 0, 0]) :
    (islot o h).view.set = isl n := by
  subst e
  refine (View.set_reshape _ _).trans ((View.set_slice_whole _ _).trans ?_)
  ext x
  refine Rect.mem_set_unit.trans ?_
  have h1 : (x 1).val < 1 := (x 1).isLt
  have h2 : (x 2).val < 128 := (x 2).isLt
  refine ⟨fun hx => Finset.mem_filter.2 ⟨Finset.mem_univ _, ?_⟩, fun hx => ?_⟩
  · have h0 := hx 0
    change n % 2 ≤ (x 0).val ∧ (x 0).val < n % 2 + 1 at h0
    omega
  · have h0 : (x 0).val = n % 2 := (Finset.mem_filter.1 hx).2
    intro a
    match a with
    | 0 => show n % 2 ≤ (x 0).val ∧ (x 0).val < n % 2 + 1; omega
    | 1 => show 0 ≤ (x 1).val ∧ (x 1).val < 0 + 1; omega
    | 2 => show 0 ≤ (x 2).val ∧ (x 2).val < 0 + 128; omega

theorem set_ilist (n : ℕ) (o : Fin 3 → ℕ) (h : ∀ a, o a + S1x1x128.size a ≤ S2x1x128.size a) (e : o = ![n % 2, 0, 0]) :
    (ilist o h).view.set = isl n := by
  refine (View.set_reshape _ _).trans (.trans ?_ (set_islot n o h e))
  show ((islot o h).view.slice (Rect.unit (s := S1x128) ![0, 0] S1x128.size inb_S1x128_S1x128_0_0)).set = _
  rw [View.set_slice]
  have hu : (Rect.unit (s := S1x128) ![0, 0] S1x128.size inb_S1x128_S1x128_0_0).set = Finset.univ := by
    ext x
    refine Rect.mem_set_unit.trans ⟨fun _ => Finset.mem_univ _, fun _ a => ?_⟩
    match a with
    | 0 => exact ⟨Nat.zero_le _, by show (x 0).val < 0 + 1; have h1 : (x 0).val < 1 := (x 0).isLt; omega⟩
    | 1 => exact ⟨Nat.zero_le _, by show (x 1).val < 0 + 128; have h1 : (x 1).val < 128 := (x 1).isLt; omega⟩
  rw [hu, View.set]

theorem set_rslot (n : ℕ) (o : Fin 3 → ℕ) (h : ∀ a, o a + S1x128x128.size a ≤ S2x128x128.size a) (e : o = ![n % 2, 0, 0]) :
    (rslot o h).view.set = rsl n := by
  subst e
  refine (View.set_reshape _ _).trans ((View.set_slice_whole _ _).trans ?_)
  ext x
  refine Rect.mem_set_unit.trans ?_
  have h1 : (x 1).val < 128 := (x 1).isLt
  have h2 : (x 2).val < 128 := (x 2).isLt
  refine ⟨fun hx => Finset.mem_filter.2 ⟨Finset.mem_univ _, ?_⟩, fun hx => ?_⟩
  · have h0 := hx 0
    change n % 2 ≤ (x 0).val ∧ (x 0).val < n % 2 + 1 at h0
    omega
  · have h0 : (x 0).val = n % 2 := (Finset.mem_filter.1 hx).2
    intro a
    match a with
    | 0 => show n % 2 ≤ (x 0).val ∧ (x 0).val < n % 2 + 1; omega
    | 1 => show 0 ≤ (x 1).val ∧ (x 1).val < 0 + 128; omega
    | 2 => show 0 ≤ (x 2).val ∧ (x 2).val < 0 + 128; omega

theorem set_iwin (b : ℕ) (o : Fin 2 → ℕ) (h : ∀ a, o a + S1x128.size a ≤ S1x40960.size a) (e : o = ![0, 128 * b]) :
    (iwin o h).view.set = iwn b := by
  subst e
  refine (View.set_slice_whole _ _).trans ?_
  ext x
  refine Rect.mem_set_unit.trans ?_
  have h1 : (x 0).val < 1 := (x 0).isLt
  refine ⟨fun hx => Finset.mem_filter.2 ⟨Finset.mem_univ _, ?_⟩, fun hx => ?_⟩
  · have h0 := hx 1
    change 128 * b ≤ (x 1).val ∧ (x 1).val < 128 * b + 128 at h0
    omega
  · have h0 : (x 1).val / 128 = b := (Finset.mem_filter.1 hx).2
    intro a
    match a with
    | 0 => show 0 ≤ (x 0).val ∧ (x 0).val < 0 + 1; omega
    | 1 => show 128 * b ≤ (x 1).val ∧ (x 1).val < 128 * b + 128; omega

theorem set_owin (b : ℕ) (o : Fin 2 → ℕ) (h : ∀ a, o a + S128x128.size a ≤ S40960x128.size a) (e : o = ![128 * b, 0]) :
    (owin o h).view.set = own' b := by
  subst e
  refine (View.set_slice_whole _ _).trans ?_
  ext x
  refine Rect.mem_set_unit.trans ?_
  have h1 : (x 1).val < 128 := (x 1).isLt
  refine ⟨fun hx => Finset.mem_filter.2 ⟨Finset.mem_univ _, ?_⟩, fun hx => ?_⟩
  · have h0 := hx 0
    change 128 * b ≤ (x 0).val ∧ (x 0).val < 128 * b + 128 at h0
    omega
  · have h0 : (x 0).val / 128 = b := (Finset.mem_filter.1 hx).2
    intro a
    match a with
    | 0 => show 128 * b ≤ (x 0).val ∧ (x 0).val < 128 * b + 128; omega
    | 1 => show 0 ≤ (x 1).val ∧ (x 1).val < 0 + 128; omega

theorem set_xAll : (xAll).view.set = Finset.univ := by
  refine (View.set_slice_whole _ _).trans ?_
  ext x
  refine Rect.mem_set_unit.trans ⟨fun _ => Finset.mem_univ _, fun _ a => ?_⟩
  match a with
  | 0 => exact ⟨Nat.zero_le _, by show (x 0).val < 0 + 50000; have h1 : (x 0).val < 50000 := (x 0).isLt; omega⟩
  | 1 => exact ⟨Nat.zero_le _, by show (x 1).val < 0 + 128; have h1 : (x 1).val < 128 := (x 1).isLt; omega⟩

theorem sem_l (n : ℕ) (o : Fin 1 → ℕ) (h : ∀ a, o a + S1.size a ≤ S2.size a) (e : o = ![n % 2]) : slotSem cc0_scoped1 o h = lsem n := by
  rcases Nat.mod_two_eq_zero_or_one n with h0 | h0 <;> rw [h0] at e <;> subst e <;> unfold lsem <;> apply Fin.ext
  · show _ = n % 2; rw [h0]; exact (by decide +kernel : (slotSem cc0_scoped1 ![0] (by decide)).val = 0)
  · show _ = n % 2; rw [h0]; exact (by decide +kernel : (slotSem cc0_scoped1 ![1] (by decide)).val = 1)

theorem sem_r (n : ℕ) (o : Fin 1 → ℕ) (h : ∀ a, o a + S1.size a ≤ S2.size a) (e : o = ![n % 2]) : slotSem cc0_scoped3 o h = rsem n := by
  rcases Nat.mod_two_eq_zero_or_one n with h0 | h0 <;> rw [h0] at e <;> subst e <;> unfold rsem <;> apply Fin.ext
  · show _ = 2 + n % 2; rw [h0]; exact (by decide +kernel : (slotSem cc0_scoped3 ![0] (by decide)).val = 2 + 0)
  · show _ = 2 + n % 2; rw [h0]; exact (by decide +kernel : (slotSem cc0_scoped3 ![1] (by decide)).val = 2 + 1)

end Cert.Proof.Gather

end
-- ==== Proof.Vals.lean ====
/-
  What the buffers hold: the staged slice of the index list, the rows gathered for it, and the result; and that each of
  the task's transfers leaves exactly that.
-/
module

public import proofs.«01_k».proof.Proof.Setup
public import Idealize.ShloMosaic.Lib.ValueLayout

@[expose] public section

noncomputable section

namespace Cert.Proof.Gather

open Cert.KernelIdeal Cert.KernelIdeal.Gen
open Idealize.ShloMosaic
open Idealize.ShloMosaic.SparseCore (gatherPayload)

variable {F : FTy → Type}

/-- Position `r` of the index list (wrapped, so that it is a position for every number). -/
def ixI (r : ℕ) : S1x40960.Idx := ValueIdx.ix2 (0 : Fin 1) (⟨r % 40960, Nat.mod_lt _ (by decide)⟩ : Fin 40960)
/-- Element `(r, c)` of the table (wrapped likewise). -/
def ixX (r c : ℕ) : S50000x128.Idx := ValueIdx.ix2 (⟨r % 50000, Nat.mod_lt _ (by decide)⟩ : Fin 50000) (⟨c % 128, Nat.mod_lt _ (by decide)⟩ : Fin 128)

/-- Window `b` of the list, staged. -/
def ivals (idx : S1x40960.Idx → BitVec 32) (b : ℕ) : S2x1x128.Idx → BitVec 32 := fun x => idx (ixI (128 * b + (x 2).val))
/-- The table rows the window names, staged. -/
def rvals (tab : S50000x128.Idx → F .f32) (idx : S1x40960.Idx → BitVec 32) (b : ℕ) : S2x128x128.Idx → F .f32 :=
  fun x => tab (ixX (idx (ixI (128 * b + (x 1).val))).toNat (x 2).val)
/-- The result: row `r` is the table's row named by position `r` of the list. -/
def res (tab : S50000x128.Idx → F .f32) (idx : S1x40960.Idx → BitVec 32) : S40960x128.Idx → F .f32 :=
  fun x => tab (ixX (idx (ixI (x 0).val)).toNat (x 1).val)

theorem emb_islot (n : ℕ) (o : Fin 3 → ℕ) (h : ∀ a, o a + S1x1x128.size a ≤ S2x1x128.size a) (e : o = ![n % 2, 0, 0]) (k : Fin 128) :
    (islot o h).view.emb (ValueIdx.ix2 (0 : Fin 1) k) = ValueIdx.ix3 (⟨n % 2, Nat.mod_lt _ (by decide)⟩ : Fin 2) (0 : Fin 1) k := by
  subst e
  show (Rect.unit (s := S2x1x128) ![n % 2, 0, 0] S1x1x128.size h).emb (Shape.reshapeEquiv _ (ValueIdx.ix2 (0 : Fin 1) k)) = _
  rw [ValueIdx.reshapeEquiv_ix2_1ab]
  funext a
  apply Fin.ext
  rw [Rect.emb_apply]
  match a with
  | 0 => show n % 2 + 1 * 0 = n % 2; omega
  | 1 => show 0 + 1 * 0 = 0; omega
  | 2 => show 0 + 1 * k.val = k.val; omega

theorem emb_rslot (n : ℕ) (o : Fin 3 → ℕ) (h : ∀ a, o a + S1x128x128.size a ≤ S2x128x128.size a) (e : o = ![n % 2, 0, 0]) (k c : Fin 128) :
    (rslot o h).view.emb (ValueIdx.ix2 k c) = ValueIdx.ix3 (⟨n % 2, Nat.mod_lt _ (by decide)⟩ : Fin 2) k c := by
  subst e
  show (Rect.unit (s := S2x128x128) ![n % 2, 0, 0] S1x128x128.size h).emb (Shape.reshapeEquiv _ (ValueIdx.ix2 k c)) = _
  rw [ValueIdx.reshapeEquiv_ix2_1ab]
  funext a
  apply Fin.ext
  rw [Rect.emb_apply]
  match a with
  | 0 => show n % 2 + 1 * 0 = n % 2; omega
  | 1 => show 0 + 1 * k.val = k.val; omega
  | 2 => show 0 + 1 * c.val = c.val; omega

theorem emb_ilist (n : ℕ) (o : Fin 3 → ℕ) (h : ∀ a, o a + S1x1x128.size a ≤ S2x1x128.size a) (e : o = ![n % 2, 0, 0]) (k : Fin 128) :
    (ilist o h).view.emb (ValueIdx.ix1 k) = ValueIdx.ix3 (⟨n % 2, Nat.mod_lt _ (by decide)⟩ : Fin 2) (0 : Fin 1) k := by
  refine Eq.trans ?_ (emb_islot n o h e k)
  show (islot o h).view.emb ((Rect.unit (s := S1x128) ![0, 0] S1x128.size inb_S1x128_S1x128_0_0).emb (Shape.reshapeEquiv _ (ValueIdx.ix1 k))) = _
  congr 1
  rw [Shape.reshapeEquiv_cons_one]
  funext a
  apply Fin.ext
  rw [Rect.emb_apply]
  match a with
  | 0 => show 0 + 1 * 0 = 0; omega
  | 1 => show 0 + 1 * k.val = k.val; omega

theorem emb_iwin (b : ℕ) (hb : b < 320) (o : Fin 2 → ℕ) (h : ∀ a, o a + S1x128.size a ≤ S1x40960.size a) (e : o = ![0, 128 * b]) (k : Fin 128) :
    (iwin o h).view.emb (ValueIdx.ix2 (0 : Fin 1) k) = ixI (128 * b + k.val) := by
  subst e
  show (Rect.unit (s := S1x40960) ![0, 128 * b] S1x128.size h).emb (ValueIdx.ix2 (0 : Fin 1) k) = _
  funext a
  apply Fin.ext
  rw [Rect.emb_apply]
  match a with
  | 0 => show 0 + 1 * 0 = 0; omega
  | 1 => show 128 * b + 1 * k.val = (128 * b + k.val) % 40960; omega

theorem emb_owin (b : ℕ) (hb : b < 320) (o : Fin 2 → ℕ) (h : ∀ a, o a + S128x128.size a ≤ S40960x128.size a) (e : o = ![128 * b, 0]) (k c : Fin 128) :
    (owin o h).view.emb (ValueIdx.ix2 k c) = ValueIdx.ix2 (⟨128 * b + k.val, by omega⟩ : Fin 40960) c := by
  subst e
  show (Rect.unit (s := S40960x128) ![128 * b, 0] S128x128.size h).emb (ValueIdx.ix2 k c) = _
  funext a
  apply Fin.ext
  rw [Rect.emb_apply]
  match a with
  | 0 => show 128 * b + 1 * k.val = 128 * b + k.val; omega
  | 1 => show 0 + 1 * c.val = c.val; omega

theorem emb_xAll (x : S50000x128.Idx) : (xAll).view.emb x = x := by
  show (Rect.unit (s := S50000x128) ![0, 0] S50000x128.size inb_S50000x128_S50000x128_0_0).emb x = _
  funext a
  apply Fin.ext
  rw [Rect.emb_apply]
  match a with
  | 0 => show 0 + 1 * (x 0).val = (x 0).val; omega
  | 1 => show 0 + 1 * (x 1).val = (x 1).val; omega

/-- The copy-in leaves the window's words in the slot. -/
theorem copyIn_val (idx : S1x40960.Idx → BitVec 32) (fd : S2x1x128.Idx → BitVec 32) (n b : ℕ) (hb : b < 320)
    (o : Fin 3 → ℕ) (h : ∀ a, o a + S1x1x128.size a ≤ S2x1x128.size a) (e : o = ![n % 2, 0, 0])
    (p : Fin 2 → ℕ) (hp : ∀ a, p a + S1x128.size a ≤ S1x40960.size a) (ep : p = ![0, 128 * b]) :
    ∀ x ∈ isl n, (islot o h).view.write (Elt F) fd ((iwin p hp).view.read (Elt F) idx) Finset.univ x = ivals idx b x := by
  intro x hx
  have h0 : (x 0).val = n % 2 := (Finset.mem_filter.1 hx).2
  have h1 : (x 1).val < 1 := (x 1).isLt
  have hxe : (islot o h).view.emb (ValueIdx.ix2 (0 : Fin 1) (x 2)) = x := by
    refine (emb_islot n o h e (x 2)).trans (.trans ?_ (ValueIdx.eq_ix3 x).symm)
    have e0 : x 0 = (⟨n % 2, Nat.mod_lt _ (by decide)⟩ : Fin 2) := Fin.ext h0
    have e1 : x 1 = (0 : Fin 1) := Fin.ext (by show (x 1).val = 0; omega)
    rw [e0, e1]; rfl
  refine (congrArg _ hxe.symm).trans ((View.write_emb_of_mem _ _ (Finset.mem_univ _)).trans ?_)
  exact congrArg idx (emb_iwin b hb p hp ep (x 2))

/-- The slot read as a list holds the window's words. -/
theorem list_val (idx : S1x40960.Idx → BitVec 32) (n b : ℕ)
    (o : Fin 3 → ℕ) (h : ∀ a, o a + S1x1x128.size a ≤ S2x1x128.size a) (e : o = ![n % 2, 0, 0]) (k : S128.Idx) :
    (ilist o h).view.read (Elt F) (ivals idx b) k = idx (ixI (128 * b + (k 0).val)) := by
  rw [ValueIdx.eq_ix1 k]
  exact congrArg (ivals idx b) (emb_ilist n o h e (k 0))

/-- The gather leaves the rows the list names in the slot. -/
theorem gather_val (tab : S50000x128.Idx → F .f32) (idx : S1x40960.Idx → BitVec 32) (fd : S2x128x128.Idx → F .f32) (n b : ℕ)
    (o : Fin 3 → ℕ) (h : ∀ a, o a + S1x1x128.size a ≤ S2x1x128.size a) (e : o = ![n % 2, 0, 0])
    (o' : Fin 3 → ℕ) (h' : ∀ a, o' a + S1x128x128.size a ≤ S2x128x128.size a) (e' : o' = ![n % 2, 0, 0])
    (hn : S128.numel = S128x128.size (gathers_S50000x128_S128x128).axis')
    (hin : ∀ x, ((ilist o h).view.read (Elt F) (ivals idx b) x).toNat < S50000x128.size (gathers_S50000x128_S128x128).axis) :
    ∀ x ∈ rsl n, (rslot o' h').view.write (Elt F) fd
        (gatherPayload gathers_S50000x128_S128x128 ((xAll).view.read (Elt F) tab)
          (SparseCore.rows ((ilist o h).view.read (Elt F) (ivals idx b)) hn hin)) Finset.univ x
      = rvals tab idx b x := by
  intro x hx
  have h0 : (x 0).val = n % 2 := (Finset.mem_filter.1 hx).2
  have hxe : (rslot o' h').view.emb (ValueIdx.ix2 (x 1) (x 2)) = x := by
    refine (emb_rslot n o' h' e' (x 1) (x 2)).trans (.trans ?_ (ValueIdx.eq_ix3 x).symm)
    have e0 : x 0 = (⟨n % 2, Nat.mod_lt _ (by decide)⟩ : Fin 2) := Fin.ext h0
    rw [e0]; rfl
  refine (congrArg _ hxe.symm).trans ((View.write_emb_of_mem _ _ (Finset.mem_univ _)).trans ?_)
  refine congrArg tab ((emb_xAll _).trans ?_)
  funext a
  apply Fin.ext
  match a with
  | 0 =>
    refine (congrArg Fin.val (Shape.Gathers.idx_axis gathers_S50000x128_S128x128 _ _)).trans ?_
    have hy : ∀ y : S128.Idx, (y 0).val = (x 1).val →
        ((ilist o h).view.read (Elt F) (ivals idx b) y).toNat = (idx (ixI (128 * b + (x 1).val))).toNat % 50000 := by
      intro y ey
      have h1 := hin y
      rw [list_val (F := F) idx n b o h e y, ey] at h1
      rw [list_val (F := F) idx n b o h e y, ey]
      exact (Nat.mod_eq_of_lt h1).symm
    refine hy (S128.rowMajor.symm _) ?_
    rw [← Shape.rowMajor_val_one]
    exact congrArg Fin.val (Equiv.apply_symm_apply _ _)
  | 1 =>
    refine (Shape.Gathers.idx_of_ne gathers_S50000x128_S128x128 _ _ 1 (by decide)).trans ?_
    show (x 2).val = (x 2).val % 128
    have : (x 2).val < 128 := (x 2).isLt
    omega

/-- The copy-out leaves the slot's rows in the result's window. -/
theorem copyOut_val (tab : S50000x128.Idx → F .f32) (idx : S1x40960.Idx → BitVec 32) (fd : S40960x128.Idx → F .f32) (n b : ℕ) (hb : b < 320)
    (o : Fin 3 → ℕ) (h : ∀ a, o a + S1x128x128.size a ≤ S2x128x128.size a) (e : o = ![n % 2, 0, 0])
    (p : Fin 2 → ℕ) (hp : ∀ a, p a + S128x128.size a ≤ S40960x128.size a) (ep : p = ![128 * b, 0]) :
    ∀ x ∈ own' b, (owin p hp).view.write (Elt F) fd ((rslot o h).view.read (Elt F) (rvals tab idx b)) Finset.univ x = res tab idx x := by
  intro x hx
  have h0 : (x 0).val / 128 = b := (Finset.mem_filter.1 hx).2
  have hlt : (x 0).val - 128 * b < 128 := by omega
  have hxe : (owin p hp).view.emb (ValueIdx.ix2 (⟨(x 0).val - 128 * b, hlt⟩ : Fin 128) (x 1)) = x := by
    refine (emb_owin b hb p hp ep _ (x 1)).trans (.trans ?_ (ValueIdx.eq_ix2 x).symm)
    have e0 : (⟨128 * b + ((x 0).val - 128 * b), by omega⟩ : Fin 40960) = x 0 := Fin.ext (by
      show 128 * b + ((x 0).val - 128 * b) = (x 0).val
      omega)
    show ValueIdx.ix2 (⟨128 * b + ((x 0).val - 128 * b), _⟩ : Fin 40960) (x 1) = _
    rw [e0]; rfl
  refine (congrArg _ hxe.symm).trans ((View.write_emb_of_mem _ _ (Finset.mem_univ _)).trans ?_)
  refine (congrArg (rvals tab idx b) (emb_rslot n o h e _ (x 1))).trans ?_
  unfold rvals res
  show tab (ixX (idx (ixI (128 * b + ((x 0).val - 128 * b)))).toNat (x 1).val) = _
  rw [show 128 * b + ((x 0).val - 128 * b) = (x 0).val by omega]

end Cert.Proof.Gather

end
-- ==== Proof.Ops.lean ====
/-
  The task's memory operations, one rule each: a slice of the index list copied in and awaited, the gather of the rows
  it names and its wait, the rows copied out and awaited. Each rule speaks of slots and windows by their numbers, and
  holds of any spelling of their offsets.
-/
module

public import proofs.«01_k».proof.Proof.Vals

@[expose] public section

noncomputable section

namespace Cert.Proof.Gather

open Cert.KernelIdeal Cert.KernelIdeal.Gen
open Cert.Proof.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight MayWaits)

variable {F : FTy → Type} [FloatOps F]

local notation "𝕄" => MT nD τ sig (HIx 1) (Elt F) ℕ UU ℕ

variable (d : Dev nD) (L : grid0.Coords)

/-- Slot `n` of the index staging buffer holds `f`. -/
abbrev ISlot (n : ℕ) (f : S2x1x128.Idx → BitVec 32) : sProp 𝕄 := lLoc d L ↦[isl n]{fullShare} f
/-- Slot `n` of the row staging buffer holds `f`. -/
abbrev RSlot (n : ℕ) (f : S2x128x128.Idx → F .f32) : sProp 𝕄 := rLoc d L ↦[rsl n]{fullShare} f
/-- Window `b` of the index list, on a share. -/
abbrev IWin (q : PosShare TreeShare) (idx : S1x40960.Idx → BitVec 32) (b : ℕ) : sProp 𝕄 := iLoc d ↦[iwn b]{q} idx
/-- Window `b` of the result. -/
abbrev OWin (f : S40960x128.Idx → F .f32) (b : ℕ) : sProp 𝕄 := oLoc d ↦[own' b]{fullShare} f
abbrev ISem (n : ℕ) : sProp 𝕄 := semVal (thr d L, (SemLoc.dma (lsem n) : SemLoc sig)) 0
abbrev RSem (n : ℕ) : sProp 𝕄 := semVal (thr d L, (SemLoc.dma (rsem n) : SemLoc sig)) 0

/-- The credit of one staged slice, and of one staged block of rows. -/
def iN : ℕ := (islot ![0, 0, 0] (by decide)).view.dmaCredit
def rN : ℕ := (rslot ![0, 0, 0] (by decide)).view.dmaCredit
def oN : ℕ := (owin ![0, 0] (by decide)).view.dmaCredit

theorem islot_credit (o : Fin 3 → ℕ) (h : ∀ a, o a + S1x1x128.size a ≤ S2x1x128.size a) : (islot o h).view.dmaCredit = iN := rfl
theorem rslot_credit (o : Fin 3 → ℕ) (h : ∀ a, o a + S1x128x128.size a ≤ S2x128x128.size a) : (rslot o h).view.dmaCredit = rN := rfl
theorem owin_credit (p : Fin 2 → ℕ) (hp : ∀ a, p a + S128x128.size a ≤ S40960x128.size a) : (owin p hp).view.dmaCredit = oN := rfl
theorem iN_pos : 0 < iN := by decide
theorem oN_pos : 0 < oN := by decide
/-- The rows of a gathered block credit together what the block does. -/
theorem rows_credit (hg : S50000x128.Gathers 0 S128x128) (o : Fin 3 → ℕ) (h : ∀ a, o a + S1x128x128.size a ≤ S2x128x128.size a) :
    ∑ j, ((rslot o h).slice (S128x128.rowRect hg.axis' j) (S128x128.stride_rowRect hg.axis' j)).view.dmaCredit = rN :=
  (by decide +kernel : ∀ hg : S50000x128.Gathers 0 S128x128,
    ∑ j, ((rslot ![0, 0, 0] (by decide)).slice (S128x128.rowRect hg.axis' j) (S128x128.stride_rowRect hg.axis' j)).view.dmaCredit = rN) hg

/-- Window `b` of the list is on its way into slot `n`. -/
abbrev IFly (q : PosShare TreeShare) (idx : S1x40960.Idx → BitVec 32) (n b : ℕ) : sProp 𝕄 :=
  Flight countersEmb (thr d L) (.dma (lsem n)) (default : HIx 1) iN iprop(ISlot (F := F) d L n (ivals idx b) ∗ IWin (F := F) d q idx b)
/-- The rows of window `b` are on their way out of slot `n`. -/
abbrev OFly (tab : S50000x128.Idx → F .f32) (idx : S1x40960.Idx → BitVec 32) (n b : ℕ) : sProp 𝕄 :=
  Flight countersEmb (thr d L) (.dma (rsem n)) (default : HIx 1) oN iprop(OWin (F := F) d (res tab idx) b ∗ RSlot (F := F) d L n (rvals tab idx b))

/-- A program of tile `L`. -/
abbrev TileProg (L : grid0.Coords) (α : Type) : Type 1 := Prog (TpuEff nD τ sig (Elt F) Λ₀ (.scVector (cV L) (jV L))) α

theorem start_in (q : PosShare TreeShare) (idx : S1x40960.Idx → BitVec 32) (f : S2x1x128.Idx → BitVec 32) (n b : ℕ) (hb : b < 320)
    {p : Fin 2 → ℕ} {hp : ∀ a, p a + S1x128.size a ≤ S1x40960.size a} (ep : p = ![0, 128 * b])
    {o : Fin 3 → ℕ} {h : ∀ a, o a + S1x1x128.size a ≤ S2x1x128.size a} (e : o = ![n % 2, 0, 0])
    {sm : DmaSem sig} (es : sm = lsem n)
    {hsrc : (iwin p hp).view.WordExact} {hdst : (islot o h).view.WordExact}
    {hsem : DmaTarget.Typed (nD := nD) (p := Proc.scVector (cV L) (jV L)) .hbm (.dma sm) (.here (islot o h))} {Q : PUnit → sProp 𝕄} :
    iprop(ISlot (F := F) d L n f ∗ IWin (F := F) d q idx b ∗ ISem (F := F) d L n)
      ⊢ iprop((IFly (F := F) d L q idx n b -∗ Q ⟨⟩)
          -∗ wp frame (wpE (defs₀ (F := F)) 𝒱₀ (thr d L) none) Set.univ
              (Prog.lift (.enqueueDma (iwin p hp) (.here (islot o h)) (.dma sm) hsrc hdst hsem) : TileProg (F := F) L PUnit) Q) := by
  subst es
  have hset := set_islot n o h e
  have hwin := set_iwin b p hp ep
  iintro ⟨Hs, Hw, Hv⟩ Hk
  iapply (Transfers.wp_dmaLocal countersEmb 𝒱₀ (thr d L) none (default : HIx 1) iN (show (islot o h).view.amount (.dma (lsem n)) = iN from islot_credit o h) iN_pos (Finset.Subset.refl _)) $$ [Hs Hw Hv]
  · isplitl [Hw]
    · iapply (Entails.of_eq (show (IWin (F := F) d q idx b : sProp 𝕄) = ((iwin p hp).view.loc (thr d L) ↦[(iwin p hp).view.set]{q} idx) by rw [hwin])) $$ Hw
    isplitl [Hs]
    · iapply (Entails.of_eq (show (ISlot (F := F) d L n f : sProp 𝕄) = ((islot o h).view.loc (thr d L) ↦[(islot o h).view.set]{fullShare} f) by rw [hset])) $$ Hs
    iexact Hv
  iintro Hfl
  rw [wp_ret]; imodintro
  iapply Hk
  iapply (Transfers.Flight_mono countersEmb (thr d L) (sm := .dma (lsem n)) ?_) $$ Hfl
  iintro ⟨Hs, Hw⟩
  isplitl [Hs]
  · iapply (Entails.of_eq (show ((islot o h).view.loc (thr d L) ↦[(islot o h).view.set]{fullShare} _ : sProp 𝕄) = ISlot (F := F) d L n (ivals idx b) by
      rw [hset]; exact pointsTo_congr (copyIn_val (F := F) idx f n b hb o h e p hp ep))) $$ Hs
  · iapply (Entails.of_eq (show (IWin (F := F) d q idx b : sProp 𝕄) = ((iwin p hp).view.loc (thr d L) ↦[(iwin p hp).view.set]{q} idx) by rw [hwin]).symm) $$ Hw

theorem wait_in (q : PosShare TreeShare) (idx : S1x40960.Idx → BitVec 32) (n b : ℕ) (O : CellTallies nD τ sig (HIx 1)) (W : Waits sig (HIx 1))
    {p : Fin 2 → ℕ} {hp : ∀ a, p a + S1x128.size a ≤ S1x40960.size a}
    {o : Fin 3 → ℕ} {h : ∀ a, o a + S1x1x128.size a ≤ S2x1x128.size a}
    {sm : DmaSem sig} (es : sm = lsem n)
    {hsrc : (iwin p hp).view.WordExact} {hdst : (islot o h).view.WordExact} {Q : PUnit → sProp 𝕄} :
    iprop(IFly (F := F) d L q idx n b ∗ owes (thr d L) O W ∗ MayWaits (thr d L) (default : HIx 1) O)
      ⊢ iprop((iprop(ISlot (F := F) d L n (ivals idx b) ∗ IWin (F := F) d q idx b ∗ ISem (F := F) d L n
              ∗ owes (thr d L) O (insert (SemLoc.dma (lsem n), (default : HIx 1)) W)) -∗ Q ⟨⟩)
          -∗ wp frame (wpE (defs₀ (F := F)) 𝒱₀ (thr d L) none) Set.univ
              (Prog.lift (.waitDma2 sm (iwin p hp) (islot o h) hsrc hdst) : TileProg (F := F) L PUnit) Q) := by
  subst es
  iintro ⟨Hfl, HO, Hmw⟩ Hk
  iapply (Transfers.wp_waitLocalO countersEmb 𝒱₀ (thr d L) none (hsrc := hsrc) (hdst := hdst) (default : HIx 1) (islot_credit o h)) $$ [Hfl HO Hmw]
  · isplitl [Hfl]; · iexact Hfl
    isplitl [HO]; · iexact HO
    iapply (Transfers.MayWaits.elim (SemLoc.dma (lsem n))) $$ Hmw
  iintro ⟨⟨Hs, Hw⟩, Hv, HO⟩
  rw [wp_ret]; imodintro
  iapply Hk
  isplitl [Hs]; · iexact Hs
  isplitl [Hw]; · iexact Hw
  isplitl [Hv]; · iexact Hv
  iexact HO

/-- The gather of window `b`'s rows into slot `n` is under way. -/
abbrev GFly (q : PosShare TreeShare) (tab : S50000x128.Idx → F .f32) (idx : S1x40960.Idx → BitVec 32) (n m b : ℕ) : sProp 𝕄 :=
  Flight countersEmb (thr d L) (.dma cc0_scoped4.sem) (default : HIx 1) rN
    iprop(RSlot (F := F) d L n (rvals tab idx b) ∗ (xLoc d ↦{q} tab) ∗ ISlot (F := F) d L m (ivals idx b))

theorem start_gather (q : PosShare TreeShare) (tab : S50000x128.Idx → F .f32) (idx : S1x40960.Idx → BitVec 32)
    (hidx : ∀ r, (idx (ixI r)).toNat < 50000) (f : S2x128x128.Idx → F .f32) (n b : ℕ)
    {o : Fin 3 → ℕ} {h : ∀ a, o a + S1x1x128.size a ≤ S2x1x128.size a} (e : o = ![n % 2, 0, 0])
    {o' : Fin 3 → ℕ} {h' : ∀ a, o' a + S1x128x128.size a ≤ S2x128x128.size a} (e' : o' = ![n % 2, 0, 0])
    {hp : (thr d L).2.kind = .scVector} {hn : S128.numel = S128x128.size (gathers_S50000x128_S128x128).axis'}
    {hsrc : (xAll).view.WordExact} {he : EltTy.f32.bits = 32} {hsp : Space.hbm = .hbm ∨ Space.hbm = .shared} {hr : S50000x128.StreamRows 0}
    {Q : PUnit → sProp 𝕄} :
    iprop((xLoc d ↦{q} tab) ∗ RSlot (F := F) d L n f ∗ ISlot (F := F) d L n (ivals idx b) ∗ semVal (thr d L, (SemLoc.dma cc0_scoped4.sem : SemLoc sig)) 0)
      ⊢ iprop((GFly (F := F) d L q tab idx n n b -∗ Q ⟨⟩)
          -∗ wp frame (wpE (defs₀ (F := F)) 𝒱₀ (thr d L) none) Set.univ
              (SparseCore.enqueueIndirectGather hp xAll (rslot o' h') gathers_S50000x128_S128x128 (ilist o h) hn cc0_scoped4.sem hsrc he hsp hr
                : TileProg (F := F) L PUnit) Q) := by
  have hlist := set_ilist n o h e
  have hrow := set_rslot n o' h' e'
  have hin : ∀ x, ((ilist o h).view.read (Elt F) (ivals idx b) x).toNat < S50000x128.size (gathers_S50000x128_S128x128).axis := by
    intro x
    rw [list_val (F := F) idx n b o h e x]
    exact hidx _
  iintro ⟨Hx, Hr, Hl, Hv⟩ Hk
  rw [← bind_pure (SparseCore.enqueueIndirectGather hp xAll (rslot o' h') gathers_S50000x128_S128x128 (ilist o h) hn cc0_scoped4.sem hsrc he hsp hr)]
  iapply (SparseCore.wp_indirectGatherLocal countersEmb 𝒱₀ (thr d L) none (hg := gathers_S50000x128_S128x128) (default : HIx 1) rN (rows_credit _ o' h') (by decide) hin) $$ [Hx Hr Hl Hv]
  · isplitl [Hx]
    · iapply (Entails.of_eq (show ((xLoc d ↦{q} tab) : sProp 𝕄) = ((xAll).view.loc (thr d L) ↦[(xAll).view.set]{q} tab) by rw [set_xAll])) $$ Hx
    isplitl [Hr]
    · iapply (Entails.of_eq (show (RSlot (F := F) d L n f : sProp 𝕄) = ((rslot o' h').view.loc (thr d L) ↦[(rslot o' h').view.set]{fullShare} f) by rw [hrow])) $$ Hr
    isplitl [Hl]
    · iapply (Entails.of_eq (show (ISlot (F := F) d L n (ivals idx b) : sProp 𝕄) = ((ilist o h).view.loc (thr d L) ↦[(ilist o h).view.set]{fullShare} (ivals idx b)) by rw [hlist])) $$ Hl
    iexact Hv
  iintro Hfl
  rw [wp_pure]; imodintro
  iapply Hk
  iapply (Transfers.Flight_mono countersEmb (thr d L) (sm := .dma cc0_scoped4.sem) ?_) $$ Hfl
  iintro ⟨Hr, Hx, Hl⟩
  isplitl [Hr]
  · iapply (Entails.of_eq (show ((rslot o' h').view.loc (thr d L) ↦[(rslot o' h').view.set]{fullShare} _ : sProp 𝕄) = RSlot (F := F) d L n (rvals tab idx b) by
      rw [hrow]; exact pointsTo_congr (gather_val (F := F) tab idx f n b o h e o' h' e' hn hin))) $$ Hr
  isplitl [Hx]
  · iapply (Entails.of_eq (show ((xLoc d ↦{q} tab) : sProp 𝕄) = ((xAll).view.loc (thr d L) ↦[(xAll).view.set]{q} tab) by rw [set_xAll]).symm) $$ Hx
  · iapply (Entails.of_eq (show (ISlot (F := F) d L n (ivals idx b) : sProp 𝕄) = ((ilist o h).view.loc (thr d L) ↦[(ilist o h).view.set]{fullShare} (ivals idx b)) by rw [hlist]).symm) $$ Hl

theorem wait_gather (q : PosShare TreeShare) (tab : S50000x128.Idx → F .f32) (idx : S1x40960.Idx → BitVec 32) (n m b : ℕ)
    (O : CellTallies nD τ sig (HIx 1)) (W : Waits sig (HIx 1))
    {o' : Fin 3 → ℕ} {h' : ∀ a, o' a + S1x128x128.size a ≤ S2x128x128.size a}
    {hsrc : (xAll).view.WordExact} {hdst : (rslot o' h').view.WordExact} {Q : PUnit → sProp 𝕄} :
    iprop(GFly (F := F) d L q tab idx n m b ∗ owes (thr d L) O W ∗ MayWaits (thr d L) (default : HIx 1) O)
      ⊢ iprop((iprop(RSlot (F := F) d L n (rvals tab idx b) ∗ (xLoc d ↦{q} tab) ∗ ISlot (F := F) d L m (ivals idx b)
              ∗ semVal (thr d L, (SemLoc.dma cc0_scoped4.sem : SemLoc sig)) 0
              ∗ owes (thr d L) O (insert (SemLoc.dma cc0_scoped4.sem, (default : HIx 1)) W)) -∗ Q ⟨⟩)
          -∗ wp frame (wpE (defs₀ (F := F)) 𝒱₀ (thr d L) none) Set.univ
              (SparseCore.waitIndirectGather cc0_scoped4.sem xAll (rslot o' h') hsrc hdst : TileProg (F := F) L PUnit) Q) := by
  iintro ⟨Hfl, HO, Hmw⟩ Hk
  unfold SparseCore.waitIndirectGather
  iapply (Transfers.wp_waitLocalO countersEmb 𝒱₀ (thr d L) none (hsrc := hsrc) (hdst := hdst) (default : HIx 1) (rslot_credit o' h')) $$ [Hfl HO Hmw]
  · isplitl [Hfl]; · iexact Hfl
    isplitl [HO]; · iexact HO
    iapply (Transfers.MayWaits.elim (SemLoc.dma cc0_scoped4.sem)) $$ Hmw
  iintro ⟨⟨Hr, Hx, Hl⟩, Hv, HO⟩
  rw [wp_ret]; imodintro
  iapply Hk
  isplitl [Hr]; · iexact Hr
  isplitl [Hx]; · iexact Hx
  isplitl [Hl]; · iexact Hl
  isplitl [Hv]; · iexact Hv
  iexact HO

theorem start_out (tab : S50000x128.Idx → F .f32) (idx : S1x40960.Idx → BitVec 32) (f : S40960x128.Idx → F .f32) (n b : ℕ) (hb : b < 320)
    {p : Fin 2 → ℕ} {hp : ∀ a, p a + S128x128.size a ≤ S40960x128.size a} (ep : p = ![128 * b, 0])
    {o : Fin 3 → ℕ} {h : ∀ a, o a + S1x128x128.size a ≤ S2x128x128.size a} (e : o = ![n % 2, 0, 0])
    {sm : DmaSem sig} (es : sm = rsem n)
    {hsrc : (rslot o h).view.WordExact} {hdst : (owin p hp).view.WordExact}
    {hsem : DmaTarget.Typed (nD := nD) (p := Proc.scVector (cV L) (jV L)) .vmem (.dma sm) (.here (owin p hp))} {Q : PUnit → sProp 𝕄} :
    iprop(RSlot (F := F) d L n (rvals tab idx b) ∗ OWin (F := F) d f b ∗ RSem (F := F) d L n)
      ⊢ iprop((OFly (F := F) d L tab idx n b -∗ Q ⟨⟩)
          -∗ wp frame (wpE (defs₀ (F := F)) 𝒱₀ (thr d L) none) Set.univ
              (Prog.lift (.enqueueDma (rslot o h) (.here (owin p hp)) (.dma sm) hsrc hdst hsem) : TileProg (F := F) L PUnit) Q) := by
  subst es
  have hset := set_rslot n o h e
  have hwin := set_owin b p hp ep
  iintro ⟨Hs, Hw, Hv⟩ Hk
  iapply (Transfers.wp_dmaLocal countersEmb 𝒱₀ (thr d L) none (default : HIx 1) oN (show (owin p hp).view.amount (.dma (rsem n)) = oN from owin_credit p hp) oN_pos (Finset.Subset.refl _)) $$ [Hs Hw Hv]
  · isplitl [Hs]
    · iapply (Entails.of_eq (show (RSlot (F := F) d L n (rvals tab idx b) : sProp 𝕄) = ((rslot o h).view.loc (thr d L) ↦[(rslot o h).view.set]{fullShare} (rvals tab idx b)) by rw [hset])) $$ Hs
    isplitl [Hw]
    · iapply (Entails.of_eq (show (OWin (F := F) d f b : sProp 𝕄) = ((owin p hp).view.loc (thr d L) ↦[(owin p hp).view.set]{fullShare} f) by rw [hwin])) $$ Hw
    iexact Hv
  iintro Hfl
  rw [wp_ret]; imodintro
  iapply Hk
  iapply (Transfers.Flight_mono countersEmb (thr d L) (sm := .dma (rsem n)) ?_) $$ Hfl
  iintro ⟨Hw, Hs⟩
  isplitl [Hw]
  · iapply (Entails.of_eq (show ((owin p hp).view.loc (thr d L) ↦[(owin p hp).view.set]{fullShare} _ : sProp 𝕄) = OWin (F := F) d (res tab idx) b by
      rw [hwin]; exact pointsTo_congr (copyOut_val (F := F) tab idx f n b hb o h e p hp ep))) $$ Hw
  · iapply (Entails.of_eq (show (RSlot (F := F) d L n (rvals tab idx b) : sProp 𝕄) = ((rslot o h).view.loc (thr d L) ↦[(rslot o h).view.set]{fullShare} (rvals tab idx b)) by rw [hset]).symm) $$ Hs

theorem wait_out (tab : S50000x128.Idx → F .f32) (idx : S1x40960.Idx → BitVec 32) (n b : ℕ) (O : CellTallies nD τ sig (HIx 1)) (W : Waits sig (HIx 1))
    {p : Fin 2 → ℕ} {hp : ∀ a, p a + S128x128.size a ≤ S40960x128.size a}
    {o : Fin 3 → ℕ} {h : ∀ a, o a + S1x128x128.size a ≤ S2x128x128.size a}
    {sm : DmaSem sig} (es : sm = rsem n)
    {hsrc : (rslot o h).view.WordExact} {hdst : (owin p hp).view.WordExact} {Q : PUnit → sProp 𝕄} :
    iprop(OFly (F := F) d L tab idx n b ∗ owes (thr d L) O W ∗ MayWaits (thr d L) (default : HIx 1) O)
      ⊢ iprop((iprop(OWin (F := F) d (res tab idx) b ∗ RSlot (F := F) d L n (rvals tab idx b) ∗ RSem (F := F) d L n
              ∗ owes (thr d L) O (insert (SemLoc.dma (rsem n), (default : HIx 1)) W)) -∗ Q ⟨⟩)
          -∗ wp frame (wpE (defs₀ (F := F)) 𝒱₀ (thr d L) none) Set.univ
              (Prog.lift (.waitDma2 sm (rslot o h) (owin p hp) hsrc hdst) : TileProg (F := F) L PUnit) Q) := by
  subst es
  iintro ⟨Hfl, HO, Hmw⟩ Hk
  iapply (Transfers.wp_waitLocalO countersEmb 𝒱₀ (thr d L) none (hsrc := hsrc) (hdst := hdst) (default : HIx 1) (owin_credit p hp)) $$ [Hfl HO Hmw]
  · isplitl [Hfl]; · iexact Hfl
    isplitl [HO]; · iexact HO
    iapply (Transfers.MayWaits.elim (SemLoc.dma (rsem n))) $$ Hmw
  iintro ⟨⟨Hw, Hs⟩, Hv, HO⟩
  rw [wp_ret]; imodintro
  iapply Hk
  isplitl [Hw]; · iexact Hw
  isplitl [Hs]; · iexact Hs
  isplitl [Hv]; · iexact Hv
  iexact HO

end Cert.Proof.Gather

end
-- ==== Proof.Tile.lean ====
/-
  One tile's task. Tile `w` runs over its ten windows, the copies of one window under way while the next is worked on:
  the loop's invariant before trip `n` says what is in flight and in which slot, that the windows before `n - 1` of the
  result are written, that window `n - 1` is on its way out, and that the windows from `n` on are as they were.
-/
module

public import proofs.«01_k».proof.Proof.Ops

@[expose] public section

noncomputable section

namespace Cert.Proof.Gather

open Cert.KernelIdeal Cert.KernelIdeal.Gen
open Cert.Proof.Words

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

variable (d : Dev nD) (L : grid0.Coords)

/-! ## What a trip finds -/

/-- The tile's two shares of the index list, one for each slot. -/
def slotShare (q0 q1 : PosShare TreeShare) (n : ℕ) : PosShare TreeShare := if n % 2 = 0 then q0 else q1

section
variable (q0 q1 : PosShare TreeShare) (tab : S50000x128.Idx → F .f32) (idx : S1x40960.Idx → BitVec 32) (f0 : S40960x128.Idx → F .f32)

/-- Slot `n` of the index staging is free. -/
def IFree (n : ℕ) : sProp 𝕄 :=
  iprop((∃ f, ISlot (F := F) d L n f) ∗ ISem (F := F) d L n ∗ (iLoc d ↦{slotShare q0 q1 n} idx))
/-- Window `b` is on its way into slot `n`. -/
def IBusy (n b : ℕ) : sProp 𝕄 :=
  iprop(IFly (F := F) d L (slotShare q0 q1 n) idx n b ∗ (iLoc d ↦[Finset.univ \ iwn b]{slotShare q0 q1 n} idx))
/-- Slot `n` of the row staging is free. -/
def RFree (n : ℕ) : sProp 𝕄 := iprop((∃ f, RSlot (F := F) d L n f) ∗ RSem (F := F) d L n)

/-- Before trip `n`: the window of the trip is on its way in, or the trips are over. -/
def InNext (n : ℕ) : sProp 𝕄 := if n < 10 then IBusy (F := F) d L q0 q1 idx n (10 * wid L + n) else IFree (F := F) d L q0 q1 idx n
/-- Before trip `n`: the rows of the previous trip are on their way out, if there was one. -/
def OutPrev (n : ℕ) : sProp 𝕄 := if n = 0 then RFree (F := F) d L 1 else OFly (F := F) d L tab idx (n - 1) (10 * wid L + (n - 1))

def Inv (qx : PosShare TreeShare) (O : CellTallies nD τ sig (HIx 1)) (W : Waits sig (HIx 1)) (n : ℕ)
    (acc : BitVec 32 × BitVec 32 × BitVec 32 × BitVec 32 × BitVec 32) : sProp 𝕄 :=
  iprop(⌜acc = words n⌝ ∗ (xLoc d ↦{qx} tab) ∗ semVal (thr d L, (SemLoc.dma cc0_scoped4.sem : SemLoc sig)) 0
    ∗ (∃ W', ⌜∀ p ∈ W', p ∈ W ∨ p.2 = none⌝ ∗ owes (thr d L) O W')
    ∗ MayWaits (thr d L) (default : HIx 1) O
    ∗ InNext (F := F) d L q0 q1 idx n ∗ IFree (F := F) d L q0 q1 idx (n + 1) ∗ OutPrev (F := F) d L tab idx n ∗ RFree (F := F) d L n
    ∗ (bigSep (Finset.range (n - 1)) fun j => OWin (F := F) d (res tab idx) (10 * wid L + j))
    ∗ (bigSep (Finset.Ico n 10) fun j => OWin (F := F) d f0 (10 * wid L + j)))
end

theorem isl_add_two (n : ℕ) : isl (n + 2) = isl n := by unfold isl; rw [Nat.add_mod_right]
theorem rsl_add_two (n : ℕ) : rsl (n + 2) = rsl n := by unfold rsl; rw [Nat.add_mod_right]
theorem lsem_add_two (n : ℕ) : lsem (n + 2) = lsem n := Fin.ext (Nat.add_mod_right n 2)
theorem rsem_add_two (n : ℕ) : rsem (n + 2) = rsem n := Fin.ext (congrArg (2 + ·) (Nat.add_mod_right n 2))
theorem slotShare_add_two (q0 q1 : PosShare TreeShare) (n : ℕ) : slotShare q0 q1 (n + 2) = slotShare q0 q1 n := by
  unfold slotShare; rw [Nat.add_mod_right]
theorem IFree_add_two (q0 q1 : PosShare TreeShare) (idx : S1x40960.Idx → BitVec 32) (n : ℕ) :
    IFree (F := F) d L q0 q1 idx (n + 2) = IFree d L q0 q1 idx n := by
  unfold IFree ISlot ISem; rw [isl_add_two, lsem_add_two, slotShare_add_two]
theorem RFree_add_two (n : ℕ) : RFree (F := F) d L (n + 2) = RFree d L n := by
  unfold RFree RSlot RSem; rw [rsl_add_two, rsem_add_two]

theorem wid_lt : wid L < 32 := by
  have h0 : (L 0).val < 2 := (L 0).isLt
  have h1 : (L 1).val < 16 := (L 1).isLt
  unfold wid; omega

/-- A check that holds is passed. -/
theorem pass {P : Prop} {dec : Decidable P} (h : P) {Q : PLift P → sProp 𝕄} :
    Q ⟨h⟩ ⊢ wp frame (wpE (defs₀ (F := F)) 𝒱₀ (thr d L) none) Set.univ
      (Prog.lift (TpuEff.assume P dec) : Prog (TpuEff nD τ sig (Elt F) Λ₀ (.scVector (cV L) (jV L))) (PLift P)) Q := by
  iintro H
  iapply (wp_assume 𝒱₀ (thr d L) none Set.univ h)
  rw [wp_ret]
  imodintro; iexact H

/-- The words the first part of trip `t` hands on. -/
def part1Val (t : Words.T) : Σ' (_ : k0_chk3 (Words.W t.val)) (_ : k0_chk2 (Words.W t.val))
    (_ : k0_chk1 L t (Words.W (min (t.val + 1) 10)) (Words.W t.val) (Words.W t.val) (Words.W (t.val - 1)) (Words.W t.val))
    (_ : BitVec 32) (_ : BitVec 1) (_ : BitVec 1) (_ : BitVec 32) (_ : BitVec 32) (_ : BitVec 32) (_ : BitVec 32), BitVec 1 :=
  let v4 := Words.W (10 * wid L)
  let arg10 := Words.W t.val
  let arg6 := Words.W (min (t.val + 1) 10)
  let arg5 : BitVec 32 := Scf.iv 0#32 1#32 t
  let v64 : BitVec 1 := Scalar.cmpi .eq arg5 0#32
  let v65 : BitVec 1 := Scalar.cmpi .eq arg5 9#32
  let v66 : BitVec 32 := Scalar.addi arg10 v4
  let v67 : BitVec 32 := Scalar.subi arg10 1#32
  let v68 : BitVec 32 := Scalar.select 1#1 v67 arg10
  let v69 : BitVec 1 := Scalar.cmpi .eq v68 4294967295#32
  let v70 : BitVec 32 := Scalar.select v69 9#32 v68
  let v71 : BitVec 32 := Scalar.addi v70 v4
  let v72 : BitVec 32 := Scalar.addi arg10 1#32
  let v73 : BitVec 32 := Scalar.select 1#1 v72 arg10
  let v74 : BitVec 1 := Scalar.cmpi .eq v73 10#32
  let v75 : BitVec 32 := Scalar.select v74 0#32 v73
  let v76 : BitVec 32 := Scalar.addi v75 v4
  let v82 : BitVec 1 := Scalar.cmpi .ne v66 v76
  let v83 : BitVec 1 := Scalar.cmpi .sge arg5 9#32
  let v84 : BitVec 1 := Scalar.xori v83 1#1
  let v85 : BitVec 1 := Scalar.andi v82 v84
  let v89 : BitVec 1 := Scalar.andi v85 1#1
  let v90 : BitVec 32 := Scalar.addi arg6 1#32
  let v91 : BitVec 32 := Scalar.select v89 v90 arg6
  let v96 : BitVec 1 := Scalar.cmpi .ne v66 v71
  ⟨chk3_ok t, chk2_ok t, chk1_ok L t, arg5, v64, v65, v66, v71, v76, v91, v96⟩

variable (q0 q1 qx : PosShare TreeShare) (tab : S50000x128.Idx → F .f32) (idx : S1x40960.Idx → BitVec 32) (f0 : S40960x128.Idx → F .f32)
  (O : CellTallies nD τ sig (HIx 1)) (W : Waits sig (HIx 1))

/-- The first part of a trip: the next window's copy-in is started, if there is a next window. -/
theorem part1 (t : Words.T) {Q : (Σ' (_ : k0_chk3 (Words.W t.val)) (_ : k0_chk2 (Words.W t.val))
    (_ : k0_chk1 L t (Words.W (min (t.val + 1) 10)) (Words.W t.val) (Words.W t.val) (Words.W (t.val - 1)) (Words.W t.val))
    (_ : BitVec 32) (_ : BitVec 1) (_ : BitVec 1) (_ : BitVec 32) (_ : BitVec 32) (_ : BitVec 32) (_ : BitVec 32), BitVec 1) → sProp 𝕄} :
    IFree (F := F) d L q0 q1 idx (t.val + 1)
      ⊢ iprop((InNext (F := F) d L q0 q1 idx (t.val + 1) -∗ Q (part1Val L t))
          -∗ wp frame (wpE (defs₀ (F := F)) 𝒱₀ (thr d L) none) Set.univ
            (k0_part1 L xV (Memref.isWhole_whole _) iV (Memref.isWhole_whole _) oV (Memref.isWhole_whole _)
              lV (Memref.isWhole_whole _) cc0_scoped1 rV (Memref.isWhole_whole _) cc0_scoped3 cc0_scoped4 (Words.W (10 * wid L)) 0#32 1#32 t
              (Words.W (min (t.val + 1) 10)) (Words.W t.val) (Words.W t.val) (Words.W (t.val - 1)) (Words.W t.val)) Q) := by
  have ht := t.lt
  have hw := wid_lt L
  unfold part1Val
  dsimp only
  iintro Hif Hk
  rw [k0_part1_eq_skeleton]
  unfold k0_part1_skel
  rw [wp_bind]
  iapply (pass (F := F) d L (chk3_ok t))
  rw [wp_bind]
  iapply (pass (F := F) d L (chk2_ok t))
  rw [wp_bind]
  iapply (pass (F := F) d L (chk1_ok L t))
  dsimp only
  by_cases h9 : t.val < 9
  · rw [dif_pos ((cond1_iff L t).2 h9), wp_bind]
    unfold IFree
    icases Hif with ⟨⟨%f, Hs⟩, Hv, Hi⟩
    ihave Hi2 := (pointsTo_split_subset (q := slotShare q0 q1 (t.val + 1)) (f := idx) (S := Finset.univ) (Finset.subset_univ (iwn (10 * wid L + (t.val + 1))))).1 $$ Hi
    icases Hi2 with ⟨Hi, Hrest⟩
    iapply (start_in (F := F) d L (slotShare q0 q1 (t.val + 1)) idx f (t.val + 1) (10 * wid L + (t.val + 1)) (by omega)
      (off5_eq L t h9) (off4_eq t h9) (sem_l (t.val + 1) _ _ (off6_eq t h9))) $$ [Hs Hi Hv]
    · isplitl [Hs]; · iexact Hs
      isplitl [Hi]; · iexact Hi
      iexact Hv
    iintro Hfl
    rw [wp_pure]; imodintro
    iapply Hk
    unfold InNext
    rw [if_pos (by omega)]
    unfold IBusy
    isplitl [Hfl]; · iexact Hfl
    iexact Hrest
  · rw [dif_neg (fun h => h9 ((cond1_iff L t).1 h))]
    rw [wp_pure]; imodintro
    iapply Hk
    unfold InNext
    rw [if_neg (by omega)]
    iexact Hif

/-- The second part: the trip's window is awaited, and the rows it names are gathered. -/
theorem part2 (hidx : ∀ r, (idx (ixI r)).toNat < 50000) (t : Words.T)
    (h3 : k0_chk3 (Words.W t.val)) (h2 : k0_chk2 (Words.W t.val))
    (h1 : k0_chk1 L t (Words.W (min (t.val + 1) 10)) (Words.W t.val) (Words.W t.val) (Words.W (t.val - 1)) (Words.W t.val))
    (arg5 : BitVec 32) (v64 v65 : BitVec 1) (v66 v71 v76 : BitVec 32) (v96 : BitVec 1) {Q : PUnit → sProp 𝕄} :
    iprop(InNext (F := F) d L q0 q1 idx t.val ∗ RFree (F := F) d L t.val ∗ (xLoc d ↦{qx} tab)
        ∗ semVal (thr d L, (SemLoc.dma cc0_scoped4.sem : SemLoc sig)) 0 ∗ owes (thr d L) O W ∗ MayWaits (thr d L) (default : HIx 1) O)
      ⊢ iprop((iprop(IFree (F := F) d L q0 q1 idx t.val ∗ RSlot (F := F) d L t.val (rvals tab idx (10 * wid L + t.val)) ∗ RSem (F := F) d L t.val
              ∗ (xLoc d ↦{qx} tab) ∗ semVal (thr d L, (SemLoc.dma cc0_scoped4.sem : SemLoc sig)) 0
              ∗ owes (thr d L) O (insert (SemLoc.dma cc0_scoped4.sem, (default : HIx 1)) (insert (SemLoc.dma (lsem t.val), (default : HIx 1)) W))) -∗ Q ⟨⟩)
          -∗ wp frame (wpE (defs₀ (F := F)) 𝒱₀ (thr d L) none) Set.univ
            (k0_part2 L xV (Memref.isWhole_whole _) iV (Memref.isWhole_whole _) oV (Memref.isWhole_whole _)
              lV (Memref.isWhole_whole _) cc0_scoped1 rV (Memref.isWhole_whole _) cc0_scoped3 cc0_scoped4 t
              (Words.W (min (t.val + 1) 10)) (Words.W t.val) (Words.W t.val) (Words.W (t.val - 1)) (Words.W t.val) h3 h2 h1
              arg5 v64 v65 v66 v71 v76 v96) Q) := by
  have ht := t.lt
  have hw := wid_lt L
  rw [k0_part2_eq_skeleton]
  unfold k0_part2_skel
  simp only [ite_self]
  iintro ⟨Hin, Hrf, Hx, Hg, HO, #Hmw⟩ Hk
  rw [dif_pos (cond2_eq L t), wp_bind]
  unfold InNext
  ihave Hin := (Entails.of_eq (if_pos ht)) $$ Hin
  unfold IBusy
  icases Hin with ⟨Hfl, Hrest⟩
  iapply (wait_in (F := F) d L (slotShare q0 q1 t.val) idx t.val (10 * wid L + t.val) O W (sem_l t.val _ _ (off9_eq t))) $$ [Hfl HO]
  · isplitl [Hfl]; · iexact Hfl
    isplitl [HO]; · iexact HO
    iexact Hmw
  iintro ⟨Hs, Hi, Hv, HO⟩
  ihave Hi := (pointsTo_split_subset (ℓ := iLoc d) (q := slotShare q0 q1 t.val) (f := idx) (S := Finset.univ) (Finset.subset_univ (iwn (10 * wid L + t.val)))).2 $$ [Hi Hrest]
  · isplitl [Hi] <;> iassumption
  rw [wp_bind]
  unfold RFree
  icases Hrf with ⟨⟨%f, Hr⟩, Hrv⟩
  iapply (start_gather (F := F) d L qx tab idx hidx f t.val (10 * wid L + t.val) (off11_eq t) (off10_eq t)) $$ [Hx Hr Hs Hg]
  · isplitl [Hx]; · iexact Hx
    isplitl [Hr]; · iexact Hr
    isplitl [Hs]; · iexact Hs
    iexact Hg
  iintro Hfl
  rw [wp_bind]
  iapply (wait_gather (F := F) d L qx tab idx t.val t.val (10 * wid L + t.val) O _) $$ [Hfl HO]
  · isplitl [Hfl]; · iexact Hfl
    isplitl [HO]; · iexact HO
    iexact Hmw
  iintro ⟨Hr, Hx, Hs, Hg, HO⟩
  rw [wp_pure]; imodintro
  iapply Hk
  unfold IFree
  isplitl [Hs Hv Hi]
  · isplitl [Hs]; · iexists _; iexact Hs
    isplitl [Hv]; · iexact Hv
    iexact Hi
  isplitl [Hr]; · iexact Hr
  isplitl [Hrv]; · iexact Hrv
  isplitl [Hx]; · iexact Hx
  isplitl [Hg]; · iexact Hg
  iexact HO

/-- The words trip `t` hands on. -/
def nextVal (t : Words.T) : BitVec 32 × BitVec 32 × BitVec 32 × BitVec 32 × BitVec 32 :=
  let ⟨_, _, _, _, v64, v65, v66, v71, v76, v91, _⟩ := part1Val L t
  let arg8 := Words.W t.val
  let arg9 := Words.W (t.val - 1)
  let arg10 := Words.W t.val
  (v91, Scalar.select (Scalar.ori (Scalar.cmpi .ne v66 v76) v65) (Scalar.addi arg8 1#32) arg8,
    Scalar.select (Scalar.andi (Scalar.ori (Scalar.cmpi .ne v66 v76) v65) 1#1) (Scalar.addi arg8 1#32) arg8,
    Scalar.select (Scalar.andi (Scalar.andi (Scalar.cmpi .ne v66 v71) (Scalar.xori v64 1#1)) 1#1) (Scalar.addi arg9 1#32) arg9,
    Scalar.select (Scalar.cmpi .eq (Scalar.select 1#1 (Scalar.addi arg10 1#32) arg10) 10#32) 0#32 (Scalar.select 1#1 (Scalar.addi arg10 1#32) arg10))

theorem words_next : ∀ t : Words.T, nextVal L t = words (t.val + 1) := by
  refine forall_coords (p := fun L => ∀ t : Words.T, nextVal L t = words (t.val + 1)) ?_ L
  decide +kernel

theorem trip (hidx : ∀ r, (idx (ixI r)).toNat < 50000) (t : Words.T) (acc : BitVec 32 × BitVec 32 × BitVec 32 × BitVec 32 × BitVec 32) :
    Inv (F := F) d L q0 q1 tab idx f0 qx O W t.val acc
      ⊢ wp frame (wpE (defs₀ (F := F)) 𝒱₀ (thr d L) none) Set.univ
          (k0_t1_body L xV (Memref.isWhole_whole _) iV (Memref.isWhole_whole _) oV (Memref.isWhole_whole _)
            lV (Memref.isWhole_whole _) cc0_scoped1 rV (Memref.isWhole_whole _) cc0_scoped3 cc0_scoped4 (Words.W (10 * wid L)) t acc)
          (Inv (F := F) d L q0 q1 tab idx f0 qx O W (t.val + 1)) := by
  have ht := t.lt
  have hw := wid_lt L
  unfold Inv
  iintro ⟨%hacc, Hx, Hg, ⟨%W', %hW', HO⟩, #Hmw, Hin, Hif, Hout, Hrf, Hdone, Htodo⟩
  rw [words_trip t] at hacc
  subst hacc
  unfold k0_t1_body
  dsimp only
  rw [wp_bind]
  iapply (part1 (F := F) d L q0 q1 idx t) $$ Hif
  iintro Hnext
  unfold part1Val
  dsimp only
  rw [wp_bind]
  iapply (part2 (F := F) d L q0 q1 qx tab idx O W' hidx t) $$ [Hin Hrf Hx Hg HO]
  · isplitl [Hin]; · iexact Hin
    isplitl [Hrf]; · iexact Hrf
    isplitl [Hx]; · iexact Hx
    isplitl [Hg]; · iexact Hg
    isplitl [HO]; · iexact HO
    iexact Hmw
  iintro ⟨Hif, Hr, Hrv, Hx, Hg, HO⟩
  rw [dif_pos (cond5_eq L t), wp_bind]
  -- the window's rows are started out
  have htodo : (bigSep (Finset.Ico t.val 10) fun j => OWin (F := F) d f0 (10 * wid L + j) : sProp 𝕄)
      = iprop(OWin (F := F) d f0 (10 * wid L + t.val) ∗ bigSep (Finset.Ico (t.val + 1) 10) fun j => OWin (F := F) d f0 (10 * wid L + j)) := by
    have hr : Finset.Ico t.val 10 = insert t.val (Finset.Ico (t.val + 1) 10) := by
      ext a; simp only [Finset.mem_Ico, Finset.mem_insert]; omega
    rw [hr, SparseCore.bigSep_insert' (by simp)]
  ihave Htodo := (Entails.of_eq htodo) $$ Htodo
  icases Htodo with ⟨How, Htodo⟩
  iapply (start_out (F := F) d L tab idx f0 t.val (10 * wid L + t.val) (by omega) (off13_eq L t) (off12_eq t) (sem_r t.val _ _ (off14_eq t))) $$ [Hr How Hrv]
  · isplitl [Hr]; · iexact Hr
    isplitl [How]; · iexact How
    iexact Hrv
  iintro Hofl
  rw [ite_self]
  have hdone : 1 ≤ t.val → (iprop(OWin (F := F) d (res tab idx) (10 * wid L + (t.val - 1))
      ∗ (bigSep (Finset.range (t.val - 1)) fun j => OWin (F := F) d (res tab idx) (10 * wid L + j))) : sProp 𝕄)
      = bigSep (Finset.range (t.val + 1 - 1)) fun j => OWin (F := F) d (res tab idx) (10 * wid L + j) := by
    intro h1
    have hr : Finset.range (t.val + 1 - 1) = insert (t.val - 1) (Finset.range (t.val - 1)) := by
      rw [← Finset.range_add_one]; congr 1; omega
    rw [hr, SparseCore.bigSep_insert' Finset.notMem_range_self]
  by_cases h1 : 1 ≤ t.val
  · rw [dif_pos ((cond7_iff L t).2 h1), wp_bind]
    unfold OutPrev
    ihave Hout := (Entails.of_eq (if_neg (show ¬ t.val = 0 by omega))) $$ Hout
    iapply (wait_out (F := F) d L tab idx (t.val - 1) (10 * wid L + (t.val - 1)) O _ (sem_r (t.val - 1) _ _ (off17_eq t))) $$ [Hout HO]
    · isplitl [Hout]; · iexact Hout
      isplitl [HO]; · iexact HO
      iexact Hmw
    iintro ⟨How, Hr, Hrv, HO⟩
    rw [wp_pure]; imodintro
    isplitr; · ipureintro; exact words_next L t
    isplitl [Hx]; · iexact Hx
    isplitl [Hg]; · iexact Hg
    isplitl [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    isplitr; · iexact Hmw
    isplitl [Hnext]; · iexact Hnext
    isplitl [Hif]; · iapply (Entails.of_eq (IFree_add_two (F := F) d L q0 q1 idx t.val).symm) $$ Hif
    isplitl [Hofl]; · iapply (Entails.of_eq (if_neg (show ¬ t.val + 1 = 0 by omega)).symm); iexact Hofl
    isplitl [Hr Hrv]
    · iapply (Entails.of_eq (show (RFree (F := F) d L (t.val - 1) : sProp 𝕄) = RFree d L (t.val + 1) by
        rw [← RFree_add_two]; congr 1; omega))
      unfold RFree
      isplitl [Hr]; · iexists _; iexact Hr
      iexact Hrv
    isplitl [Hdone How]
    · iapply (Entails.of_eq (hdone h1))
      isplitl [How]; · iexact How
      iexact Hdone
    iexact Htodo
  · have h0 : t.val = 0 := by omega
    rw [dif_neg (fun h => h1 ((cond7_iff L t).1 h))]
    unfold OutPrev
    ihave Hout := (Entails.of_eq (if_pos h0)) $$ Hout
    rw [wp_pure]; imodintro
    isplitr; · ipureintro; exact words_next L t
    isplitl [Hx]; · iexact Hx
    isplitl [Hg]; · iexact Hg
    isplitl [HO]
    · iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW' p hp
    isplitr; · iexact Hmw
    isplitl [Hnext]; · iexact Hnext
    isplitl [Hif]; · iapply (Entails.of_eq (IFree_add_two (F := F) d L q0 q1 idx t.val).symm) $$ Hif
    isplitl [Hofl]; · iapply (Entails.of_eq (if_neg (show ¬ t.val + 1 = 0 by omega)).symm); iexact Hofl
    isplitl [Hout]
    · iapply (Entails.of_eq (show (RFree (F := F) d L 1 : sProp 𝕄) = RFree d L (t.val + 1) by rw [h0])) $$ Hout
    isplitl [Hdone]
    · iapply (Entails.of_eq (show (bigSep (Finset.range (t.val - 1)) (fun j => OWin (F := F) d (res tab idx) (10 * wid L + j)) : sProp 𝕄)
        = bigSep (Finset.range (t.val + 1 - 1)) (fun j => OWin (F := F) d (res tab idx) (10 * wid L + j)) by rw [h0])) $$ Hdone
    iexact Htodo

end Cert.Proof.Gather

end
-- ==== Proof.Task.lean ====
/-
  One tile's task from end to end: the first window's copy-in, the ten trips, and the wait for the last window's copy
  out. The tile takes a share of the table, two shares of the index list and its ten windows of the result, and gives
  them back with the gathered rows in the windows.
-/
module

public import proofs.«01_k».proof.Proof.Tile

@[expose] public section

noncomputable section

namespace Cert.Proof.Gather

open Cert.KernelIdeal Cert.KernelIdeal.Gen
open Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight MayWaits)

variable {F : FTy → Type} [FloatOps F]

local notation "𝕄" => MT nD τ sig (HIx 1) (Elt F) ℕ UU ℕ

variable (d : Dev nD) (L : grid0.Coords)

/-! ## The tile's own buffers and semaphores -/

abbrev gcell (s : DmaSem sig) : GSem nD τ sig := (thr d L, SemLoc.dma s)

theorem mem_own_gcell (s : DmaSem sig) (h : (SemLoc.dma s : SemLoc sig).isScoped .scVector = true) :
    gcell d L s ∈ ownCells (thr d L) := mem_ownCells.mpr ⟨rfl, h⟩

theorem gcell_ne {s s' : DmaSem sig} (h : s ≠ s') : gcell d L s ≠ gcell d L s' := fun e => by
  have := congrArg Prod.snd e
  exact h (SemLoc.dma.inj this)

/-- The five semaphores of the task are among the tile's own. -/
theorem ownSems0_V :
    (ownSems0 (thr d L) : sProp 𝕄)
      = iprop(semVal (gcell d L (lsem 0)) 0 ∗ semVal (gcell d L (lsem 1)) 0 ∗ semVal (gcell d L (rsem 0)) 0 ∗ semVal (gcell d L (rsem 1)) 0
          ∗ semVal (gcell d L cc0_scoped4.sem) 0
          ∗ bigSep ((((((ownCells (thr d L)).erase (gcell d L (lsem 0))).erase (gcell d L (lsem 1))).erase (gcell d L (rsem 0))).erase (gcell d L (rsem 1))).erase
              (gcell d L cc0_scoped4.sem)) fun g => semVal g 0) := by
  have h0 := mem_own_gcell d L (lsem 0) (by decide)
  have h1 := mem_own_gcell d L (lsem 1) (by decide)
  have h2 := mem_own_gcell d L (rsem 0) (by decide)
  have h3 := mem_own_gcell d L (rsem 1) (by decide)
  have h4 := mem_own_gcell d L cc0_scoped4.sem (by decide)
  unfold SparseCore.Cfg.ownSems0
  rw [SparseCore.bigSep_erase' h0,
    SparseCore.bigSep_erase' (Finset.mem_erase.mpr ⟨gcell_ne d L (by decide), h1⟩),
    SparseCore.bigSep_erase' (Finset.mem_erase.mpr ⟨gcell_ne d L (by decide), Finset.mem_erase.mpr ⟨gcell_ne d L (by decide), h2⟩⟩),
    SparseCore.bigSep_erase' (Finset.mem_erase.mpr ⟨gcell_ne d L (by decide), Finset.mem_erase.mpr ⟨gcell_ne d L (by decide),
      Finset.mem_erase.mpr ⟨gcell_ne d L (by decide), h3⟩⟩⟩),
    SparseCore.bigSep_erase' (Finset.mem_erase.mpr ⟨gcell_ne d L (by decide), Finset.mem_erase.mpr ⟨gcell_ne d L (by decide),
      Finset.mem_erase.mpr ⟨gcell_ne d L (by decide), Finset.mem_erase.mpr ⟨gcell_ne d L (by decide), h4⟩⟩⟩⟩)]

/-- The two staging buffers are among the tile's own. -/
theorem ownBufs_V :
    (ownBufs (thr d L) : sProp 𝕄)
      = iprop((∃ f, lLoc d L ↦{fullShare} f) ∗ (∃ f, rLoc d L ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## A staging buffer is its two slots -/

theorem isl_disjoint : Disjoint (isl 0) (isl 1) := by
  refine Finset.disjoint_left.2 fun x h0 h1 => ?_
  have e0 := (Finset.mem_filter.1 h0).2
  have e1 := (Finset.mem_filter.1 h1).2
  omega
theorem isl_union : isl 0 ∪ isl 1 = Finset.univ := by
  ext x
  have : (x 0).val < 2 := (x 0).isLt
  simp only [isl, Finset.mem_union, Finset.mem_filter, Finset.mem_univ, true_and, iff_true]
  omega
theorem rsl_disjoint : Disjoint (rsl 0) (rsl 1) := by
  refine Finset.disjoint_left.2 fun x h0 h1 => ?_
  have e0 := (Finset.mem_filter.1 h0).2
  have e1 := (Finset.mem_filter.1 h1).2
  omega
theorem rsl_union : rsl 0 ∪ rsl 1 = Finset.univ := by
  ext x
  have : (x 0).val < 2 := (x 0).isLt
  simp only [rsl, Finset.mem_union, Finset.mem_filter, Finset.mem_univ, true_and, iff_true]
  omega

theorem islots_split (f : S2x1x128.Idx → BitVec 32) :
    (lLoc d L ↦{fullShare} f : sProp 𝕄) ⊢ iprop(ISlot (F := F) d L 0 f ∗ ISlot (F := F) d L 1 f) := by
  have h := (pointsTo_union (Ix := HIx 1) (Val := Elt F) (Name := ℕ) (U := UU) (Lvl := ℕ) (ℓ := lLoc d L) (q := fullShare) (f := f) isl_disjoint).1
  rw [isl_union] at h
  exact h
theorem rslots_split (f : S2x128x128.Idx → F .f32) :
    (rLoc d L ↦{fullShare} f : sProp 𝕄) ⊢ iprop(RSlot (F := F) d L 0 f ∗ RSlot (F := F) d L 1 f) := by
  have h := (pointsTo_union (Ix := HIx 1) (Val := Elt F) (Name := ℕ) (U := UU) (Lvl := ℕ) (ℓ := rLoc d L) (q := fullShare) (f := f) rsl_disjoint).1
  rw [rsl_union] at h
  exact h
theorem islots_join (f g : S2x1x128.Idx → BitVec 32) :
    iprop(ISlot (F := F) d L 0 f ∗ ISlot (F := F) d L 1 g) ⊢ (iprop(∃ f, lLoc d L ↦{fullShare} f) : sProp 𝕄) := by
  have h := pointsTo_join (Ix := HIx 1) (Val := Elt F) (Name := ℕ) (U := UU) (Lvl := ℕ) (ℓ := lLoc d L) (q := fullShare) (f := f) (g := g) isl_disjoint
  rw [isl_union] at h
  refine h.trans ?_
  iintro H
  iexists _; iexact H
theorem rslots_join (f g : S2x128x128.Idx → F .f32) :
    iprop(RSlot (F := F) d L 0 f ∗ RSlot (F := F) d L 1 g) ⊢ (iprop(∃ f, rLoc d L ↦{fullShare} f) : sProp 𝕄) := by
  have h := pointsTo_join (Ix := HIx 1) (Val := Elt F) (Name := ℕ) (U := UU) (Lvl := ℕ) (ℓ := rLoc d L) (q := fullShare) (f := f) (g := g) rsl_disjoint
  rw [rsl_union] at h
  refine h.trans ?_
  iintro H
  iexists _; iexact H

/-! ## The task -/

variable (q0 q1 qx : PosShare TreeShare) (tab : S50000x128.Idx → F .f32) (idx : S1x40960.Idx → BitVec 32) (f0 : S40960x128.Idx → F .f32)
  (O : CellTallies nD τ sig (HIx 1)) (W : Waits sig (HIx 1))

/-- Before the loop: the tile's first window is started in. -/
theorem part3 {Q : BitVec 32 → sProp 𝕄} :
    IFree (F := F) d L q0 q1 idx 0
      ⊢ iprop((InNext (F := F) d L q0 q1 idx 0 -∗ Q (Words.W (10 * wid L)))
          -∗ wp frame (wpE (defs₀ (F := F)) 𝒱₀ (thr d L) none) Set.univ
            (k0_part3 L xV (Memref.isWhole_whole _) iV (Memref.isWhole_whole _) oV (Memref.isWhole_whole _)
              lV (Memref.isWhole_whole _) cc0_scoped1 rV (Memref.isWhole_whole _) cc0_scoped3 cc0_scoped4) Q) := by
  have hw := wid_lt L
  iintro Hif Hk
  rw [k0_part3_eq_skeleton]
  unfold k0_part3_skel
  dsimp only
  rw [wp_bind]
  unfold IFree
  icases Hif with ⟨⟨%f, Hs⟩, Hv, Hi⟩
  ihave Hi2 := (pointsTo_split_subset (q := slotShare q0 q1 0) (f := idx) (S := Finset.univ) (Finset.subset_univ (iwn (10 * wid L + 0)))).1 $$ Hi
  icases Hi2 with ⟨Hi, Hrest⟩
  iapply (start_in (F := F) d L (slotShare q0 q1 0) idx f 0 (10 * wid L + 0) (by omega)
    (off2_eq L) off1_eq (sem_l 0 _ _ off3_eq)) $$ [Hs Hi Hv]
  · isplitl [Hs]; · iexact Hs
    isplitl [Hi]; · iexact Hi
    iexact Hv
  iintro Hfl
  rw [wp_pure]; imodintro
  iapply (Entails.of_eq (congrArg Q (v4_eq L).symm))
  iapply Hk
  unfold InNext
  rw [if_pos (by omega)]
  unfold IBusy
  isplitl [Hfl]; · iexact Hfl
  iexact Hrest

theorem inv_words (n : ℕ) (acc : BitVec 32 × BitVec 32 × BitVec 32 × BitVec 32 × BitVec 32) :
    Inv (F := F) d L q0 q1 tab idx f0 qx O W n acc ⊢ iprop(⌜acc = words n⌝ ∗ Inv (F := F) d L q0 q1 tab idx f0 qx O W n (words n)) := by
  unfold Inv
  iintro ⟨%h, H⟩
  isplitr; · ipureintro; exact h
  isplitr; · ipureintro; rfl
  iexact H

/-- The loop and the two checks on the words it leaves. -/
theorem part4 (hidx : ∀ r, (idx (ixI r)).toNat < 50000)
    {Q : (Σ' (v33_3 : BitVec 32) (v33_4 : BitVec 32) (_ : k0_chk5 L v33_4), k0_chk4 v33_3) → sProp 𝕄} :
    Inv (F := F) d L q0 q1 tab idx f0 qx O W 0 (words 0)
      ⊢ iprop((Inv (F := F) d L q0 q1 tab idx f0 qx O W 10 (words 10) -∗ Q ⟨Words.W 9, 0#32, chk5_ok L, chk4_ok⟩)
          -∗ wp frame (wpE (defs₀ (F := F)) 𝒱₀ (thr d L) none) Set.univ
            (k0_part4 L xV (Memref.isWhole_whole _) iV (Memref.isWhole_whole _) oV (Memref.isWhole_whole _)
              lV (Memref.isWhole_whole _) cc0_scoped1 rV (Memref.isWhole_whole _) cc0_scoped3 cc0_scoped4 (Words.W (10 * wid L))) Q) := by
  iintro HI Hk
  rw [k0_part4_eq_skeleton]
  unfold k0_part4_skel
  dsimp only
  rw [wp_bind]
  iapply (Scf.wp_for frame (wpE (defs₀ (F := F)) 𝒱₀ (thr d L) none) Set.univ _ _ _ _ _ _ (Inv (F := F) d L q0 q1 tab idx f0 qx O W)
    (fun t acc => trip (F := F) d L q0 q1 qx tab idx f0 O W hidx t acc))
  isplitl [HI]; · iexact HI
  iintro %acc HI
  ihave HI := (inv_words (F := F) d L q0 q1 qx tab idx f0 O W _ acc) $$ HI
  icases HI with ⟨%hacc, HI⟩
  rw [show Scf.trips k0_t1_loop.lb k0_t1_loop.ub k0_t1_loop.st = 10 from trips_eq] at hacc
  subst hacc
  ihave HI := (Entails.of_eq (show (Inv (F := F) d L q0 q1 tab idx f0 qx O W k0_t1_loop.trips (words k0_t1_loop.trips) : sProp 𝕄)
    = Inv (F := F) d L q0 q1 tab idx f0 qx O W 10 (words 10) by rw [trips_eq])) $$ HI
  unfold words
  dsimp only
  rw [wp_bind]
  iapply (pass (F := F) d L (chk5_ok L))
  rw [wp_bind]
  iapply (pass (F := F) d L chk4_ok)
  rw [wp_pure]; imodintro
  have hq : ∀ a b h5 h4, a = Words.W 9 → b = 0#32 → (Q ⟨Words.W 9, 0#32, chk5_ok L, chk4_ok⟩ ⊢ Q ⟨a, b, h5, h4⟩) := by
    intro a b h5 h4 ha hb
    subst ha; subst hb
    exact Entails.of_eq rfl
  iapply (hq (Words.W (10 - 1)) (if 10 = 10 then 0#32 else Words.W 10) _ _ (by norm_num) (if_pos rfl))
  iapply Hk
  iexact HI

/-- The task on tile `L` of device `d`. -/
theorem tile_body (hF : (K (F := F)).Facts) (hidx : ∀ r, (idx (ixI r)).toNat < 50000) (hO : ∀ g, O g none = 0) :
    iprop(levAts (K (F := F)).L (K (F := F)).lev ∗ emp
        ∗ ((xLoc d ↦{qx} tab) ∗ (iLoc d ↦{q0} idx) ∗ (iLoc d ↦{q1} idx) ∗ bigSep (Finset.range 10) fun j => OWin (F := F) d f0 (10 * wid L + j))
        ∗ scopedBufs (thr d L) ∗ scopedSems0 (thr d L) ∗ owes (thr d L) O W)
      ⊢ wp frame (wpE (defs₀ (F := F)) 𝒱₀ (thr d L) none) Set.univ
          (cc0_kern L xV (Memref.isWhole_whole _) iV (Memref.isWhole_whole _) oV (Memref.isWhole_whole _)
              lV (Memref.isWhole_whole _) cc0_scoped1 rV (Memref.isWhole_whole _) cc0_scoped3 cc0_scoped4)
          fun _ => iprop(((xLoc d ↦{qx} tab) ∗ (iLoc d ↦{q0} idx) ∗ (iLoc d ↦{q1} idx)
              ∗ bigSep (Finset.range 10) fun j => OWin (F := F) d (res tab idx) (10 * wid L + j))
            ∗ scopedBufs (thr d L) ∗ scopedSems0 (thr d L)
            ∗ ∃ W', ⌜∀ p ∈ W', p ∈ W ∨ p.2 = none⌝ ∗ owes (thr d L) O W') := by
  rw [cc0_kern_eq_skeleton]; unfold cc0_kern_skel
  rw [(K (F := F)).scopedBufs_V hF d (cV L) (jV L), SparseCore.Cfg.scopedSems0_V (Val := Elt F) d (cV L) (jV L), ownSems0_V, ownBufs_V]
  iintro ⟨#Hlv, -, ⟨Hx, Hi0, Hi1, Ho⟩, ⟨⟨%fl, Hl⟩, ⟨%fr, Hr⟩, Hbufs⟩, ⟨Hl0, Hl1, Hr0, Hr1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Hl := (islots_split (F := F) d L fl) $$ Hl
  icases Hl with ⟨Hla, Hlb⟩
  ihave Hr := (rslots_split (F := F) d L fr) $$ Hr
  icases Hr with ⟨Hra, Hrb⟩
  rw [wp_bind]
  iapply (part3 (F := F) d L q0 q1 idx) $$ [Hla Hl0 Hi0]
  · unfold IFree
    isplitl [Hla]; · iexists _; iexact Hla
    isplitl [Hl0]; · iexact Hl0
    iexact Hi0
  iintro Hin
  rw [wp_bind]
  iapply (part4 (F := F) d L q0 q1 qx tab idx f0 O W hidx) $$ [Hin Hlb Hl1 Hi1 Hra Hrb Hr0 Hr1 Hg Hx Ho HO]
  · unfold Inv
    isplitr; · ipureintro; rfl
    isplitl [Hx]; · iexact Hx
    isplitl [Hg]; · iexact Hg
    isplitl [HO]
    · iexists W; isplitr
      · ipureintro; exact fun p hp => .inl hp
      iexact HO
    isplitr; · iexact Hmw
    isplitl [Hin]; · iexact Hin
    isplitl [Hlb Hl1 Hi1]
    · unfold IFree
      isplitl [Hlb]; · iexists _; iexact Hlb
      isplitl [Hl1]; · iexact Hl1
      iexact Hi1
    isplitl [Hrb Hr1]
    · unfold OutPrev
      iapply (Entails.of_eq (if_pos (rfl : (0 : ℕ) = 0)).symm)
      unfold RFree
      isplitl [Hrb]; · iexists _; iexact Hrb
      iexact Hr1
    isplitl [Hra Hr0]
    · unfold RFree
      isplitl [Hra]; · iexists _; iexact Hra
      iexact Hr0
    isplitr; · iempintro
    iapply (Entails.of_eq (show (bigSep (Finset.range 10) (fun j => OWin (F := F) d f0 (10 * wid L + j)) : sProp 𝕄)
      = bigSep (Finset.Ico 0 10) (fun j => OWin (F := F) d f0 (10 * wid L + j)) by rw [Finset.range_eq_Ico])) $$ Ho
  iintro HI
  unfold Inv
  icases HI with ⟨-, Hx, Hg, ⟨%W', %hW', HO⟩, -, Hin, Hif, Hout, Hrf, Hdone, -⟩
  dsimp only
  rw [wp_bind]
  unfold OutPrev
  ihave Hout := (Entails.of_eq (if_neg (show ¬ (10 : ℕ) = 0 by omega))) $$ Hout
  iapply (wait_out (F := F) d L tab idx 9 (10 * wid L + 9) O _ (sem_r 9 _ _ off20_eq)) $$ [Hout HO]
  · isplitl [Hout]; · iexact Hout
    isplitl [HO]; · iexact HO
    iexact Hmw
  iintro ⟨How, Hr, Hrv, HO⟩
  rw [wp_pure]; imodintro
  unfold InNext
  ihave Hin := (Entails.of_eq (if_neg (show ¬ (10 : ℕ) < 10 by omega))) $$ Hin
  unfold IFree RFree
  icases Hin with ⟨⟨%fa, Hla⟩, Hl0, Hi0⟩
  icases Hif with ⟨⟨%fb, Hlb⟩, Hl1, Hi1⟩
  icases Hrf with ⟨⟨%fc, Hra⟩, Hr0⟩
  isplitl [Hx Hi0 Hi1 Hdone How]
  · isplitl [Hx]; · iexact Hx
    isplitl [Hi0]; · iexact Hi0
    isplitl [Hi1]; · iexact Hi1
    iapply (Entails.of_eq (show (iprop(OWin (F := F) d (res tab idx) (10 * wid L + 9)
        ∗ bigSep (Finset.range 9) fun j => OWin (F := F) d (res tab idx) (10 * wid L + j)) : sProp 𝕄)
      = bigSep (Finset.range 10) fun j => OWin (F := F) d (res tab idx) (10 * wid L + j) by
        rw [show Finset.range 10 = insert 9 (Finset.range 9) from Finset.range_add_one, SparseCore.bigSep_insert' Finset.notMem_range_self]))
    isplitl [How]; · iexact How
    iexact Hdone
  isplitl [Hla Hlb Hra Hr Hbufs]
  · isplitl [Hla Hlb]
    · iapply (islots_join (F := F) d L fa fb)
      isplitl [Hla]; · iexact Hla
      iexact Hlb
    isplitl [Hra Hr]
    · iapply (rslots_join (F := F) d L fc _)
      isplitl [Hra]; · iexact Hra
      iexact Hr
    iexact Hbufs
  isplitl [Hl0 Hl1 Hr0 Hrv Hg Hsems]
  · isplitl [Hl0]; · iexact Hl0
    isplitl [Hl1]; · iexact Hl1
    isplitl [Hr0]; · iexact Hr0
    isplitl [Hrv]; · iexact Hrv
    isplitl [Hg]; · iexact Hg
    iexact Hsems
  iexists _; isplitr
  swap; · iexact HO
  ipureintro; intro p hp
  rcases Finset.mem_insert.mp hp with hp | hp; · exact .inr (hp ▸ rfl)
  exact hW' p hp

end Cert.Proof.Gather

end
-- ==== Proof.Launch.lean ====
/-
  The launch: what the call hands to the two SparseCores and to their tiles (a share of the table and of the index list
  to each, and the rows of the result it writes), that the rows come back joined with the gathered values in them, and
  the run of the whole program from any memory whose index list names rows of the table.
-/
module

public import proofs.«01_k».proof.Proof.Task
public import Idealize.ShloMosaic.Lib.ShareLeaves
public import Idealize.ShloMosaic.Lib.StableHlo.Run
public import Idealize.ShloMosaic.Lib.Pipeline.Frame

@[expose] public section

noncomputable section

namespace Cert.Proof.Gather

open Cert.KernelIdeal Cert.KernelIdeal.Gen
open Cert.Proof.Words

open Idealize.ShloMosaic
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The result's rows by SparseCore, by tile, by window -/

/-- The rows of SparseCore `c`, and of tile `w`. -/
def ownC (c : ℕ) : Finset S40960x128.Idx := Finset.univ.filter fun x => (x 0).val / 20480 = c
def ownT (w : ℕ) : Finset S40960x128.Idx := Finset.univ.filter fun x => (x 0).val / 1280 = w

theorem cores_cover : (Finset.univ : Finset (Fin 2)).biUnion (fun c => ownC c.val) = Finset.univ := by
  refine Finset.eq_univ_of_forall fun x => Finset.mem_biUnion.2 ?_
  have h : (x 0).val < 40960 := (x 0).isLt
  exact ⟨⟨(x 0).val / 20480, by omega⟩, Finset.mem_univ _, Finset.mem_filter.2 ⟨Finset.mem_univ _, rfl⟩⟩
theorem cores_disjoint : ∀ c ∈ (Finset.univ : Finset (Fin 2)), ∀ c' ∈ (Finset.univ : Finset (Fin 2)), c ≠ c' → Disjoint (ownC c.val) (ownC c'.val) := by
  intro c _ c' _ hne
  refine Finset.disjoint_left.2 fun x h0 h1 => hne (Fin.ext ?_)
  exact (Finset.mem_filter.1 h0).2.symm.trans (Finset.mem_filter.1 h1).2

theorem tiles_cover (c : ℕ) : (Finset.univ : Finset (Fin 16)).biUnion (fun i => ownT (i.val + 16 * c)) = ownC c := by
  ext x
  simp only [ownC, ownT, Finset.mem_biUnion, Finset.mem_filter, Finset.mem_univ, true_and]
  constructor
  · rintro ⟨i, hi⟩
    have := i.isLt
    omega
  · intro h
    exact ⟨⟨(x 0).val / 1280 - 16 * c, by omega⟩, by show (x 0).val / 1280 = (x 0).val / 1280 - 16 * c + 16 * c; omega⟩
theorem tiles_disjoint (c : ℕ) : ∀ i ∈ (Finset.univ : Finset (Fin 16)), ∀ i' ∈ (Finset.univ : Finset (Fin 16)), i ≠ i' →
    Disjoint (ownT (i.val + 16 * c)) (ownT (i'.val + 16 * c)) := by
  intro i _ i' _ hne
  refine Finset.disjoint_left.2 fun x h0 h1 => hne (Fin.ext ?_)
  have e0 := (Finset.mem_filter.1 h0).2
  have e1 := (Finset.mem_filter.1 h1).2
  omega

theorem windows_cover (w : ℕ) : (Finset.range 10).biUnion (fun j => own' (10 * w + j)) = ownT w := by
  ext x
  simp only [own', ownT, Finset.mem_biUnion, Finset.mem_filter, Finset.mem_univ, true_and, Finset.mem_range]
  constructor
  · rintro ⟨j, hj, h⟩
    omega
  · intro h
    exact ⟨(x 0).val / 128 - 10 * w, by omega, by omega⟩
theorem windows_disjoint (w : ℕ) : ∀ j ∈ Finset.range 10, ∀ j' ∈ Finset.range 10, j ≠ j' → Disjoint (own' (10 * w + j)) (own' (10 * w + j')) := by
  intro i _ i' _ hne
  refine Finset.disjoint_left.2 fun x h0 h1 => hne ?_
  have e0 := (Finset.mem_filter.1 h0).2
  have e1 := (Finset.mem_filter.1 h1).2
  omega

theorem oPts_cores (d : Dev nD) (f : S40960x128.Idx → F .f32) :
    (oLoc d ↦{fullShare} f : sProp 𝕄) = bigSep Finset.univ fun c : Fin 2 => oLoc d ↦[ownC c.val]{fullShare} f := by
  rw [← pointsTo_biUnion Finset.univ (ℓ := oLoc d) (fun c : Fin 2 => ownC c.val) cores_disjoint, cores_cover]

theorem oPts_tiles (d : Dev nD) (c : ℕ) (f : S40960x128.Idx → F .f32) :
    (oLoc d ↦[ownC c]{fullShare} f : sProp 𝕄) = bigSep Finset.univ fun i : Fin 16 => oLoc d ↦[ownT (i.val + 16 * c)]{fullShare} f := by
  rw [← pointsTo_biUnion Finset.univ (ℓ := oLoc d) (fun i : Fin 16 => ownT (i.val + 16 * c)) (tiles_disjoint c), tiles_cover]

theorem oPts_windows (d : Dev nD) (w : ℕ) (f : S40960x128.Idx → F .f32) :
    (oLoc d ↦[ownT w]{fullShare} f : sProp 𝕄) = bigSep (Finset.range 10) fun j => OWin (F := F) d f (10 * w + j) := by
  rw [← pointsTo_biUnion (Finset.range 10) (ℓ := oLoc d) (fun j => own' (10 * w + j)) (windows_disjoint w), windows_cover]

theorem xPts_cores (d : Dev nD) (f : Buf (Elt F) (xLoc d)) :
    (xLoc d ↦{fullShare} f : sProp 𝕄) = bigSep Finset.univ fun c : Fin 2 => xLoc d ↦{leaf 1 fullShare c} f :=
  pointsTo_leaves Finset.univ f 1 fullShare
theorem xPts_tiles (d : Dev nD) (q : PosShare TreeShare) (f : Buf (Elt F) (xLoc d)) :
    (xLoc d ↦{q} f : sProp 𝕄) = bigSep Finset.univ fun i : Fin 16 => xLoc d ↦{leaf 4 q i} f :=
  pointsTo_leaves Finset.univ f 4 q
theorem iPts_cores (d : Dev nD) (f : Buf (Elt F) (iLoc d)) :
    (iLoc d ↦{fullShare} f : sProp 𝕄) = bigSep Finset.univ fun c : Fin 2 => iLoc d ↦{leaf 1 fullShare c} f :=
  pointsTo_leaves Finset.univ f 1 fullShare
theorem iPts_tiles (d : Dev nD) (q : PosShare TreeShare) (f : Buf (Elt F) (iLoc d)) :
    (iLoc d ↦{q} f : sProp 𝕄) = bigSep Finset.univ fun i : Fin 16 => iLoc d ↦{leaf 4 q i} f :=
  pointsTo_leaves Finset.univ f 4 q
theorem sep_nest₁ {A B C D : sProp 𝕄} : iprop(A ∗ (B ∗ C) ∗ D) ⊢ iprop(A ∗ B ∗ C ∗ D) := by
  iintro ⟨HA, ⟨HB, HC⟩, HD⟩
  isplitl [HA]; · iexact HA
  isplitl [HB]; · iexact HB
  isplitl [HC]; · iexact HC
  iexact HD
theorem sep_nest₂ {A B C D : sProp 𝕄} : iprop(A ∗ B ∗ C ∗ D) ⊢ iprop(A ∗ (B ∗ C) ∗ D) := by
  iintro ⟨HA, HB, HC, HD⟩
  isplitl [HA]; · iexact HA
  isplitl [HB HC]
  · isplitl [HB]; · iexact HB
    iexact HC
  iexact HD
theorem sep_nest {A B C D : sProp 𝕄} : iprop(A ∗ (B ∗ C) ∗ D) = iprop(A ∗ B ∗ C ∗ D) :=
  BI.Entails.antisymm sep_nest₁ sep_nest₂
theorem iPts_half (d : Dev nD) (q : PosShare TreeShare) (f : S1x40960.Idx → BitVec 32) :
    (iLoc d ↦{q} f : sProp 𝕄) = iprop((iLoc d ↦{q.left} f) ∗ iLoc d ↦{q.right} f) :=
  BI.Entails.antisymm (pointsTo_share (PosShare.mem_left_op_right q)).1 (pointsTo_share (PosShare.mem_left_op_right q)).2

/-! ## What the handshakes carry -/

abbrev shC (c : Fin 2) : PosShare TreeShare := leaf 1 fullShare c
abbrev shT (c : Fin 2) (i : Fin 16) : PosShare TreeShare := leaf 4 (shC c) i

variable (tab : Dev nD → S50000x128.Idx → F .f32) (idx : Dev nD → S1x40960.Idx → BitVec 32) (f0 : Dev nD → S40960x128.Idx → F .f32)

abbrev stC (d : Dev nD) (c : Fin 2) (f : S40960x128.Idx → F .f32) : sProp 𝕄 :=
  iprop((xLoc d ↦{shC c} tab d) ∗ (iLoc d ↦{shC c} idx d) ∗ oLoc d ↦[ownC c.val]{fullShare} f)
abbrev goT (d : Dev nD) (c : Fin 2) (i : Fin 16) (f : S40960x128.Idx → F .f32) : sProp 𝕄 :=
  iprop((xLoc d ↦{shT c i} tab d) ∗ (iLoc d ↦{shT c i} idx d) ∗ oLoc d ↦[ownT (i.val + 16 * c.val)]{fullShare} f)

/-- The one call: each SparseCore takes a share of the table and of the index list and its half of the result's rows;
    each tile a share of those shares and its rows, and brings the rows back with the gathered values in them. -/
def P : (K (F := F)).Pay (nD := nD) (Val := Elt F) (Name := ℕ) (U := UU) where
  st := fun q d c => match q with | 0 => stC tab idx d (Fin.cast nCore_zero c) (f0 d)
  dn := fun q d c => match q with | 0 => stC tab idx d (Fin.cast nCore_zero c) (res (tab d) (idx d))
  go := fun q d c i => match q with | 0 => goT tab idx d (Fin.cast nCore_zero c) (Fin.cast nSub_zero i) (f0 d)
  td := fun q d c i => match q with | 0 => goT tab idx d (Fin.cast nCore_zero c) (Fin.cast nSub_zero i) (res (tab d) (idx d))
  x := fun _ _ => iprop(emp)

instance P_storable : (P (F := F) tab idx f0).IsStorable where
  st q d c := match q with
    | 0 => (inferInstance : BI.Storable (upEmb : UEmb _ 𝕄) (stC tab idx d (Fin.cast nCore_zero c) (f0 d)))
  dn q d c := match q with
    | 0 => (inferInstance : BI.Storable (upEmb : UEmb _ 𝕄) (stC tab idx d (Fin.cast nCore_zero c) (res (tab d) (idx d))))
  go q d c i := match q with
    | 0 => (inferInstance : BI.Storable (upEmb : UEmb _ 𝕄) (goT tab idx d (Fin.cast nCore_zero c) (Fin.cast nSub_zero i) (f0 d)))
  td q d c i := match q with
    | 0 => (inferInstance : BI.Storable (upEmb : UEmb _ 𝕄) (goT tab idx d (Fin.cast nCore_zero c) (Fin.cast nSub_zero i) (res (tab d) (idx d))))

/-! ## The obligation -/

theorem defs₀_vector (c : Fin τ.nSC) (s : Fin τ.nSub) :
    defs₀ (F := F) (.scVector c s) 0 ()
      = SparseCore.onTile hcore0 hsub0 (fun c s => cc0_kern (coordsV c s)
          xV (Memref.isWhole_whole _) iV (Memref.isWhole_whole _) oV (Memref.isWhole_whole _)
          lV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's share of the index list is two shares, and its rows are its ten windows. -/
theorem goT_eq (d : Dev nD) (c : Fin 2) (i : Fin 16) (f : S40960x128.Idx → F .f32) :
    (goT tab idx d c i f : sProp 𝕄)
      = iprop((xLoc d ↦{shT c i} tab d) ∗ (iLoc d ↦{(shT c i).left} idx d) ∗ (iLoc d ↦{(shT c i).right} idx d)
          ∗ bigSep (Finset.range 10) fun j => OWin (F := F) d f (10 * (i.val + 16 * c.val) + j)) := by
  unfold goT
  rw [oPts_windows, iPts_half, sep_nest]

/-- Tile `(c, i)`'s task, on what its handshake carries. -/
theorem tile_task (hidx : ∀ d r, (idx d (ixI r)).toNat < 50000) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goT tab idx d c i (f0 d)
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0_kern (coordsV c i) xV (Memref.isWhole_whole _) iV (Memref.isWhole_whole _) oV (Memref.isWhole_whole _)
              lV (Memref.isWhole_whole _) cc0_scoped1 rV (Memref.isWhole_whole _) cc0_scoped3 cc0_scoped4)
          fun _ => iprop(goT tab idx d c i (res (tab d) (idx d))
            ∗ scopedBufs (thr d (coordsV c i)) ∗ scopedSems0 (thr d (coordsV c i))
            ∗ ∃ W', ⌜∀ p ∈ W', p ∈ W ∨ p.2 = none⌝ ∗ owes (thr d (coordsV c i)) O W') := by
  rw [goT_eq, goT_eq]
  exact tile_body (F := F) d (coordsV c i) (shT c i).left (shT c i).right (shT c i) (tab d) (idx d) (f0 d) O W facts (hidx d) hO

set_option maxRecDepth 16384 in
theorem tileObl (hidx : ∀ d r, (idx d (ixI r)).toNat < 50000) : (K (F := F)).TileObl (D (F := F)) 𝒱 (P tab idx f0) v₀ 0 := by
  intro d c i O W hO _ _
  simp only [show (P tab idx f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_task tab idx f0 hidx d ⟨_, hci.1⟩ ⟨_, hci.2⟩ O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A SparseCore's part is its tiles' parts. -/
theorem stC_eq (d : Dev nD) (c : Fin 2) (f : S40960x128.Idx → F .f32) :
    (stC tab idx d c f : sProp 𝕄) = bigSep Finset.univ fun i : Fin 16 => goT tab idx d c i f := by
  unfold stC goT
  rw [bigSep_sep', bigSep_sep', oPts_tiles, xPts_tiles d (shC c), iPts_tiles d (shC c)]

/-- The call's whole buffers are the two SparseCores' parts. -/
theorem all_eq (d : Dev nD) (f : S40960x128.Idx → F .f32) :
    (iprop((xLoc d ↦{fullShare} tab d) ∗ (iLoc d ↦{fullShare} idx d) ∗ oLoc d ↦{fullShare} f) : sProp 𝕄)
      = bigSep Finset.univ fun c : Fin 2 => stC tab idx d c f := by
  unfold stC
  rw [bigSep_sep', bigSep_sep', oPts_cores, xPts_cores, iPts_cores]

theorem vecSplit : (K (F := F)).VecSplit' (P tab idx f0) 0 := by
  intro d c
  show (stC tab idx d (Fin.cast nCore_zero c) (f0 d) : sProp 𝕄) ⊢ |={Set.univ}=> iprop(
      (bigSep Finset.univ fun i : Fin ((K (F := F)).nSub 0) => goT tab idx d (Fin.cast nCore_zero c) (Fin.cast nSub_zero i) (f0 d))
      ∗ ((bigSep Finset.univ fun i : Fin ((K (F := F)).nSub 0) => goT tab idx d (Fin.cast nCore_zero c) (Fin.cast nSub_zero i) (res (tab d) (idx d)))
          -∗ stC tab idx d (Fin.cast nCore_zero c) (res (tab d) (idx d))))
  rw [bigSep_tasks (F := F) (fun i => goT tab idx d (Fin.cast nCore_zero c) i (f0 d)),
    bigSep_tasks (F := F) (fun i => goT tab idx d (Fin.cast nCore_zero c) i (res (tab d) (idx d))), stC_eq, stC_eq]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tab idx f0).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) tab idx f0).x q thr) = bigSep Finset.univ fun _ => iprop(emp) from
    bigSep_congr fun _ _ => bigSep_univ_of_subsingleton (0 : Fin 1), bigSep_emp']
  iempintro

end Cert.Proof.Gather

end
-- ==== Proof.Run.lean ====
/-
  The whole program's run: the host operations before the call (the columns clamped, halved and laid out as a list, the
  queue laid out as rows of two vectors), the call, and the result it leaves, at every final state.
-/
module

public import proofs.«01_k».proof.Proof.Launch

@[expose] public section

noncomputable section

namespace Cert.Proof.Gather

open Cert.KernelIdeal Cert.KernelIdeal.Gen
open Cert.Proof.Words

open Idealize.ShloMosaic
open Idealize.ShloMosaic.StableHlo
open Idealize.ShloMosaic.SparseCore (S V T)
open Idealize.ShloMosaic.SparseCore.Cfg (HIx Pay)
open Idealize.ShloMosaic.Pipeline (ucRefs unscopedBufs_held sub_ucRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

def pre : List (HloOp τ sig (Elt F)) :=
  [ nullary main_c (constantI S_ 32 100000#32),
    unary main_c main_v0 (broadcastInDim S1024x40 ![] bcast_S_S1024x40 : (⟨S_, .i32⟩ : BufTy).Contents (Elt F) → (⟨S1024x40, .i32⟩ : BufTy).Contents (Elt F)),
    binary main_arg1 main_v0 main_v1 (cmpi .slt : (⟨S1024x40, .i32⟩ : BufTy).Contents (Elt F) → (⟨S1024x40, .i32⟩ : BufTy).Contents (Elt F) → (⟨S1024x40, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S1024x40, .i32⟩) main_call0_v1) (broadcastInDim S1024x40 ![] bcast_S_S1024x40),
    TRef.ternary (TRef.of (T := ⟨S1024x40, .i1⟩) main_v1) (TRef.of (T := ⟨S1024x40, .i32⟩) main_arg1) (TRef.of (T := ⟨S1024x40, .i32⟩) main_call0_v1) (TRef.of (T := ⟨S1024x40, .i32⟩) main_v2) select,
    reshape main_arg0 main_v3 rfl shapeCasts_S100000x64_S50000x128,
    nullary main_c_1 (constantI S_ 32 1#32),
    unary main_c_1 main_v4 (broadcastInDim S1024x40 ![] bcast_S_S1024x40 : (⟨S_, .i32⟩ : BufTy).Contents (Elt F) → (⟨S1024x40, .i32⟩ : BufTy).Contents (Elt F)),
    binary main_v2 main_v4 main_v5 (Host.shrsi : (⟨S1024x40, .i32⟩ : BufTy).Contents (Elt F) → (⟨S1024x40, .i32⟩ : BufTy).Contents (Elt F) → (⟨S1024x40, .i32⟩ : BufTy).Contents (Elt F)),
    reshape main_v5 main_v6 rfl shapeCasts_S1024x40_S40960,
    reshape main_v6 main_v7 rfl shapeCasts_S40960_S1x40960 ]

theorem main_eq (d : Dev nD) : main (F := F) d = seq pre >>= fun _ => sc.run d 0 >>= fun _ => pure ⟨⟩ := rfl

theorem pre_sub : ∀ op ∈ (pre : List (HloOp τ sig (Elt F))), op.bufs ⊆ ucRefs τ sig := by
  have h : (pre : List (HloOp τ sig (Elt F))).Forall fun op => op.bufs ⊆ tcRefs τ sig :=
    ⟨nullary_bufs_sub .., unary_bufs_sub .., binary_bufs_sub .., nullary_bufs_sub .., unary_bufs_sub .., unary_bufs_sub .., ternary_bufs_sub ..,
      reshape_bufs_sub .., nullary_bufs_sub .., unary_bufs_sub .., binary_bufs_sub .., reshape_bufs_sub .., reshape_bufs_sub ..⟩
  exact fun op ho => sub_ucRefs op ((List.forall_iff_forall_mem.mp h) op ho)
theorem pre_fresh : ∀ op ∈ (pre : List (HloOp τ sig (Elt F))), op.fresh = ∅ :=
  List.forall_iff_forall_mem.mp (forall_fresh_of_map rfl)

/-- What the buffers hold when the call is reached. -/
def V1 (d : Dev nD) : Valuation τ sig (Elt F) := after pre (launchContents m d)

/-- The candidate columns, one outside the queue replaced by zero, halved: the pair of vectors each names. -/
def pairs (a : S1024x40.Idx → BitVec 32) : S1024x40.Idx → BitVec 32 :=
  Host.shrsi (select (cmpi .slt a (broadcastInDim S1024x40 ![] bcast_S_S1024x40 (constantI S_ 32 100000#32))) a
    (broadcastInDim S1024x40 ![] bcast_S_S1024x40 (constantI S_ 32 0#32)))
    (broadcastInDim S1024x40 ![] bcast_S_S1024x40 (constantI S_ 32 1#32))

theorem V1_arg0 (d : Dev nD) : V1 m d (Proc.devRef .tc main_arg0) = m (d, Proc.devRef .tc main_arg0) := by
  unfold V1 pre; simp only [TRef.ternary, TRef.unary, TRef.toBuf, TRef.ofBuf, cast_eq]; after_results_simp <;> rfl
theorem V1_arg1 (d : Dev nD) : V1 m d (Proc.devRef .tc main_arg1) = m (d, Proc.devRef .tc main_arg1) := by
  unfold V1 pre; simp only [TRef.ternary, TRef.unary, TRef.toBuf, TRef.ofBuf, cast_eq]; after_results_simp <;> rfl

/-- The queue as rows of two vectors. -/
def tabV (d : Dev nD) : S50000x128.Idx → F .f32 := shapeCast S50000x128 (m (d, Proc.devRef .tc main_arg0) : S100000x64.Idx → F .f32) shapeCasts_S100000x64_S50000x128
/-- The list of pairs to fetch. -/
def idxV (d : Dev nD) : S1x40960.Idx → BitVec 32 :=
  shapeCast S1x40960 (shapeCast S40960 (pairs (m (d, Proc.devRef .tc main_arg1))) shapeCasts_S1024x40_S40960) shapeCasts_S40960_S1x40960
theorem V1_tab (d : Dev nD) : V1 m d (Proc.devRef .tc main_v3) = tabV m d := by
  unfold V1 pre; simp only [TRef.ternary, TRef.unary, TRef.toBuf, TRef.ofBuf, cast_eq]; after_results_simp <;> rfl
theorem V1_idx (d : Dev nD) : V1 m d (Proc.devRef .tc main_v7) = idxV m d := by
  unfold V1 pre; simp only [TRef.ternary, TRef.unary, TRef.toBuf, TRef.ofBuf, cast_eq]; after_results_simp <;> rfl
def outV (d : Dev nD) : S40960x128.Idx → F .f32 := V1 m d (Proc.devRef .tc main_v8)

/-! ## @main on the TensorCore -/

abbrev aLoc (d : Dev nD) : Loc nD τ sig := (d.tc : Thread nD τ).loc main_arg0
abbrev cLoc (d : Dev nD) : Loc nD τ sig := (d.tc : Thread nD τ).loc main_arg1

/-- The call's buffers and the arguments, among the buffers held. -/
def five : Finset (DevRef τ sig) :=
  {Proc.devRef .tc main_arg0, Proc.devRef .tc main_arg1, Proc.devRef .tc main_v3, Proc.devRef .tc main_v7, Proc.devRef .tc main_v8}

theorem five_sub : five ⊆ ucRefs τ sig := by decide +kernel

theorem held_five (d : Dev nD) (V : Valuation τ sig (Elt F)) : (held (d.tc : Thread nD τ) five V : sProp 𝕄)
    = iprop((aLoc d ↦{fullShare} V (Proc.devRef .tc main_arg0)) ∗ (cLoc d ↦{fullShare} V (Proc.devRef .tc main_arg1))
        ∗ (xLoc d ↦{fullShare} V (Proc.devRef .tc main_v3)) ∗ (iLoc d ↦{fullShare} V (Proc.devRef .tc main_v7))
        ∗ oLoc d ↦{fullShare} V (Proc.devRef .tc main_v8)) := by
  unfold held five
  rw [SparseCore.bigSep_insert' (by decide +kernel), SparseCore.bigSep_insert' (by decide +kernel), SparseCore.bigSep_insert' (by decide +kernel),
    SparseCore.bigSep_insert' (by decide +kernel), bigSep_singleton]

abbrev FIN (d : Dev nD) : sProp 𝕄 :=
  iprop((aLoc d ↦{fullShare} m (aLoc d)) ∗ (cLoc d ↦{fullShare} m (cLoc d)) ∗ oLoc d ↦{fullShare} res (tabV m d) (idxV m d))

theorem st_eq (tab : Dev nD → S50000x128.Idx → F .f32) (idx : Dev nD → S1x40960.Idx → BitVec 32) (f0 : Dev nD → S40960x128.Idx → F .f32) (d : Dev nD) :
    (bigSep Finset.univ fun c : Fin ((K (F := F)).nCore 0) => (P tab idx f0).st 0 d c)
      = iprop((xLoc d ↦{fullShare} tab d) ∗ (iLoc d ↦{fullShare} idx d) ∗ oLoc d ↦{fullShare} f0 d) := by
  rw [all_eq]; exact bigSep_cores (F := F) (fun c => stC tab idx d c (f0 d))
theorem dn_eq (tab : Dev nD → S50000x128.Idx → F .f32) (idx : Dev nD → S1x40960.Idx → BitVec 32) (f0 : Dev nD → S40960x128.Idx → F .f32) (d : Dev nD) :
    (bigSep Finset.univ fun c : Fin ((K (F := F)).nCore 0) => (P tab idx f0).dn 0 d c)
      = iprop((xLoc d ↦{fullShare} tab d) ∗ (iLoc d ↦{fullShare} idx d) ∗ oLoc d ↦{fullShare} res (tab d) (idx d)) := by
  rw [all_eq]; exact bigSep_cores (F := F) (fun c => stC tab idx d c (res (tab d) (idx d)))

/-- @main on device `d`'s TensorCore: the host operations, then the call. -/
theorem hmain (κ : GSem nD τ sig → ℕ) (d : Dev nD) :
    iprop((K (F := F)).ctx EH (P (tabV m) (idxV m) (outV m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (ucRefs τ sig) (launchContents m d) from
    unscopedBufs_held d (launchContents m d)]
  iintro ⟨#Hctx, Hst, ⟨Hb, Hu, Hts, -⟩, -⟩
  iapply (StableHlo.wp_seq 𝒱 none Set.univ d (ucRefs τ sig) _ pre pre_sub pre_fresh (launchContents m d)) $$ [Hb Hu]
  · isplitl [Hb]; · iexact Hb
    iexact Hu
  iintro ⟨Hb, Hu⟩
  ihave Hu := (show (held (d.tc : Thread nD τ) (ucRefs τ sig) (after pre (launchContents m d)) : sProp 𝕄)
      ⊢ iprop(held (d.tc : Thread nD τ) five (V1 m d) ∗ held (d.tc : Thread nD τ) (ucRefs τ sig \ five) (V1 m d))
      from Entails.of_eq (held_sub_split (d.tc : Thread nD τ) five_sub (V1 m d))) $$ Hu
  icases Hu with ⟨Hu, -⟩
  ihave Hu := (Entails.of_eq (held_five d (V1 m d))) $$ Hu
  icases Hu with ⟨Ha, Hc, Hx, Hi, Ho⟩
  ihave Ha := (Entails.of_eq (congrArg (fun f => (aLoc d ↦{fullShare} f : sProp 𝕄)) (V1_arg0 m d))) $$ Ha
  ihave Hc := (Entails.of_eq (congrArg (fun f => (cLoc d ↦{fullShare} f : sProp 𝕄)) (V1_arg1 m d))) $$ Hc
  ihave Hx := (Entails.of_eq (congrArg (fun f => (xLoc d ↦{fullShare} f : sProp 𝕄)) (V1_tab m d))) $$ Hx
  ihave Hi := (Entails.of_eq (congrArg (fun f => (iLoc d ↦{fullShare} f : sProp 𝕄)) (V1_idx m d))) $$ Hi
  rw [wp_bind]
  iapply ((K (F := F)).wp_run (D (F := F)) 𝒱 (EH := EH) (P := P (tabV m) (idxV m) (outV m)) κ d 0) $$ [Hst Ha Hc Hx Hi Ho Hb Hts]
  isplitr; · iexact Hctx
  isplitl [Hst]; · iexact Hst
  isplitl [Hx Hi Ho]
  · iapply (Entails.of_eq (st_eq (tabV m) (idxV m) (outV m) d).symm)
    isplitl [Hx]; · iexact Hx
    isplitl [Hi]; · iexact Hi
    iexact Ho
  iintro ⟨Hst, Hdn⟩
  ihave Hdn' := (Entails.of_eq (dn_eq (tabV m) (idxV m) (outV m) d)) $$ Hdn
  icases Hdn' with ⟨-, -, Ho⟩
  rw [wp_pure]
  imodintro
  isplitl [Hst]; · iexact Hst
  isplitr [Hb Hts]
  · isplitl [Ha]; · iexact Ha
    isplitl [Hc]; · iexact Hc
    iexact Ho
  isplitl [Hb] <;> iassumption

def fq (d : Dev nD) (s' : Phys nD τ sig (Elt F)) : Prop :=
  s'.mem.mem (oLoc d) = res (tabV m d) (idxV m d) ∧ s'.mem.mem (aLoc d) = m (aLoc d) ∧ s'.mem.mem (cLoc d) = m (cLoc d)

set_option maxRecDepth 16384 in
theorem hfin (d : Dev nD) (s' : Phys nD τ sig (Elt F)) : iprop(FIN m d ∗ SI s') ⊢ (⌜fq m d s'⌝ : sProp 𝕄) := by
  iintro ⟨⟨Ha, Hc, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (SI_pointsTo_agree (st := s') (ℓ := oLoc d) (I := Finset.univ) (q := fullShare) (f := res (tabV m d) (idxV m d))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- Every pair the list names is a row of the table. -/
def PreOK : Prop := ∀ d r, (idxV m d (ixI r)).toNat < 50000

def QC : PUnit × MemSt nD τ sig (Elt F) → Prop := fun r =>
  (∀ d : Dev nD, r.2.mem (oLoc d) = res (tabV m d) (idxV m d) ∧ r.2.mem (aLoc d) = m (aLoc d) ∧ r.2.mem (cLoc d) = m (cLoc d)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabV m) (idxV m) (outV m)) (A := ∅) facts v₀
    (fun q hq => match q with | 0 => nomatch hq)
    (fun q _ => match q with | 0 => tileObl (tabV m) (idxV m) (outV m) hpre)
    (fun q _ => match q with | 0 => SparseCore.Cfg.VecSplit.of_plain (vecSplit (tabV m) (idxV m) (outV m)))
    m ρ main (fun _ => iprop(emp)) (FIN m) (u₀ (F := F)) (sep_elim_left.trans (hu₀ (tabV m) (idxV m) (outV m))) (hmain m ρ) (fq m) (hfin m) (QC m)
    (fun _ h hz => ⟨h, hz⟩)

end Cert.Proof.Gather

end
-- ==== Proof.Value.lean ====
/-
  The gathered rows are the reference's: the row of two vectors that a candidate's pair names is the two vectors the
  reference takes from the queue, side by side.
-/
module

public import proofs.«01_k».proof.Proof.Run
public import proofs.«01_k».proof.Proof.Gen.ReferenceIdeal.Run
public import Idealize.ShloMosaic.Lib.Routing.Ops
public import Idealize.ShloMosaic.Lib.Pipeline.Value
public import Idealize.ShloMosaic.Lib.ReduceAll

@[expose] public section

noncomputable section

namespace Cert.Proof.Gather

open Idealize.ShloMosaic
open Idealize.ShloMosaic.ValueIdx (ix1 ix2)

/-! ## Words -/

/-- A column, one outside the queue replaced by zero. -/
def safeW (v : BitVec 32) : BitVec 32 := Scalar.select (IntOp.cmpi .slt v 100000#32) v 0#32

theorem slt_iff (a b : BitVec 32) : IntOp.cmpi .slt a b = 1#1 ↔ a.toInt < b.toInt := by
  simp only [IntOp.cmpi, BitVec.slt_eq_decide]
  by_cases h : a.toInt < b.toInt <;> simp [h]
theorem sge_iff (a b : BitVec 32) : IntOp.cmpi .sge a b = 1#1 ↔ b.toInt ≤ a.toInt := by
  simp only [IntOp.cmpi, BitVec.sle_eq_decide]
  by_cases h : b.toInt ≤ a.toInt <;> simp [h]
theorem sle_iff (a b : BitVec 32) : IntOp.cmpi .sle a b = 1#1 ↔ a.toInt ≤ b.toInt := by
  simp only [IntOp.cmpi, BitVec.sle_eq_decide]
  by_cases h : a.toInt ≤ b.toInt <;> simp [h]
theorem toInt_nat (n : ℕ) (h : n < 2147483648) : (BitVec.ofNat 32 n).toInt = n := by
  rw [BitVec.toInt_eq_toNat_cond, BitVec.toNat_ofNat, Nat.mod_eq_of_lt (by omega), if_pos (by omega)]

theorem select_neg {α : Type} {b : BitVec 1} (h : ¬b = 1#1) (x y : α) : Scalar.select b x y = y := by
  rw [ValueIdx.eq_zero_of_ne_one h]; rfl
theorem select_pos {α : Type} {b : BitVec 1} (h : b = 1#1) (x y : α) : Scalar.select b x y = x := by rw [h]; rfl

theorem safeW_nat (v : BitVec 32) (h : IntOp.cmpi .sge v 0#32 = 1#1) : ∃ n, n < 100000 ∧ safeW v = BitVec.ofNat 32 n := by
  have h0 : 0 ≤ v.toInt := (sge_iff _ _).1 h
  unfold safeW
  by_cases hlt : IntOp.cmpi .slt v 100000#32 = 1#1
  · rw [select_pos hlt]
    have h1 : v.toInt < 100000 := (slt_iff _ _).1 hlt
    have h2 := BitVec.toInt_eq_toNat_cond v
    have h3 := v.isLt
    refine ⟨v.toNat, ?_, by simp⟩
    split at h2 <;> omega
  · rw [select_neg hlt]; exact ⟨0, by decide, rfl⟩

/-- Half a column, as the kernel computes it. -/
theorem half_nat (n : ℕ) (h : n < 100000) : IntOp.shrsi .host (BitVec.ofNat 32 n) 1#32 = BitVec.ofNat 32 (n / 2) := by
  unfold IntOp.shrsi
  rw [if_pos (by decide)]
  apply BitVec.eq_of_toNat_eq
  rw [BitVec.sshiftRight', BitVec.sshiftRight_eq_of_msb_false]
  · rw [BitVec.toNat_ushiftRight, BitVec.toNat_ofNat, BitVec.toNat_ofNat, Nat.mod_eq_of_lt (by omega), Nat.mod_eq_of_lt (by omega)]
    rw [Nat.shiftRight_eq_div_pow, BitVec.toNat_ofNat]; show n / 2 ^ 1 = _; omega
  · rw [BitVec.msb_eq_false_iff_two_mul_lt, BitVec.toNat_ofNat, Nat.mod_eq_of_lt (by omega)]; omega

theorem rem_nat (n : ℕ) (h : n < 100000) : IntOp.remsi .host (BitVec.ofNat 32 n) 2#32 = BitVec.ofNat 32 (n % 2) := by
  unfold IntOp.remsi
  have hm : (BitVec.ofNat 32 n).msb = false := by
    rw [BitVec.msb_eq_false_iff_two_mul_lt, BitVec.toNat_ofNat, Nat.mod_eq_of_lt (by omega)]; omega
  rw [if_neg (by unfold IntOp.SDivCorner; rintro (h | ⟨-, h⟩) <;> exact absurd h (by decide))]
  apply BitVec.eq_of_toNat_eq
  rw [BitVec.srem_eq, hm, show (2#32 : BitVec 32).msb = false from by decide]
  simp only
  rw [BitVec.toNat_umod, BitVec.toNat_ofNat, BitVec.toNat_ofNat, BitVec.toNat_ofNat, Nat.mod_eq_of_lt (show n < 2 ^ 32 by omega),
    Nat.mod_eq_of_lt (show n % 2 < 2 ^ 32 by omega)]

/-- The even column at or below a column, as the reference computes it. -/
def evenW (v : BitVec 32) : BitVec 32 :=
  IntOp.subi v (Scalar.select
    (IntOp.andi (IntOp.cmpi .ne (IntOp.cmpi .slt (IntOp.remsi .host v (Scalar.select (IntOp.cmpi .eq 2#32 0#32) 1#32 2#32)) 0#32)
        (IntOp.cmpi .slt (Scalar.select (IntOp.cmpi .eq 2#32 0#32) 1#32 2#32) 0#32))
      (IntOp.cmpi .ne (IntOp.remsi .host v (Scalar.select (IntOp.cmpi .eq 2#32 0#32) 1#32 2#32)) 0#32))
    (IntOp.addi (IntOp.remsi .host v (Scalar.select (IntOp.cmpi .eq 2#32 0#32) 1#32 2#32)) (Scalar.select (IntOp.cmpi .eq 2#32 0#32) 1#32 2#32))
    (IntOp.remsi .host v (Scalar.select (IntOp.cmpi .eq 2#32 0#32) 1#32 2#32)))

theorem evenW_nat (n : ℕ) (h : n < 100000) : evenW (BitVec.ofNat 32 n) = BitVec.ofNat 32 (2 * (n / 2)) := by
  unfold evenW
  rw [show (Scalar.select (IntOp.cmpi .eq 2#32 0#32) 1#32 2#32 : BitVec 32) = 2#32 from by decide, rem_nat n h]
  rcases Nat.mod_two_eq_zero_or_one n with e | e <;> rw [e]
  · rw [show ∀ b : BitVec 1, Scalar.select (IntOp.andi b (IntOp.cmpi .ne (BitVec.ofNat 32 0) 0#32)) (IntOp.addi (BitVec.ofNat 32 0) 2#32) (BitVec.ofNat 32 0) = 0#32 from by decide]
    show BitVec.ofNat 32 n - 0#32 = _
    rw [BitVec.sub_zero]; congr 1; omega
  · rw [show Scalar.select (IntOp.andi (IntOp.cmpi .ne (IntOp.cmpi .slt (BitVec.ofNat 32 1) 0#32) (IntOp.cmpi .slt 2#32 0#32)) (IntOp.cmpi .ne (BitVec.ofNat 32 1) 0#32)) (IntOp.addi (BitVec.ofNat 32 1) 2#32) (BitVec.ofNat 32 1) = 1#32 from by decide]
    show BitVec.ofNat 32 n - 1#32 = _
    apply BitVec.eq_of_toNat_eq
    rw [BitVec.toNat_sub, BitVec.toNat_ofNat, BitVec.toNat_ofNat, BitVec.toNat_ofNat]
    omega

/-- A column counted from the end where it is negative. -/
def wrapW (v : BitVec 32) : BitVec 32 := Scalar.select (IntOp.cmpi .slt v 0#32) (IntOp.addi v 100000#32) v
theorem wrapW_nat (n : ℕ) (h : n < 100000) : wrapW (BitVec.ofNat 32 n) = BitVec.ofNat 32 n := by
  unfold wrapW
  refine select_neg (fun e => ?_) _ _
  have := (slt_iff _ _).1 e
  rw [toInt_nat n (by omega)] at this
  have h0 : (0#32 : BitVec 32).toInt = 0 := by decide
  omega
theorem inside_nat (n : ℕ) (h : n < 100000) : IntOp.andi (IntOp.cmpi .sge (BitVec.ofNat 32 n) 0#32) (IntOp.cmpi .sle (BitVec.ofNat 32 n) 99999#32) = 1#1 := by
  have h0 : (0#32 : BitVec 32).toInt = 0 := by decide
  have h1 : (99999#32 : BitVec 32).toInt = 99999 := by decide
  rw [(sge_iff _ _).2 (by rw [toInt_nat n (by omega)]; omega), (sle_iff _ _).2 (by rw [toInt_nat n (by omega)]; omega)]; decide

/-! ## The reference's rows -/

section Ref
open Cert.ReferenceIdeal Cert.ReferenceIdeal.Gen

variable {F : FTy → Type} [FloatOps F]

/-- The columns as the reference lays them out. -/
def safeR (a : S1024x40.Idx → BitVec 32) : S40960.Idx → BitVec 32 :=
  shapeCast S40960 (select (cmpi .slt a (broadcastInDim S1024x40 ![] bcast_S_S1024x40 (constantI S_ 32 100000#32))) a
    (broadcastInDim S1024x40 ![] bcast_S_S1024x40 (id (constantI S_ 32 0#32)))) shapeCasts_S1024x40_S40960
/-- The vectors at a list of columns, as the reference takes them. -/
def takeR (q : S100000x64.Idx → F .f32) (ix : S40960.Idx → BitVec 32) : S40960x64.Idx → F .f32 :=
  let w : S40960x1.Idx → BitVec 32 := broadcastInDim S40960x1 ![0] bcast_S40960_S40960x1_0 (select (cmpi .slt ix (broadcastInDim S40960 ![] bcast_S_S40960 (constantI S_ 32 0#32)))
    (addi ix (broadcastInDim S40960 ![] bcast_S_S40960 (constantI S_ 32 100000#32))) ix)
  select (broadcastInDim S40960x64 ![0] bcast_S40960_S40960x64_0 (Host.reduce IntOp.andi
      (andi (cmpi .sge w (broadcastInDim S40960x1 ![] bcast_S_S40960x1 (constantI S_ 32 0#32)))
        (cmpi .sle w (broadcastInDim S40960x1 ![0, 1] bcast_S1x1_S40960x1_0_1 (broadcastInDim S1x1 ![1] bcast_S1_S1x1_1 (constantI S1 32 99999#32)))))
      (constantI S_ 1 1#1) reducesTo_S40960x1_S40960_d1 h_S_))
    (Host.gather gather_S100000x64_S40960x1_S40960x64_1_0_n_n_0_1_164 q w)
    (broadcastInDim S40960x64 ![] bcast_S_S40960x64 (constant (F := F) S_ .f32 0x7FC00000#32))
/-- The reference's result. -/
def refR (q : S100000x64.Idx → F .f32) (a : S1024x40.Idx → BitVec 32) : S40960x128.Idx → F .f32 :=
  concatenate S40960x128 1 [⟨S40960x64, takeR q (fun r => evenW (safeR a r))⟩,
    ⟨S40960x64, takeR q (addi (fun r => evenW (safeR a r)) (broadcastInDim S40960 ![] bcast_S_S40960 (constantI S_ 32 1#32)))⟩]
    concatenates_S40960x64_S40960x64_S40960x128_d1

set_option maxRecDepth 8192 in
set_option maxHeartbeats 4000000 in
theorem res_eq (m : (ℓ : Loc nD τ sig) → Buf (Elt F) ℓ) (c : Dev nD) :
    Cert.ReferenceIdeal.Value.res_main_v10 m c = refR (m ((c.tc : Thread nD τ).loc main_arg0)) (m ((c.tc : Thread nD τ).loc main_arg1)) := by
  unfold Cert.ReferenceIdeal.Value.res_main_v10 refR; rfl

theorem column_apply {α : Type} (x : S40960.Idx → α) (r : S40960x1.Idx) :
    broadcastInDim S40960x1 ![0] bcast_S40960_S40960x1_0 x r = x (ix1 (r 0)) := by
  unfold broadcastInDim
  congr 1
  funext a
  match a with
  | ⟨0, _⟩ => rfl

/-- Where every word of the list is a column of the queue, the reference takes that column's vector. -/
theorem takeR_apply (q : S100000x64.Idx → F .f32) (ix : S40960.Idx → BitVec 32) (n : S40960.Idx → ℕ) (hn : ∀ r, n r < 100000)
    (hix : ∀ r, ix r = BitVec.ofNat 32 (n r)) (r : Fin 40960) (c : Fin 64) :
    takeR q ix (ix2 r c) = q (ix2 (⟨n (ix1 r), hn _⟩ : Fin 100000) c) := by
  have hw : ∀ r : S40960x1.Idx, broadcastInDim S40960x1 ![0] bcast_S40960_S40960x1_0 (select (cmpi .slt ix (broadcastInDim S40960 ![] bcast_S_S40960 (constantI S_ 32 0#32)))
      (addi ix (broadcastInDim S40960 ![] bcast_S_S40960 (constantI S_ 32 100000#32))) ix) r = BitVec.ofNat 32 (n (ix1 (r 0))) := by
    intro r
    refine Eq.trans ?_ (wrapW_nat (n (ix1 (r 0))) (hn _))
    rw [← hix, column_apply]
    rfl
  unfold takeR
  dsimp only
  rw [ValueIdx.select_apply, select_pos]
  · exact Routing.gather_row _ rfl rfl rfl rfl rfl q _ r c (⟨n (ix1 r), hn _⟩ : Fin 100000) (hw _) (by decide)
  · show Host.reduce _ _ _ _ _ _ = 1#1
    refine Host.reduce_andi_one _ _ _ _ _ rfl fun i => ?_
    refine Eq.trans ?_ (inside_nat (n (ix1 (i 0))) (hn _))
    rw [← hw i]
    rfl

end Ref

end Cert.Proof.Gather

end
-- ==== Proof.Rows.lean ====
/-
  The gathered rows, element by element: the kernel's are the reference's.
-/
module

public import proofs.«01_k».proof.Proof.Value

@[expose] public section

noncomputable section

namespace Cert.Proof.Gather

open Idealize.ShloMosaic
open Idealize.ShloMosaic.ValueIdx (ix1 ix2)
open Cert.KernelIdeal Cert.KernelIdeal.Gen

variable {F : FTy → Type} [FloatOps F]

/-- The candidate at position `r` of the list. -/
def at2 (r : Fin 40960) : S1024x40.Idx :=
  ix2 (⟨r.val / 40, by have := r.isLt; omega⟩ : Fin 1024) (⟨r.val % 40, Nat.mod_lt _ (by decide)⟩ : Fin 40)

theorem flat_apply {α : Type} (x : S1024x40.Idx → α) (h : S1024x40.ShapeCasts S40960) (r : Fin 40960) :
    shapeCast S40960 x h (ix1 r) = x (at2 r) :=
  shapeCast_apply x h _ _ (by
    rw [Shape.rowMajor_val_two, Shape.rowMajor_val_one]
    show r.val / 40 * 40 + r.val % 40 = r.val
    omega)

theorem list_apply (a : S1024x40.Idx → BitVec 32) (r : Fin 40960) :
    shapeCast S1x40960 (shapeCast S40960 (pairs a) shapeCasts_S1024x40_S40960) shapeCasts_S40960_S1x40960 (ixI r.val)
      = IntOp.shrsi .host (safeW (a (at2 r))) 1#32 := by
  rw [show ixI r.val = ix2 (0 : Fin 1) r from by
    unfold ixI; congr 1; exact Fin.ext (Nat.mod_eq_of_lt r.isLt)]
  rw [ValueIdx.shapeCast_a_1a_apply, flat_apply]; rfl

theorem table_apply {α : Type} (q : S100000x64.Idx → α) (h : S100000x64.ShapeCasts S50000x128) (p c : ℕ) (hp : p < 50000) (hc : c < 128) :
    shapeCast S50000x128 q h (ixX p c) = q (ix2 (⟨2 * p + c / 64, by omega⟩ : Fin 100000) (⟨c % 64, Nat.mod_lt _ (by decide)⟩ : Fin 64)) := by
  refine shapeCast_apply q h _ _ ?_
  rw [Shape.rowMajor_val_two, Shape.rowMajor_val_two]
  show (2 * p + c / 64) * 64 + c % 64 = p % 50000 * 128 + c % 128
  omega

variable (a : S1024x40.Idx → BitVec 32)

/-- The columns are not negative. -/
def NonNeg : Prop := ∀ x, IntOp.cmpi .sge (a x) 0#32 = 1#1

theorem safeR_apply (r : Fin 40960) : safeR a (ix1 r) = safeW (a (at2 r)) := flat_apply _ _ r

theorem pair_lt (h : NonNeg a) (r : Fin 40960) : (IntOp.shrsi .host (safeW (a (at2 r))) 1#32).toNat < 50000 := by
  obtain ⟨n, hn, e⟩ := safeW_nat _ (h (at2 r))
  rw [e, half_nat n hn, BitVec.toNat_ofNat]; omega

theorem rows_eq (h : NonNeg a) (q : S100000x64.Idx → F .f32) :
    res (shapeCast S50000x128 q shapeCasts_S100000x64_S50000x128)
      (shapeCast S1x40960 (shapeCast S40960 (pairs a) shapeCasts_S1024x40_S40960) shapeCasts_S40960_S1x40960) = refR q a := by
  choose n hn e using fun r : Fin 40960 => safeW_nat _ (h (at2 r))
  have hev : ∀ r : S40960.Idx, evenW (safeR a r) = BitVec.ofNat 32 (2 * (n (r 0) / 2)) := fun r => by
    obtain ⟨r, rfl⟩ : ∃ k : Fin 40960, r = ix1 k := ⟨r 0, ValueIdx.eq_ix1 r⟩
    rw [safeR_apply, e, evenW_nat _ (hn _)]
  have hod : ∀ r : S40960.Idx, addi (fun r => evenW (safeR a r)) (broadcastInDim Cert.ReferenceIdeal.S40960 ![] Cert.ReferenceIdeal.Gen.bcast_S_S40960 (constantI Cert.ReferenceIdeal.S_ 32 1#32)) r
      = BitVec.ofNat 32 (2 * (n (r 0) / 2) + 1) := fun r => by
    show evenW (safeR a r) + 1#32 = _
    rw [hev, BitVec.ofNat_add]
  funext x
  obtain ⟨r, c, rfl⟩ : ∃ (r : Fin 40960) (c : Fin 128), x = ix2 r c := ⟨x 0, x 1, ValueIdx.eq_ix2 x⟩
  have hr := hn r
  have hc := c.isLt
  unfold res
  dsimp only
  rw [show (ix2 r c 0 : Fin 40960).val = r.val from rfl, show (ix2 r c 1 : Fin 128).val = c.val from rfl, list_apply, e, half_nat _ (hn r), BitVec.toNat_ofNat,
    Nat.mod_eq_of_lt (show n r / 2 < 2 ^ 32 by omega), table_apply q _ _ _ (by omega) hc]
  unfold refR
  by_cases hlt : c.val < 64
  · rw [concatenate_pair_apply_left (t := Cert.ReferenceIdeal.S40960x128) (s₁ := Cert.ReferenceIdeal.S40960x64) 1 _ _ _ _ rfl (ix2 (n0 := 40960) (n1 := 64) r (⟨c.val, hlt⟩ : Fin 64)) (fun b => by match b with | ⟨0, _⟩ => rfl | ⟨1, _⟩ => rfl)]
    rw [takeR_apply q _ (fun r => 2 * (n (r 0) / 2)) (fun r => by have := hn (r 0); omega) hev]
    congr 1
    congr 1 <;> apply Fin.ext
    · show 2 * (n r / 2) + c.val / 64 = 2 * (n r / 2); omega
    · show c.val % 64 = c.val; omega
  · rw [concatenate_pair_apply_right (t := Cert.ReferenceIdeal.S40960x128) (s₁ := Cert.ReferenceIdeal.S40960x64) (s₂ := Cert.ReferenceIdeal.S40960x64) 1 _ _ _ (ix2 r c) rfl rfl (ix2 (n0 := 40960) (n1 := 64) r (⟨c.val - 64, by omega⟩ : Fin 64))
      (fun b hb => by match b with | ⟨0, _⟩ => rfl | ⟨1, _⟩ => exact absurd rfl hb) (Nat.sub_add_cancel (Nat.le_of_not_lt hlt))]
    rw [takeR_apply q _ (fun r => 2 * (n (r 0) / 2) + 1) (fun r => by have := hn (r 0); omega) hod]
    congr 1
    congr 1 <;> apply Fin.ext
    · show 2 * (n r / 2) + c.val / 64 = 2 * (n r / 2) + 1; omega
    · show c.val % 64 = c.val - 64; omega

end Cert.Proof.Gather

end
-- ==== Proof.Rescore.Spec.lean ====
module

public import proofs.«01_k».proof.Proof.Gen.RescoreIdeal.Skeleton
public import Idealize.ShloMosaic.Lib.Pipeline.FrameBody

/-!
What one grid step of the rescoring computes, over the blocks it loads: the forty candidate vectors, their
similarities to the query, five rounds of taking the best, the weights, and the weighted sum. Every function is
written in the step's own operations and holds at any reading of the floats.
-/

@[expose] public section

noncomputable section

namespace Cert.Proof.Rescore

open Cert.RescoreIdeal Cert.RescoreIdeal.Gen
open Idealize.ShloMosaic

variable {F : FTy → Type} [FloatOps F]

/-- A candidate's column of a table of forty lies inside the table. -/
theorem slice_col (j : Fin 40) : S512x40.Slices ![0, j.val] S512x1 := by
  revert j; decide

/-- A candidate's pair of rows lies inside the gathered block. -/
theorem pair_inb (j : Fin 40) : ∀ a, ![0, 128 * j.val] a + S512x128.size a ≤ S512x5120.size a := by
  revert j; decide

/-- The pair of rows gathered for candidate `j`. -/
def pairOf (g : Vec F S512x5120 .f32) (j : Fin 40) : Vec F S512x128 .f32 :=
  View.ld g (Rect.unit (s := S512x5120) ![0, 128 * j.val] S512x128.size (pair_inb j))

/-- Candidate `j`'s vector: the half of its pair that the parity names. -/
def cand (p : Fin 40 → Vec F S512x128 .f32) (par : Vec F S512x40 .i32) (j : Fin 40) : FVec F S512x64 .f32 :=
  select
    (broadcastTo S512x64
      (shapeCast S512x1
        (cmpi .sgt (extractStridedSlice S512x1 ![0, j.val] par (slice_col j)) (broadcast S512x1 0#32))
        shapeCasts_S512x1_S512x1)
      broadcasts_S512x1_S512x64)
    (extractStridedSlice S512x64 ![0, 64] (p j) slices_S512x128_o0_64_S512x64)
    (extractStridedSlice S512x64 ![0, 0] (p j) slices_S512x128_o0_0_S512x64)

/-- The rows scaled to length one. -/
def norm (v : FVec F S512x64 .f32) : FVec F S512x64 .f32 :=
  divf v (broadcastTo S512x64
    (maximumf
      (sqrt (shapeCast S512x1
        (multiReduction .add [1] S512 (mulf v v) 0x00000000#32 reduces_S512x64_S512 (.inl rfl) rfl)
        shapeCasts_S512_S512x1))
      (broadcast S512x1 (Scalar.ofBits .f32 0x2B8CBCCC#32)))
    broadcasts_S512x1_S512x64)

/-- The similarity of candidate `j`, a column. -/
def simCol (q : FVec F S512x64 .f32) (p : Fin 40 → Vec F S512x128 .f32) (par : Vec F S512x40 .i32) (j : Fin 40) :
    FVec F S512x1 .f32 :=
  shapeCast S512x1
    (multiReduction .add [1] S512 (mulf q (cand p par j)) 0x00000000#32 reduces_S512x64_S512 (.inl rfl) rfl)
    shapeCasts_S512_S512x1

/-- Forty columns side by side. -/
def beside (s : Fin 40 → FVec F S512x1 .f32) : FVec F S512x40 .f32 :=
  concatenate S512x40 1 (⟨S512x1, s 0⟩ :: ⟨S512x1, s 1⟩ :: ⟨S512x1, s 2⟩ :: ⟨S512x1, s 3⟩ :: ⟨S512x1, s 4⟩ :: ⟨S512x1, s 5⟩ :: ⟨S512x1, s 6⟩ :: ⟨S512x1, s 7⟩ :: ⟨S512x1, s 8⟩ :: ⟨S512x1, s 9⟩ :: ⟨S512x1, s 10⟩ :: ⟨S512x1, s 11⟩ :: ⟨S512x1, s 12⟩ :: ⟨S512x1, s 13⟩ :: ⟨S512x1, s 14⟩ :: ⟨S512x1, s 15⟩ :: ⟨S512x1, s 16⟩ :: ⟨S512x1, s 17⟩ :: ⟨S512x1, s 18⟩ :: ⟨S512x1, s 19⟩ :: ⟨S512x1, s 20⟩ :: ⟨S512x1, s 21⟩ :: ⟨S512x1, s 22⟩ :: ⟨S512x1, s 23⟩ :: ⟨S512x1, s 24⟩ :: ⟨S512x1, s 25⟩ :: ⟨S512x1, s 26⟩ :: ⟨S512x1, s 27⟩ :: ⟨S512x1, s 28⟩ :: ⟨S512x1, s 29⟩ :: ⟨S512x1, s 30⟩ :: ⟨S512x1, s 31⟩ :: ⟨S512x1, s 32⟩ :: ⟨S512x1, s 33⟩ :: ⟨S512x1, s 34⟩ :: ⟨S512x1, s 35⟩ :: ⟨S512x1, s 36⟩ :: ⟨S512x1, s 37⟩ :: ⟨S512x1, s 38⟩ :: ⟨S512x1, s 39⟩ :: [])
    concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x40_d1

/-- The similarities, with those of columns past the queue put at the bottom. -/
def start (cl : Vec F S512x40 .i32) (s : FVec F S512x40 .f32) : FVec F S512x40 .f32 :=
  select (cmpi .slt cl (broadcast S512x40 100000#32)) s (broadcast S512x40 (Scalar.ofBits .f32 0xFF800000#32))

/-- A round's best value. -/
def best (v : FVec F S512x40 .f32) : FVec F S512x1 .f32 :=
  shapeCast S512x1 (multiReduction .maximumf [1] S512 v 0xFF800000#32 reduces_S512x40_S512 (.inl rfl) rfl)
    shapeCasts_S512_S512x1

/-- The least column among those at the best value. -/
def bestCol (cl : Vec F S512x40 .i32) (v : FVec F S512x40 .f32) : IVec S512x1 32 :=
  shapeCast S512x1
    (multiReductionI .minsi [1] S512
      (select (cmpf .oeq v (broadcastTo S512x40 (best v) broadcasts_S512x1_S512x40)) cl
        (broadcast S512x40 1073741824#32) : Vec F S512x40 .i32)
      2147483647#32 reduces_S512x40_S512 rfl)
    shapeCasts_S512_S512x1

/-- Where the column table is at a column. -/
def isCol (cl : Vec F S512x40 .i32) (c : IVec S512x1 32) : IVec S512x40 1 :=
  cmpi .eq cl (broadcastTo S512x40 c broadcasts_S512x1_S512x40)

/-- A round: every slot of the best column is put at the bottom. -/
def next (cl : Vec F S512x40 .i32) (v : FVec F S512x40 .f32) : FVec F S512x40 .f32 :=
  select (isCol cl (bestCol cl v)) (broadcast S512x40 (Scalar.ofBits .f32 0xFF800000#32)) v

/-- The table after `r` rounds. -/
def after (cl : Vec F S512x40 .i32) (s : FVec F S512x40 .f32) : Nat → FVec F S512x40 .f32
  | 0 => start cl s
  | r + 1 => next cl (after cl s r)

/-- The five best values side by side. -/
def bests (cl : Vec F S512x40 .i32) (s : FVec F S512x40 .f32) : FVec F S512x5 .f32 :=
  concatenate S512x5 1 [⟨S512x1, best (after cl s 0)⟩, ⟨S512x1, best (after cl s 1)⟩, ⟨S512x1, best (after cl s 2)⟩,
    ⟨S512x1, best (after cl s 3)⟩, ⟨S512x1, best (after cl s 4)⟩]
    concatenates_S512x1_S512x1_S512x1_S512x1_S512x1_S512x5_d1

/-- The best value of all. -/
def top (v : FVec F S512x5 .f32) : FVec F S512x1 .f32 :=
  extractStridedSlice S512x1 ![0, 0] v slices_S512x5_o0_0_S512x1

/-- The exponentials of the five values' distances from the best, over the temperature. -/
def expo (v : FVec F S512x5 .f32) : FVec F S512x5 .f32 :=
  exp (divf (subf v (broadcastTo S512x5 (top v) broadcasts_S512x1_S512x5))
    (broadcast S512x5 (Scalar.ofBits .f32 0x3DCCCCCD#32)))

/-- The five weights. -/
def weigh (v : FVec F S512x5 .f32) : FVec F S512x5 .f32 :=
  divf (expo v)
    (broadcastTo S512x5
      (shapeCast S512x1 (multiReduction .add [1] S512 (expo v) 0x00000000#32 reduces_S512x5_S512 (.inl rfl) rfl)
        shapeCasts_S512_S512x1)
      broadcasts_S512x1_S512x5)

/-- One of the five columns spread over forty. -/
def spread (k : Nat) (h : S512x5.Slices ![0, k] S512x1) (w : FVec F S512x5 .f32) : FVec F S512x40 .f32 :=
  broadcastTo S512x40 (shapeCast S512x1 (extractStridedSlice S512x1 ![0, k] w h) shapeCasts_S512x1_S512x1)
    broadcasts_S512x1_S512x40

/-- Each slot's weight: that of the round which took its column, nothing for the others. -/
def slots (cl : Vec F S512x40 .i32) (s : FVec F S512x40 .f32) (w : FVec F S512x5 .f32) : FVec F S512x40 .f32 :=
  select (isCol cl (bestCol cl (after cl s 4))) (spread 4 slices_S512x5_o0_4_S512x1 w)
    (select (isCol cl (bestCol cl (after cl s 3))) (spread 3 slices_S512x5_o0_3_S512x1 w)
      (select (isCol cl (bestCol cl (after cl s 2))) (spread 2 slices_S512x5_o0_2_S512x1 w)
        (select (isCol cl (bestCol cl (after cl s 1))) (spread 1 slices_S512x5_o0_1_S512x1 w)
          (select (isCol cl (bestCol cl (after cl s 0))) (spread 0 slices_S512x5_o0_0_S512x1 w)
            (broadcast S512x40 (Scalar.ofBits .f32 0x00000000#32))))))

/-- The weighted sum with candidate `j` added to it. -/
def addOne (wt : FVec F S512x40 .f32) (p : Fin 40 → Vec F S512x128 .f32) (par : Vec F S512x40 .i32)
    (acc : FVec F S512x64 .f32) (j : Fin 40) : FVec F S512x64 .f32 :=
  addf acc (mulf
    (broadcastTo S512x64 (extractStridedSlice S512x1 ![0, j.val] wt (slice_col j)) broadcasts_S512x1_S512x64)
    (cand p par j))

/-- The weighted sum of the first `n` candidates. -/
def sumTo (wt : FVec F S512x40 .f32) (p : Fin 40 → Vec F S512x128 .f32) (par : Vec F S512x40 .i32) :
    (n : Nat) → n ≤ 40 → FVec F S512x64 .f32
  | 0, _ => broadcast S512x64 (Scalar.ofBits .f32 0x00000000#32)
  | n + 1, h => addOne wt p par (sumTo wt p par n (Nat.le_of_succ_le h)) ⟨n, h⟩

end Cert.Proof.Rescore
-- ==== Proof.Rescore.Elem.lean ====
module

public import proofs.«01_k».proof.Proof.Rescore.Spec
public import Idealize.ShloMosaic.Lib.Pointwise

/-!
The rescoring step's vectors at an index, the floats read as extended reals: each operation on a row of its own.
-/

@[expose] public section

noncomputable section

namespace Cert.Proof.Rescore

open Cert.RescoreIdeal Cert.RescoreIdeal.Gen
open Idealize.ShloMosaic

/-- The pattern of minus infinity. -/
theorem negInf : Ideal.ofBits .f32 0xFF800000#32 = ⊥ := by
  simp [Ideal.ofBits, Ideal.ieee]

/-- A row scaled to length one. -/
def nrm (v : Fin 64 → EReal) (d : Fin 64) : EReal :=
  Ideal.div (v d) (max (Ideal.sqrt (∑ k, v k * v k)) (Ideal.ofBits .f32 0x2B8CBCCC#32))

theorem norm_apply (v : FVec Ideal S512x64 .f32) (r : Fin 512) (d : Fin 64) :
    norm v (ix2 r d) = nrm (fun k => v (ix2 r k)) d := by
  unfold norm nrm
  pointwise

theorem pairOf_apply (g : Vec Ideal S512x5120 .f32) (j : Fin 40) (r : Fin 512) (d : Fin 128) :
    pairOf g j (ix2 r d) = g (ix2 r ⟨128 * j.val + d.val, by omega⟩) := by
  unfold pairOf
  pointwise

/-- Candidate `j`'s vector, of a row of gathered pairs. -/
def vec (g : Fin 5120 → EReal) (p : Fin 40 → BitVec 32) (j : Fin 40) (d : Fin 64) : EReal :=
  if (0#32).slt (p j) then g ⟨128 * j.val + (64 + d.val), by omega⟩ else g ⟨128 * j.val + d.val, by omega⟩

theorem cand_apply (g : Vec Ideal S512x5120 .f32) (par : Vec Ideal S512x40 .i32) (j : Fin 40) (r : Fin 512) (d : Fin 64) :
    cand (pairOf g) par j (ix2 r d) = vec (fun k => g (ix2 r k)) (fun k => par (ix2 r k)) j d := by
  unfold cand vec
  pointwise [pairOf_apply]
  exact Scalar.select_ofBool _ _ _

theorem simCol_apply (q : FVec Ideal S512x64 .f32) (p : Fin 40 → Vec Ideal S512x128 .f32) (par : Vec Ideal S512x40 .i32) (j : Fin 40)
    (r : Fin 512) (z : Fin 1) : simCol q p par j (ix2 r z) = ∑ d, q (ix2 r d) * cand p par j (ix2 r d) := by
  unfold simCol
  pointwise

theorem beside_apply (s : Fin 40 → FVec Ideal S512x1 .f32) (r : Fin 512) (j : Fin 40) :
    beside s (ix2 r j) = s j (ix2 r 0) := by
  have e : beside s = concatenate S512x40 1 (List.ofFn fun n : Fin 40 => (⟨S512x1, s n⟩ : (s : Shape) × (s.Idx → EReal)))
    concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x40_d1 := rfl
  rw [e]
  pointwise

theorem start_apply (cl : Vec Ideal S512x40 .i32) (s : FVec Ideal S512x40 .f32) (r : Fin 512) (j : Fin 40) :
    start cl s (ix2 r j) = if (cl (ix2 r j)).slt 100000#32 then s (ix2 r j) else ⊥ := by
  unfold start
  pointwise
  rw [negInf]; exact Scalar.select_ofBool _ _ _

theorem best_apply (v : FVec Ideal S512x40 .f32) (r : Fin 512) (z : Fin 1) :
    best v (ix2 r z) = Finset.univ.sup fun j => v (ix2 r j) := by
  unfold best
  pointwise
  rw [negInf]; rfl

theorem bestCol_apply (cl : Vec Ideal S512x40 .i32) (v : FVec Ideal S512x40 .f32) (r : Fin 512) (z : Fin 1) :
    bestCol cl v (ix2 r z) = Finset.univ.fold IntOp.minsi 2147483647#32
      fun j => if v (ix2 r j) = best v (ix2 r 0) then cl (ix2 r j) else 1073741824#32 := by
  unfold bestCol
  pointwise

theorem isCol_apply (cl : Vec Ideal S512x40 .i32) (c : IVec S512x1 32) (r : Fin 512) (j : Fin 40) :
    isCol cl c (ix2 r j) = BitVec.ofBool (cl (ix2 r j) == c (ix2 r 0)) := by
  unfold isCol
  pointwise
  rfl

theorem next_apply (cl : Vec Ideal S512x40 .i32) (v : FVec Ideal S512x40 .f32) (r : Fin 512) (j : Fin 40) :
    next cl v (ix2 r j) = if cl (ix2 r j) = bestCol cl v (ix2 r 0) then ⊥ else v (ix2 r j) := by
  unfold next
  pointwise [isCol_apply]
  simp only [beq_iff_eq, negInf]

theorem bests_apply (cl : Vec Ideal S512x40 .i32) (s : FVec Ideal S512x40 .f32) (r : Fin 512) (k : Fin 5) :
    bests cl s (ix2 r k) = best (after cl s k.val) (ix2 r 0) := by
  have e : bests cl s = concatenate S512x5 1 (List.ofFn fun n : Fin 5 => (⟨S512x1, best (after cl s n.val)⟩ : (s : Shape) × (s.Idx → EReal)))
    concatenates_S512x1_S512x1_S512x1_S512x1_S512x1_S512x5_d1 := rfl
  rw [e]
  pointwise

theorem top_apply (v : FVec Ideal S512x5 .f32) (r : Fin 512) (z : Fin 1) : top v (ix2 r z) = v (ix2 r 0) := by
  unfold top
  pointwise

/-- The temperature. -/
def temp : EReal := Ideal.ofBits .f32 0x3DCCCCCD#32

theorem expo_apply (v : FVec Ideal S512x5 .f32) (r : Fin 512) (k : Fin 5) :
    expo v (ix2 r k) = Ideal.exp (Ideal.div (v (ix2 r k) - v (ix2 r 0)) temp) := by
  unfold expo temp
  pointwise [top_apply]

theorem weigh_apply (v : FVec Ideal S512x5 .f32) (r : Fin 512) (k : Fin 5) :
    weigh v (ix2 r k) = Ideal.div (expo v (ix2 r k)) (∑ i, expo v (ix2 r i)) := by
  unfold weigh
  pointwise

theorem spread_apply (k : Fin 5) (h : S512x5.Slices ![0, k.val] S512x1) (w : FVec Ideal S512x5 .f32) (r : Fin 512) (j : Fin 40) :
    spread k.val h w (ix2 r j) = w (ix2 r k) := by
  unfold spread
  pointwise

theorem slots_apply (cl : Vec Ideal S512x40 .i32) (s : FVec Ideal S512x40 .f32) (w : FVec Ideal S512x5 .f32) (r : Fin 512) (j : Fin 40) :
    slots cl s w (ix2 r j) =
      if cl (ix2 r j) = bestCol cl (after cl s 4) (ix2 r 0) then w (ix2 r 4) else
      if cl (ix2 r j) = bestCol cl (after cl s 3) (ix2 r 0) then w (ix2 r 3) else
      if cl (ix2 r j) = bestCol cl (after cl s 2) (ix2 r 0) then w (ix2 r 2) else
      if cl (ix2 r j) = bestCol cl (after cl s 1) (ix2 r 0) then w (ix2 r 1) else
      if cl (ix2 r j) = bestCol cl (after cl s 0) (ix2 r 0) then w (ix2 r 0) else 0 := by
  unfold slots
  pointwise [isCol_apply]
  simp only [beq_iff_eq]
  rw [show spread 4 slices_S512x5_o0_4_S512x1 w (ix2 r j) = w (ix2 r 4) from spread_apply 4 _ w r j,
    show spread 3 slices_S512x5_o0_3_S512x1 w (ix2 r j) = w (ix2 r 3) from spread_apply 3 _ w r j,
    show spread 2 slices_S512x5_o0_2_S512x1 w (ix2 r j) = w (ix2 r 2) from spread_apply 2 _ w r j,
    show spread 1 slices_S512x5_o0_1_S512x1 w (ix2 r j) = w (ix2 r 1) from spread_apply 1 _ w r j,
    show spread 0 slices_S512x5_o0_0_S512x1 w (ix2 r j) = w (ix2 r 0) from spread_apply 0 _ w r j]

theorem sumTo_apply (wt : FVec Ideal S512x40 .f32) (p : Fin 40 → Vec Ideal S512x128 .f32) (par : Vec Ideal S512x40 .i32)
    (r : Fin 512) (d : Fin 64) : ∀ (n : Nat) (h : n ≤ 40),
    sumTo wt p par n h (ix2 r d) = ∑ k : Fin n, wt (ix2 r (k.castLE h)) * cand p par (k.castLE h) (ix2 r d)
  | 0, _ => by unfold sumTo; pointwise; rfl
  | n + 1, h => by
    unfold sumTo addOne
    pointwise
    rw [Fin.sum_univ_castSucc, sumTo_apply wt p par r d n]; rfl

end Cert.Proof.Rescore
-- ==== Proof.Rescore.Pick.lean ====
module

public import Idealize.ShloMosaic.Lib.SortPrefix
public import Mathlib.Data.EReal.Basic
public import Mathlib.Data.Finset.Lattice.Fold
public import Mathlib.Data.Nat.Find

/-!
Taking the best of a set of columns again and again, and sorting the columns by what they hold. A slot `j` stands for
column `c j` with the value `s j`; a column past the end `Q` counts for nothing. Each round takes the greatest value and
the least column that has it, then puts every slot of that column at the bottom. While the slots name enough different
columns, the rounds take the columns in the order of a stable sort of all the columns by their values.
-/

@[expose] public section

noncomputable section

namespace Cert.Proof.Rescore.Pick

open Idealize.ShloMosaic

variable {n : Nat} (Q : Nat) (c : Fin n → Nat) (s : Fin n → EReal)

/-- The greatest value. -/
def best (v : Fin n → EReal) : EReal := Finset.univ.sup v

/-- The least column that has it. -/
def pick (v : Fin n → EReal) : Nat :=
  open Classical in if h : ∃ x, ∃ j, v j = best v ∧ c j = x then Nat.find h else 0

/-- The slots' values after `r` rounds. -/
def val : Nat → Fin n → EReal
  | 0, j => if c j < Q then s j else ⊥
  | r + 1, j => if c j = pick c (val r) then ⊥ else val r j

/-- The column round `r` takes. -/
def pk (r : Nat) : Nat := pick c (val Q c s r)

/-- What a column holds: the greatest value of its slots. -/
def over (x : Nat) : EReal := Finset.univ.sup fun j => if c j = x then s j else ⊥

theorem val_eq (r : Nat) (j : Fin n) : val Q c s r j = if ∃ i < r, c j = pk Q c s i then ⊥ else val Q c s 0 j := by
  induction r with
  | zero => simp
  | succ r ih =>
    show (if c j = pk Q c s r then ⊥ else val Q c s r j) = _
    rw [ih]
    by_cases h : c j = pk Q c s r
    · rw [if_pos h, if_pos ⟨r, Nat.lt_succ_self r, h⟩]
    · rw [if_neg h]
      by_cases h' : ∃ i < r, c j = pk Q c s i
      · obtain ⟨i, hi, e⟩ := h'
        rw [if_pos ⟨i, hi, e⟩, if_pos ⟨i, Nat.lt_succ_of_lt hi, e⟩]
      · rw [if_neg h', if_neg]
        rintro ⟨i, hi, e⟩
        rcases Nat.lt_succ_iff_lt_or_eq.mp hi with hi | rfl
        · exact h' ⟨i, hi, e⟩
        · exact h e

/-- A slot not taken yet, of a column inside, has its own value. -/
theorem val_free {r : Nat} {j : Fin n} (hq : c j < Q) (hr : ∀ i < r, c j ≠ pk Q c s i) : val Q c s r j = s j := by
  rw [val_eq, if_neg (by rintro ⟨i, hi, e⟩; exact hr i hi e)]
  show (if c j < Q then s j else ⊥) = _
  rw [if_pos hq]

/-- A slot not at the bottom is of a column inside, not taken yet. -/
theorem of_val_ne {r : Nat} {j : Fin n} (h : val Q c s r j ≠ ⊥) : c j < Q ∧ ∀ i < r, c j ≠ pk Q c s i := by
  rw [val_eq] at h
  by_cases h' : ∃ i < r, c j = pk Q c s i
  · rw [if_pos h'] at h; exact absurd rfl h
  · rw [if_neg h'] at h
    refine ⟨?_, fun i hi e => h' ⟨i, hi, e⟩⟩
    by_contra hq
    exact h (if_neg hq)

theorem le_best (v : Fin n → EReal) (j : Fin n) : v j ≤ best v := Finset.le_sup (Finset.mem_univ j)

theorem best_mem (v : Fin n → EReal) (h : best v ≠ ⊥) : ∃ j, v j = best v := by
  have hne : (Finset.univ : Finset (Fin n)).Nonempty := by
    rw [Finset.nonempty_iff_ne_empty]; intro e; apply h; unfold best; rw [e]; exact Finset.sup_empty
  obtain ⟨j, _, hj⟩ := Finset.exists_mem_eq_sup Finset.univ hne v
  exact ⟨j, hj.symm⟩

theorem pick_mem (v : Fin n → EReal) (h : ∃ j, v j = best v) : ∃ j, v j = best v ∧ c j = pick c v := by
  classical
  have h' : ∃ x, ∃ j, v j = best v ∧ c j = x := by obtain ⟨j, hj⟩ := h; exact ⟨c j, j, hj, rfl⟩
  unfold pick; rw [dif_pos h']
  exact Nat.find_spec h'

theorem pick_le (v : Fin n → EReal) (j : Fin n) (h : v j = best v) : pick c v ≤ c j := by
  classical
  have h' : ∃ x, ∃ j, v j = best v ∧ c j = x := ⟨c j, j, h, rfl⟩
  unfold pick; rw [dif_pos h']
  exact Nat.find_min' h' ⟨j, h, rfl⟩

section rounds

variable (K : Nat) (hs : ∀ j, s j ≠ ⊥)
    (hK : K ≤ ((Finset.univ.filter fun j => c j < Q).image c).card)
include hs hK

/-- While enough columns are left, a round's best is not the bottom. -/
theorem best_ne {r : Nat} (hr : r < K) : best (val Q c s r) ≠ ⊥ := by
  classical
  have hlt : ((Finset.range r).image (pk Q c s)).card < ((Finset.univ.filter fun j => c j < Q).image c).card :=
    lt_of_le_of_lt (Finset.card_image_le.trans (Finset.card_range r).le) (lt_of_lt_of_le hr hK)
  obtain ⟨x, hx, hx'⟩ := Finset.exists_mem_notMem_of_card_lt_card hlt
  obtain ⟨j, hj, rfl⟩ := Finset.mem_image.mp hx
  have hq : c j < Q := (Finset.mem_filter.mp hj).2
  have hf : ∀ i < r, c j ≠ pk Q c s i := fun i hi e => hx' (Finset.mem_image.mpr ⟨i, Finset.mem_range.mpr hi, e.symm⟩)
  intro e
  have := le_best (val Q c s r) j
  rw [e, val_free Q c s hq hf] at this
  exact hs j (le_bot_iff.mp this)

/-- The slot a round takes. -/
theorem taken {r : Nat} (hr : r < K) :
    ∃ j, c j = pk Q c s r ∧ s j = best (val Q c s r) ∧ c j < Q ∧ ∀ i < r, c j ≠ pk Q c s i := by
  have hb := best_ne Q c s K hs hK hr
  obtain ⟨j, hj, hc⟩ := pick_mem c (val Q c s r) (best_mem _ hb)
  obtain ⟨hq, hf⟩ := of_val_ne Q c s (r := r) (j := j) (by rw [hj]; exact hb)
  exact ⟨j, hc, by rw [← hj, val_free Q c s hq hf], hq, hf⟩

theorem pk_lt {r : Nat} (hr : r < K) : pk Q c s r < Q := by
  obtain ⟨j, h, _, hq, _⟩ := taken Q c s K hs hK hr
  exact h ▸ hq

theorem pk_ne {r : Nat} (hr : r < K) {i : Nat} (hi : i < r) : pk Q c s r ≠ pk Q c s i := by
  obtain ⟨j, h, _, _, hf⟩ := taken Q c s K hs hK hr
  exact h ▸ hf i hi

/-- Two rounds take different columns. -/
theorem pk_inj {r r' : Nat} (hr : r < K) (hr' : r' < K) (h : pk Q c s r = pk Q c s r') : r = r' := by
  rcases Nat.lt_trichotomy r r' with h' | h' | h'
  · exact absurd h.symm (pk_ne Q c s K hs hK hr' h')
  · exact h'
  · exact absurd h (pk_ne Q c s K hs hK hr h')

/-- A column not taken before round `r` holds at most the round's best. -/
theorem over_le {r : Nat} (x : Nat) (hx : x < Q) (hf : ∀ i < r, x ≠ pk Q c s i) :
    over c s x ≤ best (val Q c s r) := by
  refine Finset.sup_le fun j _ => ?_
  split
  · rename_i e
    rw [← val_free Q c s (r := r) (j := j) (e ▸ hx) (fun i hi => e ▸ hf i hi)]
    exact le_best _ j
  · exact bot_le

/-- The column a round takes holds the round's best. -/
theorem over_pk {r : Nat} (hr : r < K) : over c s (pk Q c s r) = best (val Q c s r) := by
  refine le_antisymm (over_le Q c s K hs hK _ (pk_lt Q c s K hs hK hr) fun i hi => pk_ne Q c s K hs hK hr hi) ?_
  obtain ⟨j, h, hj, _, _⟩ := taken Q c s K hs hK hr
  rw [← hj]
  exact le_trans (by rw [if_pos h]) (Finset.le_sup (f := fun j => if c j = pk Q c s r then s j else ⊥) (Finset.mem_univ j))

/-- Among the columns not taken before, those that hold the best are not below the one the round takes. -/
theorem pk_le {r : Nat} (hr : r < K) (x : Nat) (hx : x < Q) (hf : ∀ i < r, x ≠ pk Q c s i)
    (h : over c s x = best (val Q c s r)) : pk Q c s r ≤ x := by
  have hb := best_ne Q c s K hs hK hr
  have hne : (Finset.univ : Finset (Fin n)).Nonempty := by
    obtain ⟨j, _⟩ := taken Q c s K hs hK hr
    exact ⟨j, Finset.mem_univ j⟩
  obtain ⟨j, _, hj⟩ := Finset.exists_mem_eq_sup Finset.univ hne fun j => if c j = x then s j else ⊥
  have hj' : (if c j = x then s j else ⊥) = best (val Q c s r) := hj.symm.trans h
  by_cases e : c j = x
  · rw [if_pos e, ← val_free Q c s (r := r) (j := j) (e ▸ hx) (fun i hi => e ▸ hf i hi)] at hj'
    exact e ▸ pick_le c _ j hj'
  · rw [if_neg e] at hj'
    exact absurd hj'.symm hb

end rounds

/-! ## The sort -/

/-- One column comes before another: it holds more, or as much and is the lower. -/
def ahead (k : Fin Q → EReal) (x y : Fin Q) : Bool :=
  decide (k y < k x) || (decide (k x = k y) && decide (x < y))

theorem ahead_total (k : Fin Q → EReal) : StrictTotalBefore (ahead Q k) :=
  StrictTotalBefore.of_key_then_position (fun a b => decide (b < a)) k (fun a => by simp)
    (fun a b d h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

theorem not_ahead {K : Nat} (hs : ∀ j, s j ≠ ⊥) (hK : K ≤ ((Finset.univ.filter fun j => c j < Q).image c).card)
    {r : Nat} (hr : r < K) (p y : Fin Q) (hy : y.val = pk Q c s r) (hf : ∀ i < r, p.val ≠ pk Q c s i) :
    ahead Q (fun x => over c s x.val) p y = false := by
  unfold ahead
  have h1 := over_le Q c s K hs hK (r := r) p.val p.isLt hf
  have h2 := over_pk Q c s K hs hK hr
  simp only [Bool.or_eq_false_iff, Bool.and_eq_false_iff, decide_eq_false_iff_not]
  rw [hy, h2]
  refine ⟨not_lt.mpr h1, ?_⟩
  by_cases e : over c s p.val = best (val Q c s r)
  · right
    have := pk_le Q c s K hs hK hr p.val p.isLt hf e
    rw [Fin.lt_def, hy]; omega
  · left; exact e

/-- The sort's first `K` columns are those the rounds take. -/
theorem sorted_eq {K : Nat} (hs : ∀ j, s j ≠ ⊥) (hK : K ≤ ((Finset.univ.filter fun j => c j < Q).image c).card)
    (hQ : K ≤ Q) (i : Fin K) :
    (sortedFrom (ahead Q fun x => over c s x.val) (i.castLE hQ)).val = pk Q c s i.val := by
  have h := (ahead_total Q fun x => over c s x.val).sortedFrom_eq_of_prefix hQ
    (fun i => ⟨pk Q c s i.val, pk_lt Q c s K hs hK i.isLt⟩)
    (fun i j e => Fin.ext (pk_inj Q c s K hs hK i.isLt j.isLt (Fin.mk.inj e)))
    (fun i j hij => not_ahead Q c s hs hK i.isLt _ _ rfl fun k hk => pk_ne Q c s K hs hK j.isLt (lt_trans hk hij))
    (fun i p hp => not_ahead Q c s hs hK i.isLt _ _ rfl fun k hk e => hp ⟨k, lt_trans hk i.isLt⟩ (Fin.ext e.symm)) i
  rw [h]

/-! ## A stable sort breaks ties by position -/

theorem insert_congr {ι : Type} (R B : ι → ι → Bool) (a : ι) (l : List ι) (h : ∀ b ∈ l, R b a = B b a) :
    insertBefore R a l = insertBefore B a l := insertBefore_congr R B a l h

theorem stable_congr {ι : Type} (R B : ι → ι → Bool) (l : List ι) (h : l.Pairwise fun a b => R b a = B b a) :
    stableSort R l = stableSort B l := by
  induction l with
  | nil => rfl
  | cons a l ih =>
    rw [List.pairwise_cons] at h
    unfold stableSort
    rw [ih h.2]
    exact insert_congr R B a _ fun b hb => h.1 b ((perm_stableSort B l).mem_iff.mp hb)

/-- Sorting stably by the values alone is sorting by the values and then the positions. -/
theorem sorted_by_value (k : Fin Q → EReal) (R : Fin Q → Fin Q → Bool) (hR : ∀ x y, R x y = decide (k y < k x)) :
    sortedFrom R = sortedFrom (ahead Q k) := by
  have : sortPositions Q R = sortPositions Q (ahead Q k) := by
    refine stable_congr R (ahead Q k) (List.finRange Q) ?_
    refine (List.pairwise_lt_finRange Q).imp fun {a b} hab => ?_
    rw [hR]; unfold ahead
    have : decide (b < a) = false := decide_eq_false (not_lt.mpr hab.le)
    rw [this, Bool.and_false, Bool.or_false]
  funext i
  unfold sortedFrom
  rw [List.get_eq_getElem, List.get_eq_getElem]
  exact List.getElem_of_eq this _

end Cert.Proof.Rescore.Pick
-- ==== Proof.Rescore.Row.lean ====
module

public import proofs.«01_k».proof.Proof.Rescore.Elem
public import proofs.«01_k».proof.Proof.Rescore.Pick
public import Idealize.ShloMosaic.Lib.SortNet.Extract

/-!
One row of the problem, as plain functions on the extended reals: similarities, the five best columns, their weights,
each slot's share, and the retrieved vector. Then the rescoring step's vectors at a row are these functions of the row.
-/

@[expose] public section

noncomputable section

namespace Cert.Proof.Rescore

open Cert.RescoreIdeal Cert.RescoreIdeal.Gen
open Idealize.ShloMosaic

/-! ## The functions of a row -/

namespace Row

variable (q : Fin 64 → EReal) (g : Fin 5120 → EReal) (cl par : Fin 40 → BitVec 32)

/-- A slot's column. -/
def col (j : Fin 40) : Nat := (cl j).toNat

/-- A slot's similarity to the query. -/
def sim (j : Fin 40) : EReal := ∑ d, nrm q d * vec g par j d

/-- The `k`-th best value over the queue. -/
def top (k : Nat) : EReal := Pick.best (Pick.val 100000 (col cl) (sim q g par) k)

/-- The `k`-th best column. -/
def colAt (k : Nat) : Nat := Pick.pk 100000 (col cl) (sim q g par) k

/-- The exponential of a best value's distance from the first, over the temperature. -/
def ex (k : Fin 5) : EReal := Ideal.exp (Ideal.div (top q g cl par k.val - top q g cl par 0) temp)

/-- The weights. -/
def weight (k : Fin 5) : EReal := Ideal.div (ex q g cl par k) (∑ i, ex q g cl par i)

/-- A slot's share: the weight of its column if that is among the best. -/
def share (j : Fin 40) : EReal := ∑ k : Fin 5, if col cl j = colAt q g cl par k.val then weight q g cl par k else 0

/-- The retrieved vector. -/
def out (d : Fin 64) : EReal := nrm (fun d => ∑ j, share q g cl par j * vec g par j d) d

/-- What is asked of a row: finite floats, no column below zero, five different columns of the queue. -/
structure Ok : Prop where
  query : ∀ d, q d ≠ ⊥ ∧ q d ≠ ⊤
  rows : ∀ d, g d ≠ ⊥ ∧ g d ≠ ⊤
  low : ∀ j, (cl j).toNat < 2 ^ 31
  five : 5 ≤ ((Finset.univ.filter fun j => col cl j < 100000).image (col cl)).card

end Row

/-! ## Finite floats -/

/-- The least length a row is divided by is a positive real. -/
theorem eps_real : ∃ e : ℝ, 0 < e ∧ Ideal.ofBits .f32 0x2B8CBCCC#32 = (e : EReal) := by
  refine ⟨_, ?_, by simp [Ideal.ofBits, Ideal.ieee, -EReal.coe_mul]; rfl⟩
  norm_num

/-- The temperature is a positive real. -/
theorem temp_real : ∃ e : ℝ, 0 < e ∧ temp = (e : EReal) := by
  refine ⟨_, ?_, by unfold temp; simp [Ideal.ofBits, Ideal.ieee, -EReal.coe_mul]; rfl⟩
  norm_num

theorem real_of (x : EReal) (h : x ≠ ⊥ ∧ x ≠ ⊤) : ∃ r : ℝ, x = r :=
  ⟨x.toReal, (EReal.coe_toReal h.2 h.1).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) y := EReal.coe_strictMono.monotone.map_max

theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem nrm_real (v : Fin 64 → EReal) (h : ∀ d, ∃ r : ℝ, v d = r) (d : Fin 64) : ∃ r : ℝ, nrm v d = r := by
  obtain ⟨e, he, hE⟩ := eps_real
  obtain ⟨s, hs⟩ := sum_real Finset.univ (fun k => v k * v k) fun k _ => mul_real (h k) (h k)
  have hm : ∃ y : ℝ, y ≠ 0 ∧ max (Ideal.sqrt (s : EReal)) (e : EReal) = y := by
    by_cases hn : 0 ≤ s
    · refine ⟨max (Real.sqrt s) e, (lt_of_lt_of_le he (le_max_right _ _)).ne', ?_⟩
      rw [coe_max]
      show max (if s < 0 then ⊥ else ((Real.sqrt s : ℝ) : EReal)) _ = _
      rw [if_neg (not_lt.mpr hn)]
    · refine ⟨e, he.ne', ?_⟩
      show max (if s < 0 then ⊥ else ((Real.sqrt s : ℝ) : EReal)) _ = _
      rw [if_pos (not_le.mp hn), max_eq_right bot_le]
  obtain ⟨y, hy, hY⟩ := hm
  unfold nrm
  rw [hs, hE, hY, Ideal.div_coe hy]
  exact mul_real (h d) ⟨_, rfl⟩

namespace Row

variable {q : Fin 64 → EReal} {g : Fin 5120 → EReal} {cl par : Fin 40 → BitVec 32}

theorem vec_real (h : Ok q g cl) (j : Fin 40) (d : Fin 64) : ∃ r : ℝ, vec g par j d = r := by
  unfold vec; split <;> exact real_of _ (h.rows _)

theorem sim_real (h : Ok q g cl) (j : Fin 40) : ∃ r : ℝ, sim q g par j = r :=
  sum_real _ _ fun d _ => mul_real (nrm_real q (fun d => real_of _ (h.query d)) d) (vec_real h j d)

theorem sim_ne (h : Ok q g cl) (j : Fin 40) : sim q g par j ≠ ⊥ := by
  obtain ⟨r, hr⟩ := sim_real (par := par) h j
  rw [hr]; exact EReal.coe_ne_bot r

theorem top_ne (h : Ok q g cl) {k : Nat} (hk : k < 5) : top q g cl par k ≠ ⊥ :=
  Pick.best_ne 100000 (col cl) (sim q g par) 5 (sim_ne h) h.five hk

theorem top_real (h : Ok q g cl) {k : Nat} (hk : k < 5) : ∃ r : ℝ, top q g cl par k = r := by
  obtain ⟨j, _, hj, _, _⟩ := Pick.taken 100000 (col cl) (sim q g par) 5 (sim_ne h) h.five hk
  obtain ⟨r, hr⟩ := sim_real (par := par) h j
  exact ⟨r, by unfold top; rw [← hj, hr]⟩

theorem top_le_zero (h : Ok q g cl) {k : Nat} (hk : k < 5) : top q g cl par k ≤ top q g cl par 0 := by
  obtain ⟨j, _, hj, hq, _⟩ := Pick.taken 100000 (col cl) (sim q g par) 5 (sim_ne h) h.five hk
  have := Pick.le_best (Pick.val 100000 (col cl) (sim q g par) 0) j
  rw [Pick.val_free 100000 (col cl) (sim q g par) hq fun i hi => absurd hi (by omega)] at this
  unfold top; rw [← hj]; exact this

end Row

/-! ## The least column as a fold of the words -/

theorem fold_minsi {n : Nat} (b : BitVec 32) (f : Fin n → BitVec 32) :
    (Finset.univ.fold IntOp.minsi b f).toInt = Finset.univ.fold min b.toInt fun j => (f j).toInt := by
  exact (Finset.fold_hom (op := IntOp.minsi) (op' := min) (m := BitVec.toInt) (fun x y => SortNet.toInt_minsi x y)).symm

theorem fold_least {n : Nat} (b x : BitVec 32) (f : Fin n → BitVec 32) (hb : x.toInt ≤ b.toInt) (hm : ∃ j, f j = x)
    (hl : ∀ j, x.toInt ≤ (f j).toInt) : Finset.univ.fold IntOp.minsi b f = x := by
  apply BitVec.eq_of_toInt_eq
  rw [fold_minsi]
  obtain ⟨j, hj⟩ := hm
  apply le_antisymm
  · exact (Finset.fold_min_le _).mpr (Or.inr ⟨j, Finset.mem_univ j, by rw [hj]⟩)
  · exact (Finset.le_fold_min _).mpr ⟨hb, fun j _ => hl j⟩

theorem toInt_of_low (x : BitVec 32) (h : x.toNat < 2 ^ 31) : x.toInt = x.toNat := by
  rw [BitVec.toInt_eq_toNat_of_lt (by omega)]

/-! ## The step's rounds -/

section rounds

variable (cl : Vec Ideal S512x40 .i32) (s : FVec Ideal S512x40 .f32) (r : Fin 512)

theorem bestCol_pick (v : FVec Ideal S512x40 .f32) (hl : ∀ j, (cl (ix2 r j)).toNat < 2 ^ 31)
    (hq : ∀ j, v (ix2 r j) ≠ ⊥ → (cl (ix2 r j)).toNat < 100000) (hb : Pick.best (fun j => v (ix2 r j)) ≠ ⊥) :
    (bestCol cl v (ix2 r 0)).toNat = Pick.pick (Row.col fun j => cl (ix2 r j)) fun j => v (ix2 r j) := by
  have hbest : best v (ix2 r 0) = Pick.best fun j => v (ix2 r j) := best_apply v r 0
  obtain ⟨j, hj, hc⟩ := Pick.pick_mem (Row.col fun j => cl (ix2 r j)) _ (Pick.best_mem _ hb)
  have hjq : (cl (ix2 r j)).toNat < 100000 := hq j (by rw [hj]; exact hb)
  have : bestCol cl v (ix2 r 0) = cl (ix2 r j) := by
    rw [bestCol_apply, hbest]
    apply fold_least
    · rw [toInt_of_low _ (hl j)]
      rw [show (2147483647#32).toInt = 2147483647 by decide]; omega
    · exact ⟨j, by rw [if_pos hj]⟩
    · intro i
      rw [toInt_of_low _ (hl j)]
      split
      · rename_i hi
        rw [toInt_of_low _ (hl i)]
        have := Pick.pick_le (Row.col fun j => cl (ix2 r j)) (fun j => v (ix2 r j)) i hi
        rw [← hc] at this
        exact Int.ofNat_le.mpr this
      · rw [show (1073741824#32).toInt = 1073741824 by decide]; omega
  rw [this, ← hc]; rfl

theorem bestCol_step (hl : ∀ j, (cl (ix2 r j)).toNat < 2 ^ 31) (hs : ∀ j, s (ix2 r j) ≠ ⊥) (K : Nat)
    (hK : K ≤ ((Finset.univ.filter fun j => Row.col (fun j => cl (ix2 r j)) j < 100000).image (Row.col fun j => cl (ix2 r j))).card)
    (k : Nat) (hk : k < K)
    (ih : (fun j => after cl s k (ix2 r j)) = Pick.val 100000 (Row.col fun j => cl (ix2 r j)) (fun j => s (ix2 r j)) k) (j : Fin 40) :
    (cl (ix2 r j) = bestCol cl (after cl s k) (ix2 r 0)) =
      (Row.col (fun j => cl (ix2 r j)) j = Pick.pk 100000 (Row.col fun j => cl (ix2 r j)) (fun j => s (ix2 r j)) k) := by
  have hp : (bestCol cl (after cl s k) (ix2 r 0)).toNat = Pick.pk 100000 (Row.col fun j => cl (ix2 r j)) (fun j => s (ix2 r j)) k := by
    rw [bestCol_pick cl r (after cl s k) hl, ih]; · rfl
    · intro j hj
      have e := congrFun ih j
      rw [e] at hj
      exact (Pick.of_val_ne _ _ _ hj).1
    · rw [ih]; exact Pick.best_ne _ _ _ K hs hK (by omega)
  rw [← hp]; exact propext ⟨fun h => by rw [← h]; rfl, fun h => BitVec.eq_of_toNat_eq h⟩

theorem after_val (hl : ∀ j, (cl (ix2 r j)).toNat < 2 ^ 31) (hs : ∀ j, s (ix2 r j) ≠ ⊥) (K : Nat)
    (hK : K ≤ ((Finset.univ.filter fun j => Row.col (fun j => cl (ix2 r j)) j < 100000).image (Row.col fun j => cl (ix2 r j))).card) :
    ∀ k, k ≤ K → (fun j => after cl s k (ix2 r j)) = Pick.val 100000 (Row.col fun j => cl (ix2 r j)) (fun j => s (ix2 r j)) k
  | 0, _ => by
    funext j
    show start cl s (ix2 r j) = _
    rw [start_apply]
    unfold Pick.val Row.col
    have : (cl (ix2 r j)).slt 100000#32 = decide ((cl (ix2 r j)).toNat < 100000) := by
      rw [BitVec.slt_eq_decide, toInt_of_low _ (hl j), show (100000#32).toInt = 100000 by decide]
      congr 1; exact propext (by omega)
    rw [this]; simp only [decide_eq_true_eq]
  | k + 1, hk => by
    have ih := after_val hl hs K hK k (by omega)
    funext j
    show next cl (after cl s k) (ix2 r j) = _
    rw [next_apply, show after cl s k (ix2 r j) = _ from congrFun ih j]
    simp only [bestCol_step cl s r hl hs K hK k (by omega) ih]; rfl

theorem bestCol_pk (hl : ∀ j, (cl (ix2 r j)).toNat < 2 ^ 31) (hs : ∀ j, s (ix2 r j) ≠ ⊥) (K : Nat)
    (hK : K ≤ ((Finset.univ.filter fun j => Row.col (fun j => cl (ix2 r j)) j < 100000).image (Row.col fun j => cl (ix2 r j))).card)
    (k : Nat) (hk : k < K) (j : Fin 40) :
    (cl (ix2 r j) = bestCol cl (after cl s k) (ix2 r 0)) =
      (Row.col (fun j => cl (ix2 r j)) j = Pick.pk 100000 (Row.col fun j => cl (ix2 r j)) (fun j => s (ix2 r j)) k) :=
  bestCol_step cl s r hl hs K hK k hk (after_val cl s r hl hs K hK k (by omega)) j

end rounds

end Cert.Proof.Rescore
-- ==== Proof.Rescore.Body.lean ====
module

public import proofs.«01_k».proof.Proof.Gen.RescoreIdeal.Skeleton
public import Idealize.ShloMosaic.Lib.Tactic
public import Idealize.ShloMosaic.Lib.Rounds

/-!
The rescoring body at one grid point: what it reads, and the three blocks it stores.
-/

@[expose] public section

set_option synthInstance.maxSize 4096

noncomputable section

namespace Cert.Proof.Rescore

open Cert.RescoreIdeal Cert.RescoreIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds, and nothing of the kernel's own. -/
abbrev UR (nD : Nat) (τ : Topo) : Type := URounds (GSem nD τ sig) Unit

local notation "𝕄" => MT nD τ sig Unit (Elt F) ℕ (UR nD τ) ℕ

/-- What the buffer of memref `M` holds on core `c`. -/
abbrev Held (c : Dev nD) {sp : Space} {S : Shape} {e : EltTy} (M : Memref sig .tc sp S e) : Type :=
  Buf (Elt F) (M.view.loc (c : Thread nD τ))

/-- The buffer of `M` held whole at `f`. -/
abbrev at_ (c : Dev nD) {sp : Space} {S : Shape} {e : EltTy} (M : Memref sig .tc sp S e)
    (f : Held (F := F) c M) : sProp 𝕄 :=
  M.view.loc (c : Thread nD τ) ↦{fullShare} f

/-- One grid step of the rescoring, run once at arbitrary input blocks: what it leaves in the three output
    blocks, with the proof that it runs to its return and hands the inputs back as they were. -/
noncomputable def step (c : Dev nD) (i : grid0.Coords)
    (M1 : Memref sig .tc .vmem S512x64 .f32) (h1 : M1.IsWhole) (M2 : Memref sig .tc .vmem S512x5120 .f32) (h2 : M2.IsWhole)
    (M3 : Memref sig .tc .vmem S512x40 .i32) (h3 : M3.IsWhole) (M4 : Memref sig .tc .vmem S512x40 .i32) (h4 : M4.IsWhole)
    (M5 : Memref sig .tc .vmem S512x64 .f32) (h5 : M5.IsWhole) (M6 : Memref sig .tc .vmem S512x8 .f32) (h6 : M6.IsWhole)
    (M7 : Memref sig .tc .vmem S512x8 .f32) (h7 : M7.IsWhole)
    (f1 : Held (F := F) c M1) (f2 : Held (F := F) c M2) (f3 : Held (F := F) c M3) (f4 : Held (F := F) c M4) :
    { W : Held (F := F) c M5 × Held (F := F) c M6 × Held (F := F) c M7 //
      ∀ (f5 : Held (F := F) c M5) (f6 : Held (F := F) c M6) (f7 : Held (F := F) c M7)
        (E : Set ℕ) (Q : PUnit → sProp 𝕄),
        iprop(at_ c M1 f1 ∗ at_ c M2 f2 ∗ at_ c M3 f3 ∗ at_ c M4 f4 ∗ at_ c M5 f5 ∗ at_ c M6 f6 ∗ at_ c M7 f7
          ∗ (at_ c M1 f1 ∗ at_ c M2 f2 ∗ at_ c M3 f3 ∗ at_ c M4 f4 ∗ at_ c M5 W.1 ∗ at_ c M6 W.2.1 ∗ at_ c M7 W.2.2
              -∗ Q ⟨⟩))
        ⊢ wp frame (wpE (defs₀ (F := F)) Variants.none (c : Thread nD τ) none) E
            (cc0__rescore_kernel i M1 h1 M2 h2 M3 h3 M4 h4 M5 h5 M6 h6 M7 h7) Q } := by
  refine ⟨⟨?_, ?_, ?_⟩, fun f5 f6 f7 E Q => ?run⟩
  rotate_right
  case run =>
    iintro ⟨H1, H2, H3, H4, H5, H6, H7, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    iexact H7

end Cert.Proof.Rescore
-- ==== Proof.Rescore.Names.lean ====
module

public import proofs.«01_k».proof.Proof.Rescore.Body
public import proofs.«01_k».proof.Proof.Rescore.Spec

/-!
The values the step's run leaves in the three output blocks are the functions of Spec.lean at the loaded blocks.
-/

@[expose] public section

set_option maxRecDepth 8192

noncomputable section

namespace Cert.Proof.Rescore

open Cert.RescoreIdeal Cert.RescoreIdeal.Gen
open Idealize.ShloMosaic Idealize.ShloMosaic.TcCoe

variable {F : FTy → Type} [FloatOps F]

variable (c : Dev nD)
  (M1 : Memref sig .tc .vmem S512x64 .f32) (M2 : Memref sig .tc .vmem S512x5120 .f32)
  (M3 : Memref sig .tc .vmem S512x40 .i32) (M4 : Memref sig .tc .vmem S512x40 .i32)
  (f1 : Held (F := F) c M1) (f2 : Held (F := F) c M2) (f3 : Held (F := F) c M3) (f4 : Held (F := F) c M4)

/-- The query block, scaled. -/
abbrev qOf : FVec F S512x64 .f32 :=
  norm (View.readAt (Elt F) M1.view (Rect.unit ![0, 0] S512x64.size inb_S512x64_S512x64_0_0).toLoadRect f1)

/-- The gathered pairs. -/
abbrev pOf : Fin 40 → Vec F S512x128 .f32 := pairOf (M2.view.read (Elt F) f2)

/-- The column block. -/
abbrev clOf : Vec F S512x40 .i32 :=
  View.readAt (Elt F) M3.view (Rect.unit ![0, 0] S512x40.size inb_S512x40_S512x40_0_0).toLoadRect f3

/-- The parity block. -/
abbrev parOf : Vec F S512x40 .i32 :=
  View.readAt (Elt F) M4.view (Rect.unit ![0, 0] S512x40.size inb_S512x40_S512x40_0_0).toLoadRect f4

/-- The forty similarities side by side. -/
abbrev sOf : FVec F S512x40 .f32 := beside (simCol (qOf c M1 f1) (pOf c M2 f2) (parOf c M4 f4))

theorem sim_0 : step.sl.r_3 c M1 M2 M4 f1 f2 f4 = simCol (qOf c M1 f1) (pOf c M2 f2) (parOf c M4 f4) 0 := rfl

theorem sim_1 : step.sl.r_4 c M1 M2 M4 f1 f2 f4 = simCol (qOf c M1 f1) (pOf c M2 f2) (parOf c M4 f4) 1 := rfl

theorem sim_2 : step.sl.r_8 c M1 M2 M4 f1 f2 f4 = simCol (qOf c M1 f1) (pOf c M2 f2) (parOf c M4 f4) 2 := rfl

theorem sim_3 : step.sl.r_9 c M1 M2 M4 f1 f2 f4 = simCol (qOf c M1 f1) (pOf c M2 f2) (parOf c M4 f4) 3 := rfl

theorem sim_4 : step.sl.r_10 c M1 M2 M4 f1 f2 f4 = simCol (qOf c M1 f1) (pOf c M2 f2) (parOf c M4 f4) 4 := rfl

theorem sim_5 : step.sl.r_11 c M1 M2 M4 f1 f2 f4 = simCol (qOf c M1 f1) (pOf c M2 f2) (parOf c M4 f4) 5 := rfl

theorem sim_6 : step.sl.r_14 c M1 M2 M4 f1 f2 f4 = simCol (qOf c M1 f1) (pOf c M2 f2) (parOf c M4 f4) 6 := rfl

theorem sim_7 : step.sl.r_15 c M1 M2 M4 f1 f2 f4 = simCol (qOf c M1 f1) (pOf c M2 f2) (parOf c M4 f4) 7 := rfl

theorem sim_8 : step.sl.r_16 c M1 M2 M4 f1 f2 f4 = simCol (qOf c M1 f1) (pOf c M2 f2) (parOf c M4 f4) 8 := rfl

theorem sim_9 : step.sl.r_17 c M1 M2 M4 f1 f2 f4 = simCol (qOf c M1 f1) (pOf c M2 f2) (parOf c M4 f4) 9 := rfl

theorem sim_10 : step.sl.r_18 c M1 M2 M4 f1 f2 f4 = simCol (qOf c M1 f1) (pOf c M2 f2) (parOf c M4 f4) 10 := rfl

theorem sim_11 : step.sl.r_19 c M1 M2 M4 f1 f2 f4 = simCol (qOf c M1 f1) (pOf c M2 f2) (parOf c M4 f4) 11 := rfl

theorem sim_12 : step.sl.r_20 c M1 M2 M4 f1 f2 f4 = simCol (qOf c M1 f1) (pOf c M2 f2) (parOf c M4 f4) 12 := rfl

theorem sim_13 : step.sl.r_22 c M1 M2 M4 f1 f2 f4 = simCol (qOf c M1 f1) (pOf c M2 f2) (parOf c M4 f4) 13 := rfl

theorem sim_14 : step.sl.r_23 c M1 M2 M4 f1 f2 f4 = simCol (qOf c M1 f1) (pOf c M2 f2) (parOf c M4 f4) 14 := rfl

theorem sim_15 : step.sl.r_24 c M1 M2 M4 f1 f2 f4 = simCol (qOf c M1 f1) (pOf c M2 f2) (parOf c M4 f4) 15 := rfl

theorem sim_16 : step.sl.r_25 c M1 M2 M4 f1 f2 f4 = simCol (qOf c M1 f1) (pOf c M2 f2) (parOf c M4 f4) 16 := rfl

theorem sim_17 : step.sl.r_29 c M1 M2 M4 f1 f2 f4 = simCol (qOf c M1 f1) (pOf c M2 f2) (parOf c M4 f4) 17 := rfl

theorem sim_18 : step.sl.r_30 c M1 M2 M4 f1 f2 f4 = simCol (qOf c M1 f1) (pOf c M2 f2) (parOf c M4 f4) 18 := rfl

theorem sim_19 : step.sl.r_31 c M1 M2 M4 f1 f2 f4 = simCol (qOf c M1 f1) (pOf c M2 f2) (parOf c M4 f4) 19 := rfl

theorem sim_20 : step.sl.r_32 c M1 M2 M4 f1 f2 f4 = simCol (qOf c M1 f1) (pOf c M2 f2) (parOf c M4 f4) 20 := rfl

theorem sim_21 : step.sl.r_35 c M1 M2 M4 f1 f2 f4 = simCol (qOf c M1 f1) (pOf c M2 f2) (parOf c M4 f4) 21 := rfl

theorem sim_22 : step.sl.r_36 c M1 M2 M4 f1 f2 f4 = simCol (qOf c M1 f1) (pOf c M2 f2) (parOf c M4 f4) 22 := rfl

theorem sim_23 : step.sl.r_37 c M1 M2 M4 f1 f2 f4 = simCol (qOf c M1 f1) (pOf c M2 f2) (parOf c M4 f4) 23 := rfl

theorem sim_24 : step.sl.r_38 c M1 M2 M4 f1 f2 f4 = simCol (qOf c M1 f1) (pOf c M2 f2) (parOf c M4 f4) 24 := rfl

theorem sim_25 : step.sl.r_39 c M1 M2 M4 f1 f2 f4 = simCol (qOf c M1 f1) (pOf c M2 f2) (parOf c M4 f4) 25 := rfl

theorem sim_26 : step.sl.r_40 c M1 M2 M4 f1 f2 f4 = simCol (qOf c M1 f1) (pOf c M2 f2) (parOf c M4 f4) 26 := rfl

theorem sim_27 : step.sl.r_41 c M1 M2 M4 f1 f2 f4 = simCol (qOf c M1 f1) (pOf c M2 f2) (parOf c M4 f4) 27 := rfl

theorem sim_28 : step.sl.r_43 c M1 M2 M4 f1 f2 f4 = simCol (qOf c M1 f1) (pOf c M2 f2) (parOf c M4 f4) 28 := rfl

theorem sim_29 : step.sl.r_44 c M1 M2 M4 f1 f2 f4 = simCol (qOf c M1 f1) (pOf c M2 f2) (parOf c M4 f4) 29 := rfl

theorem sim_30 : step.sl.r_45 c M1 M2 M4 f1 f2 f4 = simCol (qOf c M1 f1) (pOf c M2 f2) (parOf c M4 f4) 30 := rfl

theorem sim_31 : step.sl.r_46 c M1 M2 M4 f1 f2 f4 = simCol (qOf c M1 f1) (pOf c M2 f2) (parOf c M4 f4) 31 := rfl

theorem sim_32 : step.sl.r_50 c M1 M2 M4 f1 f2 f4 = simCol (qOf c M1 f1) (pOf c M2 f2) (parOf c M4 f4) 32 := rfl

theorem sim_33 : step.sl.r_51 c M1 M2 M4 f1 f2 f4 = simCol (qOf c M1 f1) (pOf c M2 f2) (parOf c M4 f4) 33 := rfl

theorem sim_34 : step.sl.r_52 c M1 M2 M4 f1 f2 f4 = simCol (qOf c M1 f1) (pOf c M2 f2) (parOf c M4 f4) 34 := rfl

theorem sim_35 : step.sl.r_53 c M1 M2 M4 f1 f2 f4 = simCol (qOf c M1 f1) (pOf c M2 f2) (parOf c M4 f4) 35 := rfl

theorem sim_36 : step.sl.r_56 c M1 M2 M4 f1 f2 f4 = simCol (qOf c M1 f1) (pOf c M2 f2) (parOf c M4 f4) 36 := rfl

theorem sim_37 : step.sl.r_57 c M1 M2 M4 f1 f2 f4 = simCol (qOf c M1 f1) (pOf c M2 f2) (parOf c M4 f4) 37 := rfl

theorem sim_38 : step.sl.r_58 c M1 M2 M4 f1 f2 f4 = simCol (qOf c M1 f1) (pOf c M2 f2) (parOf c M4 f4) 38 := rfl

theorem sim_39 : step.sl.r_59 c M1 M2 M4 f1 f2 f4 = simCol (qOf c M1 f1) (pOf c M2 f2) (parOf c M4 f4) 39 := rfl

theorem val_60 : step.sl.r_60 c M1 M2 M3 M4 f1 f2 f3 f4 = best (after (clOf c M3 f3) (sOf c M1 M2 M4 f1 f2 f4) 0) := by
  unfold step.sl.r_60
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

theorem val_61 : step.sl.r_61 c M1 M2 M3 M4 f1 f2 f3 f4 = bestCol (clOf c M3 f3) (after (clOf c M3 f3) (sOf c M1 M2 M4 f1 f2 f4) 0) := by
  unfold step.sl.r_61
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

theorem val_62 : step.sl.r_62 c M1 M2 M3 M4 f1 f2 f3 f4 = best (after (clOf c M3 f3) (sOf c M1 M2 M4 f1 f2 f4) 1) := by
  unfold step.sl.r_62
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

theorem val_63 : step.sl.r_63 c M1 M2 M3 M4 f1 f2 f3 f4 = bestCol (clOf c M3 f3) (after (clOf c M3 f3) (sOf c M1 M2 M4 f1 f2 f4) 1) := by
  unfold step.sl.r_63
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

theorem val_64 : step.sl.r_64 c M1 M2 M3 M4 f1 f2 f3 f4 = best (after (clOf c M3 f3) (sOf c M1 M2 M4 f1 f2 f4) 2) := by
  unfold step.sl.r_64
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

theorem val_65 : step.sl.r_65 c M1 M2 M3 M4 f1 f2 f3 f4 = bestCol (clOf c M3 f3) (after (clOf c M3 f3) (sOf c M1 M2 M4 f1 f2 f4) 2) := by
  unfold step.sl.r_65
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

theorem val_66 : step.sl.r_66 c M1 M2 M3 M4 f1 f2 f3 f4 = after (clOf c M3 f3) (sOf c M1 M2 M4 f1 f2 f4) 3 := by
  unfold step.sl.r_66
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

theorem val_67 : step.sl.r_67 c M1 M2 M3 M4 f1 f2 f3 f4 = best (after (clOf c M3 f3) (sOf c M1 M2 M4 f1 f2 f4) 3) := by
  unfold step.sl.r_67
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

theorem val_68 : step.sl.r_68 c M1 M2 M3 M4 f1 f2 f3 f4 = cmpf .oeq (after (clOf c M3 f3) (sOf c M1 M2 M4 f1 f2 f4) 3) (broadcastTo S512x40 (best (after (clOf c M3 f3) (sOf c M1 M2 M4 f1 f2 f4) 3)) broadcasts_S512x1_S512x40) := by
  unfold step.sl.r_68
  rw [sim_0, sim_1, sim_2, sim_3, sim_4, sim_5, sim_6, sim_7, sim_8, sim_9, sim_10, sim_11, sim_12, sim_13, sim_14, sim_15, sim_16, sim_17, sim_18, sim_19, sim_20, sim_21, sim_22, sim_23, sim_24, sim_25, sim_26, sim_27, sim_28, sim_29, sim_30, sim_31, sim_32, sim_33, sim_34, sim_35, sim_36, sim_37, sim_38, sim_39]
  rfl

/-- The five weights of the block. -/
abbrev wOf : FVec F S512x5 .f32 := weigh (bests (clOf c M3 f3) (sOf c M1 M2 M4 f1 f2 f4))

/-- The slots' weights of the block. -/
abbrev slotsOf : FVec F S512x40 .f32 := slots (clOf c M3 f3) (sOf c M1 M2 M4 f1 f2 f4) (wOf c M1 M2 M3 M4 f1 f2 f3 f4)

theorem val_69 : step.sl.r_69 c M1 M2 M3 M4 f1 f2 f3 f4 = bestCol (clOf c M3 f3) (after (clOf c M3 f3) (sOf c M1 M2 M4 f1 f2 f4) 4) := by
  unfold step.sl.r_69; rw [val_66, val_68]; rfl

theorem val_70 : step.sl.r_70 c M1 M2 M3 M4 f1 f2 f3 f4 = top (bests (clOf c M3 f3) (sOf c M1 M2 M4 f1 f2 f4)) := by
  unfold step.sl.r_70; rw [val_60, val_62, val_64, val_66, val_67, val_68]; rfl

theorem val_71 : step.sl.r_71 c M1 M2 M3 M4 f1 f2 f3 f4 = wOf c M1 M2 M3 M4 f1 f2 f3 f4 := by
  unfold step.sl.r_71; rw [val_60, val_62, val_64, val_66, val_67, val_68]; rfl

theorem val_75 : step.sl.r_75 c M1 M2 M3 M4 f1 f2 f3 f4 = slotsOf c M1 M2 M3 M4 f1 f2 f3 f4 := by
  unfold step.sl.r_75 step.sl.r_72 step.sl.r_73 step.sl.r_74
  rw [val_69, val_71, val_60, val_61, val_62, val_63, val_64, val_65, val_66, val_67, val_68]; rfl

theorem acc_3 : step.sl.r_76 c M1 M2 M3 M4 f1 f2 f3 f4 = sumTo (slotsOf c M1 M2 M3 M4 f1 f2 f3 f4) (pOf c M2 f2) (parOf c M4 f4) 3 (by decide) := by
  unfold step.sl.r_76 step.sl.r_72 step.sl.r_73 step.sl.r_74
  rw [val_69, val_71, val_60, val_61, val_62, val_63, val_64, val_65, val_66, val_67, val_68]; rfl

theorem next_3 : step.sl.r_77 c M1 M2 M3 M4 f1 f2 f3 f4 = extractStridedSlice S512x1 ![0, 3] (slotsOf c M1 M2 M3 M4 f1 f2 f3 f4) slices_S512x40_o0_3_S512x1 := by
  unfold step.sl.r_77 step.sl.r_72 step.sl.r_73 step.sl.r_74
  rw [val_69, val_71, val_60, val_61, val_62, val_63, val_64, val_65, val_66, val_67, val_68]; rfl

theorem acc_6 : step.sl.r_78 c M1 M2 M3 M4 f1 f2 f3 f4 = sumTo (slotsOf c M1 M2 M3 M4 f1 f2 f3 f4) (pOf c M2 f2) (parOf c M4 f4) 6 (by decide) := by
  unfold step.sl.r_78
  rw [acc_3, next_3, val_75]; rfl

theorem acc_10 : step.sl.r_80 c M1 M2 M3 M4 f1 f2 f3 f4 = sumTo (slotsOf c M1 M2 M3 M4 f1 f2 f3 f4) (pOf c M2 f2) (parOf c M4 f4) 10 (by decide) := by
  unfold step.sl.r_80 step.sl.r_79
  rw [acc_6, val_75]; rfl

theorem acc_14 : step.sl.r_85 c M1 M2 M3 M4 f1 f2 f3 f4 = sumTo (slotsOf c M1 M2 M3 M4 f1 f2 f3 f4) (pOf c M2 f2) (parOf c M4 f4) 14 (by decide) := by
  unfold step.sl.r_85 step.sl.r_81
  rw [acc_10, val_75]; rfl

theorem acc_18 : step.sl.r_89 c M1 M2 M3 M4 f1 f2 f3 f4 = sumTo (slotsOf c M1 M2 M3 M4 f1 f2 f3 f4) (pOf c M2 f2) (parOf c M4 f4) 18 (by decide) := by
  unfold step.sl.r_89 step.sl.r_86
  rw [acc_14, val_75]; rfl

theorem acc_21 : step.sl.r_91 c M1 M2 M3 M4 f1 f2 f3 f4 = sumTo (slotsOf c M1 M2 M3 M4 f1 f2 f3 f4) (pOf c M2 f2) (parOf c M4 f4) 21 (by decide) := by
  unfold step.sl.r_91 step.sl.r_90
  rw [acc_18, val_75]; rfl

theorem acc_25 : step.sl.r_93 c M1 M2 M3 M4 f1 f2 f3 f4 = sumTo (slotsOf c M1 M2 M3 M4 f1 f2 f3 f4) (pOf c M2 f2) (parOf c M4 f4) 25 (by decide) := by
  unfold step.sl.r_93 step.sl.r_92
  rw [acc_21, val_75]; rfl

theorem acc_29 : step.sl.r_98 c M1 M2 M3 M4 f1 f2 f3 f4 = sumTo (slotsOf c M1 M2 M3 M4 f1 f2 f3 f4) (pOf c M2 f2) (parOf c M4 f4) 29 (by decide) := by
  unfold step.sl.r_98 step.sl.r_94
  rw [acc_25, val_75]; rfl

theorem acc_33 : step.sl.r_102 c M1 M2 M3 M4 f1 f2 f3 f4 = sumTo (slotsOf c M1 M2 M3 M4 f1 f2 f3 f4) (pOf c M2 f2) (parOf c M4 f4) 33 (by decide) := by
  unfold step.sl.r_102 step.sl.r_99
  rw [acc_29, val_75]; rfl

theorem acc_36 : step.sl.r_104 c M1 M2 M3 M4 f1 f2 f3 f4 = sumTo (slotsOf c M1 M2 M3 M4 f1 f2 f3 f4) (pOf c M2 f2) (parOf c M4 f4) 36 (by decide) := by
  unfold step.sl.r_104 step.sl.r_103
  rw [acc_33, val_75]; rfl

theorem acc_40 : step.sl.r_106 c M1 M2 M3 M4 f1 f2 f3 f4
    = norm (sumTo (slotsOf c M1 M2 M3 M4 f1 f2 f3 f4) (pOf c M2 f2) (parOf c M4 f4) 40 (by decide)) := by
  unfold step.sl.r_106 step.sl.r_105
  rw [acc_36, val_75]; rfl

end Cert.Proof.Rescore
-- ==== Proof.Rescore.Run.lean ====
module

public import proofs.«01_k».proof.Proof.Rescore.Names
public import proofs.«01_k».proof.Proof.Gen.RescoreIdeal.Launch
public import proofs.«01_k».proof.Proof.Gen.RescoreIdeal.Points
public import Idealize.ShloMosaic.Lib.Pipeline.FrameSuffix
public import Idealize.ShloMosaic.Lib.Pipeline.FrameBody
public import Idealize.ShloMosaic.Lib.Pipeline.Value

/-!
The rescoring's run: its step over the blocks it is handed, the pipeline's data, and the whole program with the
three host operations after the pipeline. It holds at any reading of the floats.
-/

@[expose] public section

set_option synthInstance.maxSize 4096

noncomputable section

namespace Cert.Proof.Rescore

open Cert.RescoreIdeal Cert.RescoreIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation FramePost ΦA)

variable {F : FTy → Type} [FloatOps F]

local notation "𝕄" => MT nD τ sig Unit (Elt F) ℕ (UR nD τ) ℕ

/-! ## What a step leaves, of the blocks -/

/-- The similarities of a block. -/
def simsB (q : Vec F S512x64 .f32) (g : Vec F S512x5120 .f32) (par : Vec F S512x40 .i32) : FVec F S512x40 .f32 :=
  beside (simCol (norm q) (pairOf g) par)

/-- The five best similarities of a block. -/
def bestB (q : Vec F S512x64 .f32) (g : Vec F S512x5120 .f32) (cl par : Vec F S512x40 .i32) : FVec F S512x5 .f32 :=
  bests cl (simsB q g par)

/-- The retrieved vectors of a block. -/
def outVec (q : Vec F S512x64 .f32) (g : Vec F S512x5120 .f32) (cl par : Vec F S512x40 .i32) : Vec F S512x64 .f32 :=
  norm (sumTo (slots cl (simsB q g par) (weigh (bestB q g cl par))) (pairOf g) par 40 (by decide))

/-- The weights of a block, three columns of nothing after them. -/
def outW (q : Vec F S512x64 .f32) (g : Vec F S512x5120 .f32) (cl par : Vec F S512x40 .i32) : Vec F S512x8 .f32 :=
  k0_pay1 (weigh (bestB q g cl par))

/-- The distances of a block, eight times over. -/
def outD (q : Vec F S512x64 .f32) (g : Vec F S512x5120 .f32) (cl par : Vec F S512x40 .i32) : Vec F S512x8 .f32 :=
  k0_pay2 (top (bestB q g cl par))

theorem zeros2 : (![0, 0] : Fin 2 → Nat) = fun _ => 0 := by funext a; fin_cases a <;> rfl

section witnesses

variable (c : Dev nD) (i : grid0.Coords)
    (M1 : Memref sig .tc .vmem S512x64 .f32) (h1 : M1.IsWhole) (M2 : Memref sig .tc .vmem S512x5120 .f32) (h2 : M2.IsWhole)
    (M3 : Memref sig .tc .vmem S512x40 .i32) (h3 : M3.IsWhole) (M4 : Memref sig .tc .vmem S512x40 .i32) (h4 : M4.IsWhole)
    (M5 : Memref sig .tc .vmem S512x64 .f32) (h5 : M5.IsWhole) (M6 : Memref sig .tc .vmem S512x8 .f32) (h6 : M6.IsWhole)
    (M7 : Memref sig .tc .vmem S512x8 .f32) (h7 : M7.IsWhole)
    (f1 : Held (F := F) c M1) (f2 : Held (F := F) c M2) (f3 : Held (F := F) c M3) (f4 : Held (F := F) c M4)

theorem query_eq : qOf c M1 f1 = norm (M1.view.read (Elt F) f1) := by
  unfold qOf; rw [View.readAt_eq_ld, View.ld_unit_zero zeros2]

theorem cols_eq : clOf c M3 f3 = M3.view.read (Elt F) f3 := by
  unfold clOf; rw [View.readAt_eq_ld, View.ld_unit_zero zeros2]

theorem par_eq : parOf c M4 f4 = M4.view.read (Elt F) f4 := by
  unfold parOf; rw [View.readAt_eq_ld, View.ld_unit_zero zeros2]

theorem read5 [∀ e, Nonempty (Elt F e)] :
    M5.view.read (Elt F) (step c i M1 h1 M2 h2 M3 h3 M4 h4 M5 h5 M6 h6 M7 h7 f1 f2 f3 f4).1.1
      = outVec (M1.view.read (Elt F) f1) (M2.view.read (Elt F) f2) (M3.view.read (Elt F) f3) (M4.view.read (Elt F) f4) := by
  show M5.view.read (Elt F) (M5.view.writes (Elt F) M5.view.junk (step.sl.H5_1 c M1 M2 M3 M4 f1 f2 f3 f4)) = _
  rw [View.read_writes_junk_eq_canon]
  unfold step.sl.H5_1
  rw [View.canon_unit_zero zeros2, acc_40]
  unfold slotsOf wOf sOf pOf
  rw [query_eq, cols_eq, par_eq]; rfl

theorem read6 [∀ e, Nonempty (Elt F e)] :
    M6.view.read (Elt F) (step c i M1 h1 M2 h2 M3 h3 M4 h4 M5 h5 M6 h6 M7 h7 f1 f2 f3 f4).1.2.1
      = outW (M1.view.read (Elt F) f1) (M2.view.read (Elt F) f2) (M3.view.read (Elt F) f3) (M4.view.read (Elt F) f4) := by
  show M6.view.read (Elt F) (M6.view.writes (Elt F) M6.view.junk (step.sl.H6_1 c M1 M2 M3 M4 f1 f2 f3 f4)) = _
  rw [View.read_writes_junk_eq_canon]
  unfold step.sl.H6_1
  rw [View.canon_unit_zero zeros2, val_71]
  unfold wOf sOf pOf
  rw [query_eq, cols_eq, par_eq]; rfl

theorem read7 [∀ e, Nonempty (Elt F e)] :
    M7.view.read (Elt F) (step c i M1 h1 M2 h2 M3 h3 M4 h4 M5 h5 M6 h6 M7 h7 f1 f2 f3 f4).1.2.2
      = outD (M1.view.read (Elt F) f1) (M2.view.read (Elt F) f2) (M3.view.read (Elt F) f3) (M4.view.read (Elt F) f4) := by
  show M7.view.read (Elt F) (M7.view.writes (Elt F) M7.view.junk (step.sl.H7_1 c M1 M2 M3 M4 f1 f2 f3 f4)) = _
  rw [View.read_writes_junk_eq_canon]
  unfold step.sl.H7_1
  rw [View.canon_unit_zero zeros2, val_70]
  unfold sOf pOf
  rw [query_eq, cols_eq, par_eq]; rfl

end witnesses

/-! ## The step over owned blocks -/

theorem take (c : Dev nD) {sp : Space} {S : Shape} {e : EltTy} (M : Memref sig .tc sp S e) (h : M.IsWhole)
    (X : S.Idx → Elt F e) :
    (owns (c : Thread nD τ) M fullShare X : sProp 𝕄) ⊢ iprop(∃ f : Held (F := F) c M, ⌜M.view.read (Elt F) f = X⌝ ∗ at_ c M f) := by
  unfold owns at_; rw [h.set_eq_univ]

theorem give (c : Dev nD) {sp : Space} {S : Shape} {e : EltTy} (M : Memref sig .tc sp S e) (h : M.IsWhole)
    (X : S.Idx → Elt F e) (f : Held (F := F) c M) (hf : M.view.read (Elt F) f = X) :
    (at_ c M f : sProp 𝕄) ⊢ owns (c : Thread nD τ) M fullShare X := by
  unfold owns at_; rw [h.set_eq_univ]
  iintro H; iexists f; isplitr; · ipureintro; exact hf
  iexact H

theorem triple [∀ e, Nonempty (Elt F e)] (c : Dev nD) (E : Set ℕ) (i : grid0.Coords)
    (M1 : Memref sig .tc .vmem S512x64 .f32) (h1 : M1.IsWhole) (M2 : Memref sig .tc .vmem S512x5120 .f32) (h2 : M2.IsWhole)
    (M3 : Memref sig .tc .vmem S512x40 .i32) (h3 : M3.IsWhole) (M4 : Memref sig .tc .vmem S512x40 .i32) (h4 : M4.IsWhole)
    (M5 : Memref sig .tc .vmem S512x64 .f32) (h5 : M5.IsWhole) (M6 : Memref sig .tc .vmem S512x8 .f32) (h6 : M6.IsWhole)
    (M7 : Memref sig .tc .vmem S512x8 .f32) (h7 : M7.IsWhole)
    (x1 : Vec F S512x64 .f32) (x2 : Vec F S512x5120 .f32) (x3 x4 : Vec F S512x40 .i32)
    (x5 : Vec F S512x64 .f32) (x6 x7 : Vec F S512x8 .f32) (Q : PUnit → sProp 𝕄) :
    iprop(owns (c : Thread nD τ) M1 fullShare x1 ∗ owns (c : Thread nD τ) M2 fullShare x2 ∗ owns (c : Thread nD τ) M3 fullShare x3
      ∗ owns (c : Thread nD τ) M4 fullShare x4 ∗ owns (c : Thread nD τ) M5 fullShare x5 ∗ owns (c : Thread nD τ) M6 fullShare x6
      ∗ owns (c : Thread nD τ) M7 fullShare x7
      ∗ (owns (c : Thread nD τ) M1 fullShare x1 ∗ owns (c : Thread nD τ) M2 fullShare x2 ∗ owns (c : Thread nD τ) M3 fullShare x3
          ∗ owns (c : Thread nD τ) M4 fullShare x4 ∗ owns (c : Thread nD τ) M5 fullShare (outVec x1 x2 x3 x4)
          ∗ owns (c : Thread nD τ) M6 fullShare (outW x1 x2 x3 x4) ∗ owns (c : Thread nD τ) M7 fullShare (outD x1 x2 x3 x4) -∗ Q ⟨⟩))
    ⊢ wp frame (wpE (defs₀ (F := F)) Variants.none (c : Thread nD τ) none) E
        (cc0__rescore_kernel i M1 h1 M2 h2 M3 h3 M4 h4 M5 h5 M6 h6 M7 h7) Q := by
  iintro ⟨H1, H2, H3, H4, H5, H6, H7, Hk⟩
  ihave H1 := (take (F := F) c M1 h1 x1) $$ H1
  icases H1 with ⟨%f1, %e1, H1⟩
  ihave H2 := (take (F := F) c M2 h2 x2) $$ H2
  icases H2 with ⟨%f2, %e2, H2⟩
  ihave H3 := (take (F := F) c M3 h3 x3) $$ H3
  icases H3 with ⟨%f3, %e3, H3⟩
  ihave H4 := (take (F := F) c M4 h4 x4) $$ H4
  icases H4 with ⟨%f4, %e4, H4⟩
  ihave H5 := (take (F := F) c M5 h5 x5) $$ H5
  icases H5 with ⟨%f5, -, H5⟩
  ihave H6 := (take (F := F) c M6 h6 x6) $$ H6
  icases H6 with ⟨%f6, -, H6⟩
  ihave H7 := (take (F := F) c M7 h7 x7) $$ H7
  icases H7 with ⟨%f7, -, H7⟩
  subst e1 e2 e3 e4
  iapply ((step c i M1 h1 M2 h2 M3 h3 M4 h4 M5 h5 M6 h6 M7 h7 f1 f2 f3 f4).2 f5 f6 f7 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H1, H2, H3, H4, H5, H6, H7⟩
  iapply Hk
  isplitl [H1]; · iapply (give (F := F) c M1 h1 _ f1 rfl); iexact H1
  isplitl [H2]; · iapply (give (F := F) c M2 h2 _ f2 rfl); iexact H2
  isplitl [H3]; · iapply (give (F := F) c M3 h3 _ f3 rfl); iexact H3
  isplitl [H4]; · iapply (give (F := F) c M4 h4 _ f4 rfl); iexact H4
  isplitl [H5]; · iapply (give (F := F) c M5 h5 _ _ (read5 c i M1 h1 M2 h2 M3 h3 M4 h4 M5 h5 M6 h6 M7 h7 f1 f2 f3 f4)); iexact H5
  isplitl [H6]; · iapply (give (F := F) c M6 h6 _ _ (read6 c i M1 h1 M2 h2 M3 h3 M4 h4 M5 h5 M6 h6 M7 h7 f1 f2 f3 f4)); iexact H6
  iapply (give (F := F) c M7 h7 _ _ (read7 c i M1 h1 M2 h2 M3 h3 M4 h4 M5 h5 M6 h6 M7 h7 f1 f2 f3 f4)); iexact H7

/-! ## The pipeline -/

variable (m : (ℓ : Loc nD τ sig) → Buf (Elt F) ℓ)

/-- Core `c`'s buffers when the pipeline starts: nothing runs before it. -/
abbrev V0 (c : Dev nD) : Valuation τ sig (Elt F) := StableHlo.after (List.flatten []) (fun b => m (c, b))
/-- The same, read at a reference. -/
abbrev V (c : Dev nD) (b : Ref sig .tc) : Buf (Elt F) ((c : Thread nD τ).loc b) := V0 m c (Proc.devRef .tc b)

/-- Window `w`'s block at point `t`, read off its array. -/
def blkV (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pipeline's data: inputs stay at their blocks, outputs are left at the step's functions of them. -/
def dats (_ : Fin 1) (c : Dev nD) : Dat τ (Elt F) Unit ℕ (UR nD τ) ℕ cfg0 c where
  A w := V m c (Pipeline.arrRef spec0 w)
  after w t := match w with
    | ⟨0, _⟩ => blkV m c 0 t
    | ⟨1, _⟩ => blkV m c 1 t
    | ⟨2, _⟩ => blkV m c 2 t
    | ⟨3, _⟩ => blkV m c 3 t
    | ⟨4, _⟩ => outVec (blkV m c 0 t) (blkV m c 1 t) (blkV m c 2 t) (blkV m c 3 t)
    | ⟨5, _⟩ => outW (blkV m c 0 t) (blkV m c 1 t) (blkV m c 2 t) (blkV m c 3 t)
    | ⟨6, _⟩ => outD (blkV m c 0 t) (blkV m c 1 t) (blkV m c 2 t) (blkV m c 3 t)
  Φ _ := ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = blkV m c 0 t := by dsimp only [dats]
theorem after_1 (c : Dev nD) (t : Fin cfg0.N) : (dats m 0 c).after 1 t = blkV m c 1 t := by dsimp only [dats]
theorem after_2 (c : Dev nD) (t : Fin cfg0.N) : (dats m 0 c).after 2 t = blkV m c 2 t := by dsimp only [dats]
theorem after_3 (c : Dev nD) (t : Fin cfg0.N) : (dats m 0 c).after 3 t = blkV m c 3 t := by dsimp only [dats]
theorem after_4 (c : Dev nD) (t : Fin cfg0.N) :
    (dats m 0 c).after 4 t = outVec (blkV m c 0 t) (blkV m c 1 t) (blkV m c 2 t) (blkV m c 3 t) := by dsimp only [dats]
theorem after_5 (c : Dev nD) (t : Fin cfg0.N) :
    (dats m 0 c).after 5 t = outW (blkV m c 0 t) (blkV m c 1 t) (blkV m c 2 t) (blkV m c 3 t) := by dsimp only [dats]
theorem after_6 (c : Dev nD) (t : Fin cfg0.N) :
    (dats m 0 c).after 6 t = outD (blkV m c 0 t) (blkV m c 1 t) (blkV m c 2 t) (blkV m c 3 t) := by dsimp only [dats]

theorem before_0 (c : Dev nD) (t : Fin cfg0.N) (d) : (dats m 0 c).before 0 t d = blkV m c 0 t := by
  unfold Dat.before; rw [if_pos (fetch0_0 t)]; unfold Dat.fetched Dat.blockOf blkV; rw [A_eq]; rfl
theorem before_1 (c : Dev nD) (t : Fin cfg0.N) (d) : (dats m 0 c).before 1 t d = blkV m c 1 t := by
  unfold Dat.before; rw [if_pos (fetch0_1 t)]; unfold Dat.fetched Dat.blockOf blkV; rw [A_eq]; rfl
theorem before_2 (c : Dev nD) (t : Fin cfg0.N) (d) : (dats m 0 c).before 2 t d = blkV m c 2 t := by
  unfold Dat.before; rw [if_pos (fetch0_2 t)]; unfold Dat.fetched Dat.blockOf blkV; rw [A_eq]; rfl
theorem before_3 (c : Dev nD) (t : Fin cfg0.N) (d) : (dats m 0 c).before 3 t d = blkV m c 3 t := by
  unfold Dat.before; rw [if_pos (fetch0_3 t)]; unfold Dat.fetched Dat.blockOf blkV; rw [A_eq]; rfl

/-- What a point finds. -/
def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it leaves. -/
def stepPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem point [∀ e, Nonempty (Elt F e)] (c : Dev nD) (t : Fin cfg0.N) :
    stepPre m c t ⊢ wp frame (wpE (defs₀ (F := F)) Variants.none (c : Thread nD τ) none) Set.univ (bodyAt0 t) (fun _ => stepPost m c t) := by
  unfold stepPre stepPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (triple (F := F) c Set.univ (grid0.coords t) _ _ _ _ _ _ _ _ _ _ _ _ _ _
    (blkV m c 0 t) (blkV m c 1 t) (blkV m c 2 t) (blkV m c 3 t) ((dats m 0 c).before 4 t d4) ((dats m 0 c).before 5 t d5)
    ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) : defs₀ (F := F) .tc cfg0.body (cfg0.bodyArgs t (cfg0.slots t)) = bodyAt0 t := by
  unfold defs₀; rw [Defs.onTc_tc]

theorem obligation [∀ e, Nonempty (Elt F e)] (c : Dev nD) :
    BodyObligation (dats (F := F) m 0 c) (defs₀ (F := F)) Variants.none () Set.univ := fun t => by
  rw [bigSep_W0, bigSep_W0, body_row]
  exact triple_restated (point m c t) rfl .rfl fun _ => .rfl

/-! ## The program -/

theorem hostOps1_fresh : (hostOps1 : List (HloOp τ sig (Elt F))).Forall fun op => op.fresh = ∅ := ⟨rfl, rfl, rfl⟩

set_option maxHeartbeats 1000000 in
theorem hmain : Pipeline.HMainK (Ix := Unit) (Name := ℕ) (U := UR nD τ) (Lvl := ℕ) cfgs 0 defs₀ Variants.none m (main (F := F)) (V m)
    (fun _ => Pipeline.chain (([hostOps1] : List (List (HloOp τ sig (Elt F)))).map StableHlo.seq)) :=
  Pipeline.hmain_around cfgs 0 defs₀ Variants.none m main [] [hostOps1] (by simp only [List.Forall])
    (by simp only [List.Forall]) main_chain

theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option maxHeartbeats 1000000 in
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl
  all_goals
    intro w
    fin_cases w <;> simp only [StableHlo.unary_writes, StableHlo.reshape_writes, Finset.mem_singleton] <;>
      exact StableHlo.devRef_ne_of_ne (by decide)

theorem share_eq (c : Dev nD) (w : Fin cfg0.W) : (dats m 0 c).share w = fullShare := by
  unfold Dat.share; split <;> rfl

/-- The whole program: every array of the pipeline at what its steps leave, every other buffer at what the three
    operations after it leave, and no signal pending. -/
theorem run_main [∀ e, Nonempty (Elt F e)] (ρ : Dev nD → PrngReg) :
    θ_run (defs (F := F)) (onTc (τ := τ) (main (F := F))) ⟨m, fun _ => 0, ρ⟩ fun r =>
      FramePost cfgs (dats m) 0 (Pipeline.afterTail₀ cfgs (dats m) 0 (V0 m) [hostOps1]) r ∧ r.2.sem = fun _ => 0 :=
  Pipeline.θ_run_frame_around cfgs (dats m) (0 : Fin 1) launch0 defs₀ Variants.none m ρ main
    (hbody := fun c => (obligation m c).loose) (hshare := share_eq m) (howed := fun _ _ => rfl) (V₀ := V0 m) (opss := [hostOps1])
    (hsub := tail_sub) (hfresh := tail_fresh) (hkeep := tail_keeps) (hmain := hmain m) (hA := A_eq m) (hΦ := fun _ _ => rfl)
    (Q' := fun r => FramePost cfgs (dats m) 0 (Pipeline.afterTail₀ cfgs (dats m) 0 (V0 m) [hostOps1]) r ∧ r.2.sem = fun _ => 0)
    (hQ' := fun _ h => h)

end Cert.Proof.Rescore
-- ==== Proof.Rescore.Block.lean ====
module

public import proofs.«01_k».proof.Proof.Rescore.Row
public import proofs.«01_k».proof.Proof.Rescore.Run

/-!
What the rescoring step leaves of its blocks, at a row: the functions of that row.
-/

@[expose] public section

noncomputable section

namespace Cert.Proof.Rescore

open Cert.RescoreIdeal Cert.RescoreIdeal.Gen
open Idealize.ShloMosaic

/-- Of five different columns the one a slot is at, last first, is the only one it is at. -/
theorem share_if {c : Nat} {p : Nat → Nat} {w : Fin 5 → EReal} (hp : ∀ i < 5, ∀ k < 5, p i = p k → i = k) :
    (if c = p 4 then w 4 else if c = p 3 then w 3 else if c = p 2 then w 2 else if c = p 1 then w 1 else if c = p 0 then w 0 else 0)
      = ∑ k : Fin 5, if c = p k.val then w k else 0 := by
  by_cases hc : ∃ i < 5, c = p i
  · obtain ⟨i, hi, rfl⟩ := hc
    have e : ∀ k < 5, (p i = p k) = (i = k) := fun k hk => propext ⟨hp i hi k hk, fun h => h ▸ rfl⟩
    rw [Fin.sum_univ_five]
    show _ = (if p i = p 0 then w 0 else 0) + (if p i = p 1 then w 1 else 0) + (if p i = p 2 then w 2 else 0)
      + (if p i = p 3 then w 3 else 0) + (if p i = p 4 then w 4 else 0)
    simp only [e 0 (by omega), e 1 (by omega), e 2 (by omega), e 3 (by omega), e 4 (by omega)]
    have : i = 0 ∨ i = 1 ∨ i = 2 ∨ i = 3 ∨ i = 4 := by omega
    rcases this with rfl | rfl | rfl | rfl | rfl <;> simp
  · have e : ∀ k < 5, c ≠ p k := fun k hk h => hc ⟨k, hk, h⟩
    rw [if_neg (e 4 (by omega)), if_neg (e 3 (by omega)), if_neg (e 2 (by omega)), if_neg (e 1 (by omega)), if_neg (e 0 (by omega))]
    exact (Finset.sum_eq_zero fun k _ => if_neg (e k.val k.isLt)).symm

variable (q : Vec Ideal S512x64 .f32) (g : Vec Ideal S512x5120 .f32) (cl par : Vec Ideal S512x40 .i32) (r : Fin 512)

theorem simsB_row (j : Fin 40) :
    simsB q g par (ix2 r j) = Row.sim (fun d => q (ix2 r d)) (fun d => g (ix2 r d)) (fun j => par (ix2 r j)) j := by
  unfold simsB Row.sim
  rw [beside_apply, simCol_apply]
  simp only [norm_apply, cand_apply]

variable (h : Row.Ok (fun d => q (ix2 r d)) (fun d => g (ix2 r d)) (fun j => cl (ix2 r j)))
include h

theorem sims_ne (j : Fin 40) : simsB q g par (ix2 r j) ≠ ⊥ := by
  rw [simsB_row]; exact Row.sim_ne h j

theorem sims_fun : (fun j => simsB q g par (ix2 r j)) =
    Row.sim (fun d => q (ix2 r d)) (fun d => g (ix2 r d)) fun j => par (ix2 r j) := funext fun j => simsB_row q g par r j

theorem bestB_row (k : Fin 5) : bestB q g cl par (ix2 r k) =
    Row.top (fun d => q (ix2 r d)) (fun d => g (ix2 r d)) (fun j => cl (ix2 r j)) (fun j => par (ix2 r j)) k.val := by
  unfold bestB Row.top
  rw [bests_apply, best_apply, after_val cl (simsB q g par) r h.low (sims_ne q g cl par r h) 5 h.five k.val (by omega),
    sims_fun q g cl par r h]
  rfl

theorem expo_row (k : Fin 5) : expo (bestB q g cl par) (ix2 r k) =
    Row.ex (fun d => q (ix2 r d)) (fun d => g (ix2 r d)) (fun j => cl (ix2 r j)) (fun j => par (ix2 r j)) k := by
  rw [expo_apply, bestB_row q g cl par r h, bestB_row q g cl par r h]; rfl

theorem weigh_row (k : Fin 5) : weigh (bestB q g cl par) (ix2 r k) =
    Row.weight (fun d => q (ix2 r d)) (fun d => g (ix2 r d)) (fun j => cl (ix2 r j)) (fun j => par (ix2 r j)) k := by
  rw [weigh_apply]
  simp only [expo_row q g cl par r h]; rfl

theorem slots_row (j : Fin 40) : slots cl (simsB q g par) (weigh (bestB q g cl par)) (ix2 r j) =
    Row.share (fun d => q (ix2 r d)) (fun d => g (ix2 r d)) (fun j => cl (ix2 r j)) (fun j => par (ix2 r j)) j := by
  rw [slots_apply]
  have e := fun k hk => bestCol_pk cl (simsB q g par) r h.low (sims_ne q g cl par r h) 5 h.five k hk j
  simp only [e 4 (by omega), e 3 (by omega), e 2 (by omega), e 1 (by omega), e 0 (by omega), weigh_row q g cl par r h,
    sims_fun q g cl par r h]
  exact share_if fun i hi k hk => Pick.pk_inj 100000 _ _ 5 (Row.sim_ne h) h.five hi hk

theorem sum_row (d : Fin 64) :
    sumTo (slots cl (simsB q g par) (weigh (bestB q g cl par))) (pairOf g) par 40 (by decide) (ix2 r d) =
      ∑ j, Row.share (fun d => q (ix2 r d)) (fun d => g (ix2 r d)) (fun j => cl (ix2 r j)) (fun j => par (ix2 r j)) j
        * vec (fun d => g (ix2 r d)) (fun j => par (ix2 r j)) j d :=
  (sumTo_apply _ _ _ r d 40 (by decide)).trans (Finset.sum_congr rfl fun j _ => by
    rw [show j.castLE (by decide : 40 ≤ 40) = j from rfl, slots_row q g cl par r h, cand_apply])

theorem outVec_row (d : Fin 64) : outVec q g cl par (ix2 r d) =
    Row.out (fun d => q (ix2 r d)) (fun d => g (ix2 r d)) (fun j => cl (ix2 r j)) (fun j => par (ix2 r j)) d := by
  unfold outVec Row.out
  rw [norm_apply, funext fun k => sum_row q g cl par r h k]

theorem outW_row (k : Fin 5) : outW q g cl par (ix2 r ⟨k.val, by omega⟩) =
    Row.weight (fun d => q (ix2 r d)) (fun d => g (ix2 r d)) (fun j => cl (ix2 r j)) (fun j => par (ix2 r j)) k := by
  rw [← weigh_row q g cl par r h]
  unfold outW k0_pay1
  pointwise

theorem outD_row (k : Fin 8) : outD q g cl par (ix2 r k) =
    1 - Row.top (fun d => q (ix2 r d)) (fun d => g (ix2 r d)) (fun j => cl (ix2 r j)) (fun j => par (ix2 r j)) 0 := by
  rw [show Row.top (fun d => q (ix2 r d)) (fun d => g (ix2 r d)) (fun j => cl (ix2 r j)) (fun j => par (ix2 r j)) 0
    = bestB q g cl par (ix2 r 0) from (bestB_row q g cl par r h 0).symm]
  unfold outD k0_pay2
  pointwise [top_apply]

end Cert.Proof.Rescore
-- ==== Proof.Rescore.Arrays.lean ====
module

public import proofs.«01_k».proof.Proof.Rescore.Block
public import Idealize.ShloMosaic.Lib.Pipeline.ValueKit.Geometry

/-!
What the rescoring leaves in its arrays: the arguments as they were, and, for a row the precondition is true of, the
functions of that row.
-/

@[expose] public section

noncomputable section

namespace Cert.Proof.Rescore

open Cert.RescoreIdeal Cert.RescoreIdeal.Gen
open Idealize.ShloMosaic
open Idealize.ShloMosaic.TcCoe
open Idealize.SL.Sem
open Idealize.ShloMosaic.Pipeline (Dat Cfg FramePost)

/-! ## The arguments -/

section arguments

variable {F : FTy → Type} [FloatOps F] [∀ e, Nonempty (Elt F e)]
    (m : (ℓ : Loc nD τ sig) → Buf (Elt F) ℓ)

theorem kept (r) (h : FramePost cfgs (dats m) 0 (Pipeline.afterTail₀ cfgs (dats m) 0 (V0 m) [hostOps1]) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 0).trans (((dats m 0 c).arrAt_in 0 rfl _).trans (A_eq m c 0)),
   ((h c).1 1).trans (((dats m 0 c).arrAt_in 1 rfl _).trans (A_eq m c 1)),
   ((h c).1 2).trans (((dats m 0 c).arrAt_in 2 rfl _).trans (A_eq m c 2)),
   ((h c).1 3).trans (((dats m 0 c).arrAt_in 3 rfl _).trans (A_eq m c 3))⟩

theorem run_kept (ρ : Dev nD → PrngReg) :
    θ_run (defs (F := F)) (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0 :=
  (θ_run defs _ _).mono (fun r h => ⟨fun c => kept m r h.1 c, h.2⟩) (run_main m ρ)

end arguments

/-! ## The results -/

variable (m : (ℓ : Loc nD τ sig) → Buf (Elt Ideal) ℓ) (c : Dev nD)

/-- The four arguments. -/
abbrev aQ : Vec Ideal S1024x64 .f32 := m ((c : Thread nD τ).loc main_arg0)
abbrev aG : Vec Ideal S1024x5120 .f32 := m ((c : Thread nD τ).loc main_arg1)
abbrev aC : Vec Ideal S1024x40 .i32 := m ((c : Thread nD τ).loc main_arg2)
abbrev aP : Vec Ideal S1024x40 .i32 := m ((c : Thread nD τ).loc main_arg3)

/-- A point's `r`-th row, among all the rows. -/
def rowOf (t : Fin cfg0.N) (r : Fin 512) : Fin 1024 := ⟨512 * t.val + r.val, by
  have : t.val < 2 := t.isLt
  omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

theorem blk0 (t : Fin cfg0.N) (r : Fin 512) (d : Fin 64) : blkV m c 0 t (ix2 r d) = aQ m c (ix2 (rowOf t r) d) := by
  unfold blkV
  blk_simp
  show m _ _ = m _ _
  refine congrArg (m ((c : Thread nD τ).loc main_arg0)) ?_
  have e := idx0 t
  blk_ext [e, rowOf]

theorem blk1 (t : Fin cfg0.N) (r : Fin 512) (d : Fin 5120) : blkV m c 1 t (ix2 r d) = aG m c (ix2 (rowOf t r) d) := by
  unfold blkV
  blk_simp
  show m _ _ = m _ _
  refine congrArg (m ((c : Thread nD τ).loc main_arg1)) ?_
  have e := idx1 t
  blk_ext [e, rowOf]

theorem blk2 (t : Fin cfg0.N) (r : Fin 512) (d : Fin 40) : blkV m c 2 t (ix2 r d) = aC m c (ix2 (rowOf t r) d) := by
  unfold blkV
  blk_simp
  show m _ _ = m _ _
  refine congrArg (m ((c : Thread nD τ).loc main_arg2)) ?_
  have e := idx2 t
  blk_ext [e, rowOf]

theorem blk3 (t : Fin cfg0.N) (r : Fin 512) (d : Fin 40) : blkV m c 3 t (ix2 r d) = aP m c (ix2 (rowOf t r) d) := by
  unfold blkV
  blk_simp
  show m _ _ = m _ _
  refine congrArg (m ((c : Thread nD τ).loc main_arg3)) ?_
  have e := idx3 t
  blk_ext [e, rowOf]

theorem ok_blk (h : ∀ r : Fin 1024, Row.Ok (fun d => aQ m c (ix2 r d)) (fun d => aG m c (ix2 r d)) (fun j => aC m c (ix2 r j)))
    (t : Fin cfg0.N) (r : Fin 512) :
    Row.Ok (fun d => blkV m c 0 t (ix2 r d)) (fun d => blkV m c 1 t (ix2 r d)) (fun j => blkV m c 2 t (ix2 r j)) := by
  simp only [blk0, blk1, blk2]
  exact h (rowOf t r)

theorem arr4 (h : ∀ r : Fin 1024, Row.Ok (fun d => aQ m c (ix2 r d)) (fun d => aG m c (ix2 r d)) (fun j => aC m c (ix2 r j))) :
    (dats m 0 c).arrAt 4 cfg0.N = (fun i => Row.out (fun d => aQ m c (ix2 (i 0) d)) (fun d => aG m c (ix2 (i 0) d))
      (fun j => aC m c (ix2 (i 0) j)) (fun j => aP m c (ix2 (i 0) j)) (i 1) : Vec Ideal S1024x64 .f32) := by
  refine (dats m 0 c).arrAt_eq_of_covers 4 _ (by decide +kernel) fun t hf y => ?_
  blk_simp
  rw [after_4]
  obtain ⟨r, hr⟩ : ∃ r : Fin 512, r = y 0 := ⟨_, rfl⟩
  have e := idx4 t
  have e0 : (win0_4.blk t).view.emb y 0 = rowOf t r := by
    refine Fin.ext ?_
    blk_simp
    simp [e, rowOf, hr, Nat.mul_comm]
  have e1 : (win0_4.blk t).view.emb y 1 = y 1 := by
    refine Fin.ext ?_
    blk_simp
    simp [e]
  simp only [e0, e1]
  rw [show y = ix2 r (y 1) from (by rw [hr]; exact eq_ix2 y)]
  refine (outVec_row _ _ _ _ r (ok_blk m c h t r) (y 1)).trans ?_
  simp only [blk0, blk1, blk2, blk3]
  rfl

theorem arr5 (h : ∀ r : Fin 1024, Row.Ok (fun d => aQ m c (ix2 r d)) (fun d => aG m c (ix2 r d)) (fun j => aC m c (ix2 r j)))
    (r : Fin 1024) (k : Fin 5) :
    ((dats m 0 c).arrAt 5 cfg0.N : Vec Ideal S1024x8 .f32) (ix2 r ⟨k.val, by omega⟩) = Row.weight (fun d => aQ m c (ix2 (r) d)) (fun d => aG m c (ix2 (r) d))
      (fun j => aC m c (ix2 (r) j)) (fun j => aP m c (ix2 (r) j)) k := by
  have g := (dats m 0 c).arrAt_forall_of_covers 5 (fun (i : S1024x8.Idx) (v : Ideal .f32) => ∀ k : Fin 5, k.val = (i 1).val →
    v = Row.weight (fun d => aQ m c (ix2 (i 0) d)) (fun d => aG m c (ix2 (i 0) d))
      (fun j => aC m c (ix2 (i 0) j)) (fun j => aP m c (ix2 (i 0) j)) k) (by decide +kernel) (fun t hf y => ?_) (ix2 r ⟨k.val, by omega⟩)
  · exact g k rfl
  intro k hk
  blk_simp
  rw [after_5]
  obtain ⟨r, hr⟩ : ∃ r : Fin 512, r = y 0 := ⟨_, rfl⟩
  have e := idx5 t
  have e0 : (win0_5.blk t).view.emb y 0 = rowOf t r := by
    refine Fin.ext ?_
    blk_simp
    simp [e, rowOf, hr, Nat.mul_comm]
  have e1 : (win0_5.blk t).view.emb y 1 = y 1 := by
    refine Fin.ext ?_
    blk_simp
    simp [e]
  have hk' : k.val = (y 1).val := hk.trans (congrArg Fin.val e1)
  simp only [e0]
  rw [show y = ix2 r ⟨k.val, by omega⟩ from (by rw [hr]; exact (eq_ix2 y).trans (congrArg (ix2 (y 0)) (Fin.ext hk'.symm)))]
  refine (outW_row _ _ _ _ r (ok_blk m c h t r) k).trans ?_
  simp only [blk0, blk1, blk2, blk3]

theorem arr6 (h : ∀ r : Fin 1024, Row.Ok (fun d => aQ m c (ix2 r d)) (fun d => aG m c (ix2 r d)) (fun j => aC m c (ix2 r j))) :
    (dats m 0 c).arrAt 6 cfg0.N = (fun i => 1 - Row.top (fun d => aQ m c (ix2 (i 0) d)) (fun d => aG m c (ix2 (i 0) d))
      (fun j => aC m c (ix2 (i 0) j)) (fun j => aP m c (ix2 (i 0) j)) 0 : Vec Ideal S1024x8 .f32) := by
  refine (dats m 0 c).arrAt_eq_of_covers 6 _ (by decide +kernel) fun t hf y => ?_
  blk_simp
  rw [after_6]
  obtain ⟨r, hr⟩ : ∃ r : Fin 512, r = y 0 := ⟨_, rfl⟩
  have e := idx6 t
  have e0 : (win0_6.blk t).view.emb y 0 = rowOf t r := by
    refine Fin.ext ?_
    blk_simp
    simp [e, rowOf, hr, Nat.mul_comm]
  have e1 : (win0_6.blk t).view.emb y 1 = y 1 := by
    refine Fin.ext ?_
    blk_simp
    simp [e]
  simp only [e0]
  rw [show y = ix2 r (y 1) from (by rw [hr]; exact eq_ix2 y)]
  refine (outD_row _ _ _ _ r (ok_blk m c h t r) (y 1)).trans ?_
  simp only [blk0, blk1, blk2, blk3]

/-! ## The host operations after the region -/

theorem after_v2 (r : Fin 1024) : (Pipeline.afterTail₀ cfgs (dats m) 0 (V0 m) [hostOps1] c main_v2 : Vec Ideal S1024 .f32) (ix1 r)
    = ((dats m 0 c).arrAt 6 cfg0.N : Vec Ideal S1024x8 .f32) (ix2 r 0) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v0_2)
    = (dats m 0 c).arrAt 6 cfg0.N from Pipeline.withArrays_arr (cfgs 0).spec (by decide +kernel) c (V0 m c) (fun w => (dats m 0 c).arrAt w (cfgs 0).N) 6]
  generalize (dats m 0 c).arrAt 6 cfg0.N = v
  show _ = (v : Vec Ideal S1024x8 .f32) _
  pointwise

theorem after_v3 (r : Fin 1024) (k : Fin 5) :
    (Pipeline.afterTail₀ cfgs (dats m) 0 (V0 m) [hostOps1] c main_v3 : Vec Ideal S1024x5 .f32) (ix2 r k)
    = ((dats m 0 c).arrAt 5 cfg0.N : Vec Ideal S1024x8 .f32) (ix2 r ⟨k.val, by omega⟩) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v0_1)
    = (dats m 0 c).arrAt 5 cfg0.N from Pipeline.withArrays_arr (cfgs 0).spec (by decide +kernel) c (V0 m c) (fun w => (dats m 0 c).arrAt w (cfgs 0).N) 5]
  generalize (dats m 0 c).arrAt 5 cfg0.N = v
  show _ = (v : Vec Ideal S1024x8 .f32) _
  pointwise

end Cert.Proof.Rescore
-- ==== Proof.Rescore.RefTerm.lean ====
module

public import proofs.«01_k».proof.Proof.Gen.RescoreReferenceIdeal.Run
public import Idealize.ShloMosaic.Lib.Pointwise

/-!
The rescoring reference's results, written as a few named functions of its arguments.
-/

@[expose] public section

noncomputable section

namespace Cert.Proof.Rescore.Ref

open Cert.RescoreReferenceIdeal Cert.RescoreReferenceIdeal.Gen
open Idealize.ShloMosaic Idealize.ShloMosaic.TcCoe Idealize.SL.Sem

variable (q : FVec Ideal S1024x64 .f32) (g : FVec Ideal S1024x5120 .f32) (cl par : IVec S1024x40 32)

/-- The gathered pairs, the two vectors of each apart. -/
def pairs : FVec Ideal S1024x40x2x64 .f32 := shapeCast S1024x40x2x64 g shapeCasts_S1024x5120_S1024x40x2x64

/-- Each slot's vector. -/
def vectors : FVec Ideal S1024x40x64 .f32 :=
  select
    (broadcastInDim S1024x40x64 ![0, 1, 2] bcast_S1024x40x1_S1024x40x64_0_1_2
      (cmpi .sgt (broadcastInDim S1024x40x1 ![0, 1] bcast_S1024x40_S1024x40x1_0_1 par)
        (broadcastInDim S1024x40x1 ![] bcast_S_S1024x40x1 (constantI S_ 32 0#32))))
    (shapeCast S1024x40x64
      (extractStridedSlice S1024x40x1x64 ![0, 0, 1, 0] (pairs g) slices_S1024x40x2x64_S1024x40x1x64_0_0_1_0)
      shapeCasts_S1024x40x1x64_S1024x40x64)
    (shapeCast S1024x40x64
      (extractStridedSlice S1024x40x1x64 ![0, 0, 0, 0] (pairs g) slices_S1024x40x2x64_S1024x40x1x64_0_0_0_0)
      shapeCasts_S1024x40x1x64_S1024x40x64)

/-- The rows scaled to length one. -/
def norm (v : FVec Ideal S1024x64 .f32) : FVec Ideal S1024x64 .f32 :=
  Host.divf v
    (broadcastInDim S1024x64 ![0, 1] bcast_S1024x1_S1024x64_0_1
      (maximumf
        (Host.sqrt (broadcastInDim S1024x1 ![0] bcast_S1024_S1024x1_0
          (Host.reduceAdd (mulf v v) (constant S_ .f32 0x00000000#32) reducesTo_S1024x64_S1024_d1 h_S_)))
        (broadcastInDim S1024x1 ![] bcast_S_S1024x1 (constant S_ .f32 0x2B8CBCCC#32))))

/-- The similarities. -/
def sims : FVec Ideal S1024x40 .f32 :=
  Host.reduceAdd
    (mulf
      (broadcastInDim S1024x40x64 ![0, 1, 2] bcast_S1024x1x64_S1024x40x64_0_1_2
        (broadcastInDim S1024x1x64 ![0, 2] bcast_S1024x64_S1024x1x64_0_2 (norm q)))
      (vectors g par))
    (constant S_ .f32 0x00000000#32) reducesTo_S1024x40x64_S1024x40_d2 h_S_

/-- Each slot's similarity where the slot's column is, the bottom elsewhere. -/
def placed (s : FVec Ideal S1024x40 .f32) : FVec Ideal S1024x40x100000 .f32 :=
  select
    (cmpi .eq
      (broadcastInDim S1024x40x100000 ![0, 1, 2] bcast_S1024x40x1_S1024x40x100000_0_1_2
        (broadcastInDim S1024x40x1 ![0, 1] bcast_S1024x40_S1024x40x1_0_1 cl))
      (broadcastInDim S1024x40x100000 ![0, 1, 2] bcast_S1x1x100000_S1024x40x100000_0_1_2
        (broadcastInDim S1x1x100000 ![2] bcast_S100000_S1x1x100000_2 (iotaInDim S100000 32 0))))
    (broadcastInDim S1024x40x100000 ![0, 1, 2] bcast_S1024x40x1_S1024x40x100000_0_1_2
      (broadcastInDim S1024x40x1 ![0, 1] bcast_S1024x40_S1024x40x1_0_1 s))
    (broadcastInDim S1024x40x100000 ![] bcast_S_S1024x40x100000 (constant S_ .f32 0xFF800000#32))

/-- What each column of the queue holds. -/
def overQueue (s : FVec Ideal S1024x40 .f32) : FVec Ideal S1024x100000 .f32 :=
  Host.reduce FloatOps.maximumf (placed cl s) (constant S_ .f32 0xFF800000#32) reducesTo_S1024x40x100000_S1024x100000_d1 h_S_

/-- The five greatest of each row and their columns. -/
def best (x : FVec Ideal S1024x100000 .f32) : FVec Ideal S1024x5 .f32 × IVec S1024x5 32 :=
  Host.topK S1024x5 1 (FloatOps.cmpfTotal .gt) x sliceFits_S1024x100000_S1024x5

/-- The values over the temperature. -/
def scaled (v : FVec Ideal S1024x5 .f32) : FVec Ideal S1024x5 .f32 :=
  Host.divf v (broadcastInDim S1024x5 ![] bcast_S_S1024x5 (constant S_ .f32 0x3DCCCCCD#32))

/-- The exponentials, the greatest exponent taken off first. -/
def expo (x : FVec Ideal S1024x5 .f32) : FVec Ideal S1024x5 .f32 :=
  Host.exp (subf x
    (broadcastInDim S1024x5 ![0, 1] bcast_S1024x1_S1024x5_0_1
      (broadcastInDim S1024x1 ![0] bcast_S1024_S1024x1_0
        (maximumf (broadcastInDim S1024 ![] bcast_S_S1024 (constant S_ .f32 0xFF800000#32))
          (Host.reduce FloatOps.maximumf x (constant S_ .f32 0xFF800000#32) reducesTo_S1024x5_S1024_d1 h_S_)))))

/-- The exponentials over their sum. -/
def share (e : FVec Ideal S1024x5 .f32) : FVec Ideal S1024x5 .f32 :=
  Host.divf e
    (broadcastInDim S1024x5 ![0, 1] bcast_S1024x1_S1024x5_0_1
      (broadcastInDim S1024x1 ![0] bcast_S1024_S1024x1_0
        (Host.reduceAdd e (constant S_ .f32 0x00000000#32) reducesTo_S1024x5_S1024_d1 h_S_)))

/-- The weights of the best values. -/
def weigh (v : FVec Ideal S1024x5 .f32) : FVec Ideal S1024x5 .f32 := share (expo (scaled v))

/-- A weight at each slot whose column is chosen, nothing elsewhere. -/
def given (b : IVec S1024x5 32) (w : FVec Ideal S1024x5 .f32) : FVec Ideal S1024x5x40 .f32 :=
  select
    (cmpi .eq
      (broadcastInDim S1024x5x40 ![0, 1, 2] bcast_S1024x1x40_S1024x5x40_0_1_2
        (broadcastInDim S1024x1x40 ![0, 2] bcast_S1024x40_S1024x1x40_0_2 cl))
      (broadcastInDim S1024x5x40 ![0, 1, 2] bcast_S1024x5x1_S1024x5x40_0_1_2
        (broadcastInDim S1024x5x1 ![0, 1] bcast_S1024x5_S1024x5x1_0_1 b)))
    (broadcastInDim S1024x5x40 ![0, 1, 2] bcast_S1024x5x1_S1024x5x40_0_1_2
      (broadcastInDim S1024x5x1 ![0, 1] bcast_S1024x5_S1024x5x1_0_1 w))
    (broadcastInDim S1024x5x40 ![] bcast_S_S1024x5x40 (constant S_ .f32 0x00000000#32))

/-- Each slot's share. -/
def slots (b : IVec S1024x5 32) (w : FVec Ideal S1024x5 .f32) : FVec Ideal S1024x40 .f32 :=
  Host.reduceAdd (given cl b w) (constant S_ .f32 0x00000000#32) reducesTo_S1024x5x40_S1024x40_d1 h_S_

/-- The shares' sum of the vectors. -/
def mix (s : FVec Ideal S1024x40 .f32) (v : FVec Ideal S1024x40x64 .f32) : FVec Ideal S1024x64 .f32 :=
  Host.reduceAdd
    (mulf
      (broadcastInDim S1024x40x64 ![0, 1, 2] bcast_S1024x40x1_S1024x40x64_0_1_2
        (broadcastInDim S1024x40x1 ![0, 1] bcast_S1024x40_S1024x40x1_0_1 s))
      v)
    (constant S_ .f32 0x00000000#32) reducesTo_S1024x40x64_S1024x64_d1 h_S_

/-- The five best of each row. -/
def top : FVec Ideal S1024x5 .f32 × IVec S1024x5 32 := best (overQueue cl (sims q g par))

/-- The weights. -/
def weights : FVec Ideal S1024x5 .f32 := weigh (top q g cl par).1

/-- The retrieved vectors. -/
def retrieved : FVec Ideal S1024x64 .f32 :=
  norm (mix (slots cl (top q g cl par).2 (weights q g cl par)) (vectors g par))

/-- One less the first of each row's five values. -/
def dist (v : FVec Ideal S1024x5 .f32) : FVec Ideal S1024 .f32 :=
  subf (broadcastInDim S1024 ![] bcast_S_S1024 (constant S_ .f32 0x3F800000#32))
    (shapeCast S1024 (extractStridedSlice S1024x1 ![0, 0] v slices_S1024x5_S1024x1_0_0) shapeCasts_S1024x1_S1024)

/-- The distances. -/
def distances : FVec Ideal S1024 .f32 := dist (top q g cl par).1

section results

variable (m : (ℓ : Loc nD τ sig) → Buf (Elt Ideal) ℓ) (c : Dev nD)

set_option maxHeartbeats 4000000 in
set_option maxRecDepth 8192 in
theorem res_retrieved : Value.res_main_v62 (F := Ideal) m c =
    retrieved (m ((c.tc : Thread nD τ).loc main_arg0)) (m ((c.tc : Thread nD τ).loc main_arg1))
      (m ((c.tc : Thread nD τ).loc main_arg2)) (m ((c.tc : Thread nD τ).loc main_arg3)) := by
  unfold Value.res_main_v62; rfl

set_option maxHeartbeats 4000000 in
set_option maxRecDepth 8192 in
theorem res_weights : Value.res_main_v42 (F := Ideal) m c =
    weights (m ((c.tc : Thread nD τ).loc main_arg0)) (m ((c.tc : Thread nD τ).loc main_arg1))
      (m ((c.tc : Thread nD τ).loc main_arg2)) (m ((c.tc : Thread nD τ).loc main_arg3)) := by
  unfold Value.res_main_v42; rfl

set_option maxHeartbeats 4000000 in
set_option maxRecDepth 8192 in
/-- What the reference leaves: the named functions of its arguments, and the arguments. -/
theorem run (ρ : Dev nD → PrngReg) :
    θ_run defs (onTc (τ := τ) (main (F := Ideal))) ⟨m, fun _ => 0, ρ⟩ fun r => ∀ c : Dev nD,
      r.2.mem ((c.tc : Thread nD τ).loc main_v62) =
        retrieved (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v66) =
        distances (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v42) =
        weights (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_retrieved m c), (h c).2.1.trans (by rfl),
    (h c).2.2.1.trans (res_weights m c), (h c).2.2.2⟩) (Value.run m ρ)

end results

end Cert.Proof.Rescore.Ref
-- ==== Proof.Rescore.RefRow.lean ====
module

public import proofs.«01_k».proof.Proof.Rescore.RefTerm
public import proofs.«01_k».proof.Proof.Rescore.Row

/-!
The rescoring reference's results at a row: the same functions of that row.
-/

@[expose] public section

noncomputable section

namespace Cert.Proof.Rescore.Ref

open Cert.RescoreReferenceIdeal Cert.RescoreReferenceIdeal.Gen
open Idealize.ShloMosaic

theorem select_eq {α : Type} {w : Nat} (a b : BitVec w) (x y : α) :
    Scalar.select (IntOp.cmpi .eq a b) x y = if a = b then x else y :=
  (Scalar.select_ofBool (a == b) x y).trans (by simp only [beq_iff_eq])

theorem norm_apply (v : FVec Ideal S1024x64 .f32) (r : Fin 1024) (d : Fin 64) :
    norm v (ix2 r d) = nrm (fun k => v (ix2 r k)) d := by
  unfold norm nrm
  pointwise

theorem vectors_apply (g : FVec Ideal S1024x5120 .f32) (par : IVec S1024x40 32) (r : Fin 1024) (j : Fin 40) (d : Fin 64) :
    vectors g par (ix3 r j d) = vec (fun k => g (ix2 r k)) (fun k => par (ix2 r k)) j d := by
  unfold vectors pairs vec
  pointwise
  rw [show (⟨j.val * 128 + 64 + d.val, by omega⟩ : Fin 5120) = ⟨128 * j.val + (64 + d.val), by omega⟩ from Fin.ext (by
      show j.val * 128 + 64 + d.val = 128 * j.val + (64 + d.val); omega),
    show (⟨j.val * 128 + d.val, by omega⟩ : Fin 5120) = ⟨128 * j.val + d.val, by omega⟩ from Fin.ext (by
      show j.val * 128 + d.val = 128 * j.val + d.val; omega)]
  exact Scalar.select_ofBool _ _ _

theorem sims_apply (q : FVec Ideal S1024x64 .f32) (g : FVec Ideal S1024x5120 .f32) (par : IVec S1024x40 32) (r : Fin 1024) (j : Fin 40) :
    sims q g par (ix2 r j) = Row.sim (fun d => q (ix2 r d)) (fun d => g (ix2 r d)) (fun j => par (ix2 r j)) j := by
  unfold sims Row.sim
  pointwise [norm_apply, vectors_apply]

theorem placed_apply (cl : IVec S1024x40 32) (s : FVec Ideal S1024x40 .f32) (r : Fin 1024) (j : Fin 40) (x : Fin 100000) :
    placed cl s (ix3 r j x) = if cl (ix2 r j) = BitVec.ofNat 32 x.val then s (ix2 r j) else ⊥ := by
  unfold placed
  pointwise
  rw [negInf]; exact select_eq _ _ _ _

theorem word_eq (a : BitVec 32) {x : Nat} (hx : x < 2 ^ 32) : (a = BitVec.ofNat 32 x) = (a.toNat = x) :=
  propext ⟨fun h => by rw [h, BitVec.toNat_ofNat, Nat.mod_eq_of_lt hx], fun h =>
    BitVec.eq_of_toNat_eq (by rw [h, BitVec.toNat_ofNat, Nat.mod_eq_of_lt hx])⟩

theorem overQueue_apply (cl : IVec S1024x40 32) (s : FVec Ideal S1024x40 .f32) (r : Fin 1024) (x : Fin 100000) :
    overQueue cl s (ix2 r x) = Pick.over (Row.col fun j => cl (ix2 r j)) (fun j => s (ix2 r j)) x.val := by
  unfold overQueue Pick.over
  pointwise [placed_apply]
  have hx : x.val < 2 ^ 32 := lt_trans x.isLt (by decide)
  simp only [word_eq _ hx, negInf]
  rfl

theorem scaled_apply (v : FVec Ideal S1024x5 .f32) (r : Fin 1024) (k : Fin 5) :
    scaled v (ix2 r k) = Ideal.div (v (ix2 r k)) temp := by
  unfold scaled temp
  pointwise

theorem expo_apply (x : FVec Ideal S1024x5 .f32) (r : Fin 1024) (k : Fin 5) :
    expo x (ix2 r k) = Ideal.exp (x (ix2 r k) - Finset.univ.sup fun k => x (ix2 r k)) := by
  unfold expo
  pointwise
  rw [negInf, max_eq_right bot_le]
  rfl

theorem share_apply (e : FVec Ideal S1024x5 .f32) (r : Fin 1024) (k : Fin 5) :
    share e (ix2 r k) = Ideal.div (e (ix2 r k)) (∑ i, e (ix2 r i)) := by
  unfold share
  pointwise

theorem slots_apply (cl : IVec S1024x40 32) (b : IVec S1024x5 32) (w : FVec Ideal S1024x5 .f32) (r : Fin 1024) (j : Fin 40) :
    slots cl b w (ix2 r j) = ∑ k : Fin 5, if cl (ix2 r j) = b (ix2 r k) then w (ix2 r k) else 0 := by
  unfold slots given
  pointwise
  exact Finset.sum_congr rfl fun k _ => select_eq _ _ _ _

theorem mix_apply (s : FVec Ideal S1024x40 .f32) (v : FVec Ideal S1024x40x64 .f32) (r : Fin 1024) (d : Fin 64) :
    mix s v (ix2 r d) = ∑ j, s (ix2 r j) * v (ix3 r j d) := by
  unfold mix
  pointwise

theorem dist_apply (v : FVec Ideal S1024x5 .f32) (r : Fin 1024) : dist v (ix1 r) = 1 - v (ix2 r 0) := by
  unfold dist
  pointwise

/-! ## The sort -/

/-- The sort of two arrays along an axis, at an index. -/
theorem sort2_at (s : Shape) (d : Nat) (hd : d < s.rank) {α β : Type} (cmp : α × β → α × β → BitVec 1) (x : s.Idx → α) (y : s.Idx → β)
    (j : s.Idx) :
    (Host.sort2 s d cmp x y).1 j = x (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) ∧
    (Host.sort2 s d cmp x y).2 j = y (j.along ⟨d, hd⟩ (sortedFrom (fun k k' => cmp (x (j.along ⟨d, hd⟩ k), y (j.along ⟨d, hd⟩ k))
      (x (j.along ⟨d, hd⟩ k'), y (j.along ⟨d, hd⟩ k')) == 1#1) (j ⟨d, hd⟩))) := by
  unfold Host.sort2
  rw [dif_pos hd]
  exact ⟨rfl, rfl⟩

/-- The first of the sorted along an axis, at an index. -/
theorem topK_at {s : Shape} (t : Shape) (d : Nat) (hd : d < s.rank) {α : Type} (gt : α → α → BitVec 1) (x : s.Idx → α) (h)
    (j : t.Idx) (i : s.Idx) (hi : ∀ a, (i a).val = (j (a.cast h.1.symm)).val) (L : Fin (s.size ⟨d, hd⟩) → s.Idx)
    (hL : ∀ k, i.along ⟨d, hd⟩ k = L k) :
    (Host.topK t d gt x h).1 j = x (L (sortedFrom (fun k k' => gt (x (L k)) (x (L k')) == 1#1) (i ⟨d, hd⟩))) ∧
    (Host.topK t d gt x h).2 j = BitVec.ofNat 32 (L (sortedFrom (fun k k' => gt (x (L k)) (x (L k')) == 1#1) (i ⟨d, hd⟩)) ⟨d, hd⟩).val := by
  obtain rfl : L = fun k => i.along ⟨d, hd⟩ k := funext fun k => (hL k).symm
  have e : (fun a => (⟨0 + (j (a.cast h.1.symm)).val, Nat.lt_of_lt_of_le (Nat.add_lt_add_left (j _).isLt _) (h.2 a)⟩ : Fin (s.size a))) = i :=
    funext fun a => Fin.ext (by rw [hi a]; exact Nat.zero_add _)
  unfold Host.topK extractStridedSlice
  dsimp only
  rw [e]
  have := sort2_at s d hd (fun l r => gt l.1 r.1) x (fun i => if hd : d < s.rank then iotaInDim s 32 ⟨d, hd⟩ i else 0#32) i
  refine ⟨this.1, this.2.trans ?_⟩
  dsimp only
  rw [dif_pos hd]
  rfl

theorem along_row {n k : Nat} (r : Fin n) (y z : Fin k) (h : 1 < 2) :
    Shape.Idx.along (s := ⟨2, ![n, k]⟩) (ix2 r y) ⟨1, h⟩ z = ix2 r z := by
  unfold Shape.Idx.along
  funext a
  match a with
  | ⟨0, h0⟩ => exact Function.update_of_ne (fun e => absurd (Fin.mk.inj e) (by omega)) _ _
  | ⟨1, h1⟩ => exact Function.update_self _ _ _

theorem topK_row {n k K : Nat} (hK : K ≤ k) (gt : EReal → EReal → BitVec 1) (x : Shape.Idx ⟨2, ![n, k]⟩ → EReal) (h) (r : Fin n) (z : Fin K)
    (hgt : ∀ a b, (gt a b == 1#1) = decide (b < a)) :
    (Host.topK (s := ⟨2, ![n, k]⟩) ⟨2, ![n, K]⟩ 1 gt x h).1 (ix2 r z)
      = x (ix2 r (sortedFrom (Pick.ahead k fun y => x (ix2 r y)) (z.castLE hK))) ∧
    (Host.topK (s := ⟨2, ![n, k]⟩) ⟨2, ![n, K]⟩ 1 gt x h).2 (ix2 r z)
      = BitVec.ofNat 32 (sortedFrom (Pick.ahead k fun y => x (ix2 r y)) (z.castLE hK)).val := by
  have hs := Pick.sorted_by_value k (fun y => x (ix2 r y)) (fun a b => gt (x (ix2 r a)) (x (ix2 r b)) == 1#1)
    fun a b => hgt _ _
  have := topK_at (s := ⟨2, ![n, k]⟩) ⟨2, ![n, K]⟩ 1 (by decide : 1 < 2) gt x h (ix2 r z) (ix2 r (z.castLE hK)) fun a => by
    match a with
    | ⟨0, _⟩ => rfl
    | ⟨1, _⟩ => rfl
  rw [← hs]
  exact this (fun y => ix2 r y) fun y => along_row r _ y (by decide)

theorem best_sorted (x : FVec Ideal S1024x100000 .f32) (r : Fin 1024) (k : Fin 5) :
    (best x).1 (ix2 r k) = x (ix2 r (sortedFrom (Pick.ahead 100000 fun y => x (ix2 r y)) (k.castLE (by decide)))) ∧
    (best x).2 (ix2 r k) = BitVec.ofNat 32 (sortedFrom (Pick.ahead 100000 fun y => x (ix2 r y)) (k.castLE (by decide))).val :=
  topK_row (by decide) (FloatOps.cmpfTotal (F := Ideal) (φ := .f32) .gt) x sliceFits_S1024x100000_S1024x5 r k fun a b => by
    rw [Ideal.cmpfTotal_def]
    show (BitVec.ofBool (decide (b < a)) == 1#1) = _
    cases decide (b < a) <;> rfl

/-! ## The results -/

/-- Quotients by the temperature keep differences. -/
theorem scaled_sub (a b : ℝ) : Ideal.div (a : EReal) temp - Ideal.div (b : EReal) temp = Ideal.div ((a : EReal) - b) temp := by
  obtain ⟨t, ht, hT⟩ := temp_real
  rw [hT, Ideal.div_coe ht.ne', Ideal.div_coe ht.ne', Ideal.div_coe ht.ne', ← EReal.coe_sub, ← EReal.coe_mul, ← EReal.coe_mul,
    ← EReal.coe_mul, ← EReal.coe_sub]
  congr 1; ring

theorem scaled_le {a b : ℝ} (hab : a ≤ b) : Ideal.div (a : EReal) temp ≤ Ideal.div (b : EReal) temp := by
  obtain ⟨t, ht, hT⟩ := temp_real
  rw [hT, Ideal.div_coe ht.ne', Ideal.div_coe ht.ne', ← EReal.coe_mul, ← EReal.coe_mul]
  exact EReal.coe_le_coe_iff.mpr (mul_le_mul_of_nonneg_right hab (by positivity))

section results

variable (q : FVec Ideal S1024x64 .f32) (g : FVec Ideal S1024x5120 .f32) (cl par : IVec S1024x40 32) (r : Fin 1024)
    (h : Row.Ok (fun d => q (ix2 r d)) (fun d => g (ix2 r d)) (fun j => cl (ix2 r j)))
include h

theorem top_row (k : Fin 5) :
    (top q g cl par).1 (ix2 r k) =
      Row.top (fun d => q (ix2 r d)) (fun d => g (ix2 r d)) (fun j => cl (ix2 r j)) (fun j => par (ix2 r j)) k.val ∧
    (top q g cl par).2 (ix2 r k) = BitVec.ofNat 32
      (Row.colAt (fun d => q (ix2 r d)) (fun d => g (ix2 r d)) (fun j => cl (ix2 r j)) (fun j => par (ix2 r j)) k.val) := by
  have hs : (fun j => sims q g par (ix2 r j)) = Row.sim (fun d => q (ix2 r d)) (fun d => g (ix2 r d)) fun j => par (ix2 r j) :=
    funext fun j => sims_apply q g par r j
  have ho : (fun y => overQueue cl (sims q g par) (ix2 r y)) =
      fun y : Fin 100000 => Pick.over (Row.col fun j => cl (ix2 r j)) (Row.sim (fun d => q (ix2 r d)) (fun d => g (ix2 r d)) fun j => par (ix2 r j)) y.val :=
    funext fun y => by rw [overQueue_apply, hs]
  have hb := best_sorted (overQueue cl (sims q g par)) r k
  rw [ho] at hb
  have hk := Pick.sorted_eq 100000 (Row.col fun j => cl (ix2 r j))
    (Row.sim (fun d => q (ix2 r d)) (fun d => g (ix2 r d)) fun j => par (ix2 r j)) (K := 5) (Row.sim_ne h) h.five (by decide) k
  refine ⟨hb.1.trans ?_, hb.2.trans ?_⟩
  · rw [overQueue_apply, hs, hk]
    exact Pick.over_pk 100000 _ _ 5 (Row.sim_ne h) h.five k.isLt
  · rw [hk]; rfl

theorem distances_row : distances q g cl par (ix1 r) =
    1 - Row.top (fun d => q (ix2 r d)) (fun d => g (ix2 r d)) (fun j => cl (ix2 r j)) (fun j => par (ix2 r j)) 0 := by
  unfold distances
  rw [dist_apply, (top_row q g cl par r h 0).1]
  rfl

theorem expo_row (k : Fin 5) : expo (scaled (top q g cl par).1) (ix2 r k) =
    Row.ex (fun d => q (ix2 r d)) (fun d => g (ix2 r d)) (fun j => cl (ix2 r j)) (fun j => par (ix2 r j)) k := by
  rw [expo_apply]
  unfold Row.ex
  congr 1
  have hx : ∀ i : Fin 5, scaled (top q g cl par).1 (ix2 r i) = Ideal.div
      (Row.top (fun d => q (ix2 r d)) (fun d => g (ix2 r d)) (fun j => cl (ix2 r j)) (fun j => par (ix2 r j)) i.val) temp :=
    fun i => by rw [scaled_apply, (top_row q g cl par r h i).1]
  have hr : ∀ i : Fin 5, ∃ a : ℝ, Row.top (fun d => q (ix2 r d)) (fun d => g (ix2 r d)) (fun j => cl (ix2 r j)) (fun j => par (ix2 r j)) i.val = a :=
    fun i => Row.top_real h i.isLt
  obtain ⟨a, ha⟩ := hr k
  obtain ⟨b, hb⟩ := hr 0
  have hm : (Finset.univ.sup fun i : Fin 5 => scaled (top q g cl par).1 (ix2 r i)) = Ideal.div (b : EReal) temp := by
    apply le_antisymm
    · refine Finset.sup_le fun i _ => ?_
      obtain ⟨c, hc⟩ := hr i
      rw [hx i, hc]
      apply scaled_le
      have := Row.top_le_zero (par := fun j => par (ix2 r j)) h i.isLt
      rw [hc, show Row.top (fun d => q (ix2 r d)) (fun d => g (ix2 r d)) (fun j => cl (ix2 r j)) (fun j => par (ix2 r j)) 0 = b from hb] at this
      exact EReal.coe_le_coe_iff.mp this
    · rw [← hb, ← hx 0]
      exact Finset.le_sup (f := fun i : Fin 5 => scaled (top q g cl par).1 (ix2 r i)) (Finset.mem_univ 0)
  rw [hm, hx k, ha, show Row.top (fun d => q (ix2 r d)) (fun d => g (ix2 r d)) (fun j => cl (ix2 r j)) (fun j => par (ix2 r j)) 0 = b from hb]
  exact scaled_sub a b

theorem weights_row (k : Fin 5) : weights q g cl par (ix2 r k) =
    Row.weight (fun d => q (ix2 r d)) (fun d => g (ix2 r d)) (fun j => cl (ix2 r j)) (fun j => par (ix2 r j)) k := by
  unfold weights weigh Row.weight
  rw [share_apply]
  simp only [expo_row q g cl par r h]

theorem slots_row (j : Fin 40) : slots cl (top q g cl par).2 (weights q g cl par) (ix2 r j) =
    Row.share (fun d => q (ix2 r d)) (fun d => g (ix2 r d)) (fun j => cl (ix2 r j)) (fun j => par (ix2 r j)) j := by
  rw [slots_apply]
  unfold Row.share
  refine Finset.sum_congr rfl fun k _ => ?_
  have hc : Row.colAt (fun d => q (ix2 r d)) (fun d => g (ix2 r d)) (fun j => cl (ix2 r j)) (fun j => par (ix2 r j)) k.val < 2 ^ 32 :=
    lt_trans (Pick.pk_lt 100000 _ _ 5 (Row.sim_ne h) h.five k.isLt) (by decide)
  rw [(top_row q g cl par r h k).2, weights_row q g cl par r h k]
  simp only [word_eq _ hc]
  rfl

theorem retrieved_row (d : Fin 64) : retrieved q g cl par (ix2 r d) =
    Row.out (fun d => q (ix2 r d)) (fun d => g (ix2 r d)) (fun j => cl (ix2 r j)) (fun j => par (ix2 r j)) d := by
  unfold retrieved Row.out
  rw [norm_apply]
  simp only [mix_apply, slots_row q g cl par r h, vectors_apply]

end results

end Cert.Proof.Rescore.Ref
-- ==== Proof.Rescore.Inputs.lean ====
module

public import proofs.«01_k».proof.Proof.Gen.Pre_inputs
public import proofs.«01_k».proof.Proof.Rescore.Row
public import Idealize.ShloMosaic.Lib.ReduceAll

/-!
What the precondition says of a row: finite floats, no column below zero, five different columns of the queue.
-/

@[expose] public section

noncomputable section

namespace Cert.Proof.Rescore.Inputs

open Cert.Pre_inputs Cert.Pre_inputs.Gen
open Idealize.ShloMosaic

variable (q : FVec Ideal S1024x64 .f32) (g : FVec Ideal S1024x5120 .f32) (cl par : IVec S1024x40 32)

/-- Where a slot repeats an earlier one. -/
def again : IVec S1024x40x40 1 :=
  andi
    (cmpi .eq
      (broadcastInDim S1024x40x40 ![0, 1, 2] bcast_S1024x40x1_S1024x40x40_0_1_2
        (broadcastInDim S1024x40x1 ![0, 1] bcast_S1024x40_S1024x40x1_0_1 cl))
      (broadcastInDim S1024x40x40 ![0, 1, 2] bcast_S1024x1x40_S1024x40x40_0_1_2
        (broadcastInDim S1024x1x40 ![0, 2] bcast_S1024x40_S1024x1x40_0_2 cl)))
    (broadcastInDim S1024x40x40 ![0, 1, 2] bcast_S1x40x40_S1024x40x40_0_1_2
      (cmpi .sgt
        (broadcastInDim S1x40x40 ![0, 1, 2] bcast_S1x40x1_S1x40x40_0_1_2
          (broadcastInDim S1x40x1 ![1] bcast_S40_S1x40x1_1 (iotaInDim S40 32 0)))
        (broadcastInDim S1x40x40 ![0, 1, 2] bcast_S1x1x40_S1x40x40_0_1_2
          (broadcastInDim S1x1x40 ![2] bcast_S40_S1x1x40_2 (iotaInDim S40 32 0)))))

/-- Where a slot is the first at its column, and the column is the queue's. -/
def first : IVec S1024x40 1 :=
  andi (cmpi .slt cl (broadcastInDim S1024x40 ![] bcast_S_S1024x40 (constantI S_ 32 100000#32)))
    (noti (Host.reduce IntOp.ori (again cl) (constantI S_ 1 0#1) reducesTo_S1024x40x40_S1024x40_d2 h_S_))

/-- How many such slots a row has. -/
def different : FVec Ideal S1024 .f32 :=
  Host.reduceAdd
    (select (first cl) (broadcastInDim S1024x40 ![] bcast_S_S1024x40 (constant S_ .f32 0x3F800000#32))
      (broadcastInDim S1024x40 ![] bcast_S_S1024x40 (constant S_ .f32 0x00000000#32)) : FVec Ideal S1024x40 .f32)
    (constant S_ .f32 0x00000000#32) reducesTo_S1024x40_S1024_d1 h_S_

theorem again_apply (r : Fin 1024) (j k : Fin 40) :
    again cl (ix3 r j k) = BitVec.ofBool (decide (cl (ix2 r j) = cl (ix2 r k) ∧ k < j)) := by
  unfold again
  pointwise
  rw [show IntOp.cmpi .eq (cl (ix2 r j)) (cl (ix2 r k)) = BitVec.ofBool (cl (ix2 r j) == cl (ix2 r k)) from rfl,
    show IntOp.cmpi .sgt (BitVec.ofNat 32 j.val) (BitVec.ofNat 32 k.val) = BitVec.ofBool (decide (k < j)) from by revert j k; decide,
    show (cl (ix2 r j) == cl (ix2 r k)) = decide (cl (ix2 r j) = cl (ix2 r k)) from rfl, Bool.decide_and]
  cases decide (cl (ix2 r j) = cl (ix2 r k)) <;> cases decide (k < j) <;> rfl

theorem first_apply (r : Fin 1024) (j : Fin 40) (h : first cl (ix2 r j) = 1#1) :
    (cl (ix2 r j)).slt 100000#32 = true ∧ ∀ k, k < j → cl (ix2 r j) ≠ cl (ix2 r k) := by
  unfold first at h
  pointwise [again_apply] at h
  obtain ⟨h1, h2⟩ := IntOp.andi_eq_one.1 h
  have hb : ∀ b : Bool, BitVec.ofBool b = 1#1 → b = true := by decide
  refine ⟨hb _ h1, fun k hk e => ?_⟩
  have hf : Finset.univ.fold IntOp.ori (0#1) (fun x => BitVec.ofBool (decide (cl (ix2 r j) = cl (ix2 r x) ∧ x < j))) = 1#1 := by
    rw [← Finset.insert_erase (Finset.mem_univ k), Finset.fold_insert (Finset.notMem_erase k _), decide_eq_true ⟨e, hk⟩]
    generalize Finset.fold IntOp.ori (0#1) _ _ = y
    revert y; decide
  rw [hf] at h2
  exact absurd h2 (by decide)

theorem different_apply (r : Fin 1024) :
    different cl (ix1 r) = ∑ j : Fin 40, if first cl (ix2 r j) = 1#1 then (1 : EReal) else 0 := by
  unfold different
  pointwise
  exact Finset.sum_congr rfl fun j _ => rfl

theorem fn_eq : Cert.Pre_inputs.fn (F := Ideal) q g cl par =
    andi
      (andi
        (andi
          (Host.reduce IntOp.andi (cmpf .olt (Host.absf q) (broadcastInDim S1024x64 ![] bcast_S_S1024x64 (constant S_ .f32 0x7F800000#32)))
            (constantI S_ 1 1#1) reducesTo_S1024x64_S_d0_1 h_S_)
          (Host.reduce IntOp.andi (cmpf .olt (Host.absf g) (broadcastInDim S1024x5120 ![] bcast_S_S1024x5120 (constant S_ .f32 0x7F800000#32)))
            (constantI S_ 1 1#1) reducesTo_S1024x5120_S_d0_1 h_S_))
        (Host.reduce IntOp.andi (cmpi .sge cl (broadcastInDim S1024x40 ![] bcast_S_S1024x40 (constantI S_ 32 0#32)))
          (constantI S_ 1 1#1) reducesTo_S1024x40_S_d0_1 h_S_))
      (Host.reduce IntOp.andi (cmpf .oge (different cl) (broadcastInDim S1024 ![] bcast_S_S1024 (constant S_ .f32 0x40A00000#32)))
        (constantI S_ 1 1#1) reducesTo_S1024_S_d0 h_S_) := by
  unfold Cert.Pre_inputs.fn Cert.Pre_inputs.fn_part1 Cert.Pre_inputs.fn_part2 Cert.Pre_inputs.fn_where; rfl

instance : Subsingleton S_.Idx := ⟨fun a b => funext fun d => d.elim0⟩

theorem of_all {s : Shape} {axes : List (Fin s.rank)} (x : s.Idx → BitVec 1) (h : s.ReducesTo axes S_) (z : S_.Idx)
    (e : Host.reduce IntOp.andi x (constantI S_ 1 1#1) h h_S_ z = 1#1) (i : s.Idx) : x i = 1#1 :=
  Host.reduce_andi_all x _ h h_S_ z e i

theorem finite_of (a : EReal) (h : Ideal.cmp .olt (max a (-a)) (Ideal.ofBits .f32 0x7F800000#32) = 1#1) : a ≠ ⊥ ∧ a ≠ ⊤ := by
  have hT : Ideal.ofBits .f32 0x7F800000#32 = ⊤ := by simp [Ideal.ofBits, Ideal.ieee]
  rw [hT] at h
  have : max a (-a) < ⊤ := by
    by_contra hn
    rw [show Ideal.cmp .olt (max a (-a)) ⊤ = BitVec.ofBool (decide (max a (-a) < ⊤)) from rfl, decide_eq_false hn] at h
    exact absurd h (by decide)
  constructor
  · rintro rfl; simp at this
  · rintro rfl; simp at this

theorem five_of (x : EReal) (h : Ideal.cmp .oge x (Ideal.ofBits .f32 0x40A00000#32) = 1#1) : ((5 : ℝ) : EReal) ≤ x := by
  have h5 : Ideal.ofBits .f32 0x40A00000#32 = ((5 : ℝ) : EReal) := by
    simp [Ideal.ofBits, Ideal.ieee, -EReal.coe_mul]; norm_num
  rw [h5] at h
  by_contra hn
  rw [show Ideal.cmp .oge x ((5 : ℝ) : EReal) = BitVec.ofBool (decide (((5 : ℝ) : EReal) ≤ x)) from rfl, decide_eq_false hn] at h
  exact absurd h (by decide)

theorem count {ι : Type} (s : Finset ι) (p : ι → Prop) [DecidablePred p] :
    (∑ i ∈ s, if p i then (1 : EReal) else 0) = (((s.filter p).card : ℝ) : EReal) := by
  rw [← Finset.sum_boole, coe_sum]
  exact Finset.sum_congr rfl fun i _ => by split <;> simp

theorem low_of (x : BitVec 32) (h : (0#32).toInt ≤ x.toInt) : x.toNat < 2 ^ 31 := by
  rw [show (0#32).toInt = 0 by decide, BitVec.toInt_eq_toNat_cond] at h
  have := x.isLt
  split at h <;> omega

theorem ok (h : Cert.Pre_inputs.fn (F := Ideal) q g cl par = fun _ => 1#1) (r : Fin 1024) :
    Row.Ok (fun d => q (ix2 r d)) (fun d => g (ix2 r d)) (fun j => cl (ix2 r j)) := by
  rw [fn_eq] at h
  have h0 := congrFun h (fun d => d.elim0)
  obtain ⟨h1, hD⟩ := IntOp.andi_eq_one.1 h0
  obtain ⟨h2, hC⟩ := IntOp.andi_eq_one.1 h1
  obtain ⟨hA, hB⟩ := IntOp.andi_eq_one.1 h2
  have hA' := of_all _ _ _ hA
  have hB' := of_all _ _ _ hB
  have hC' := of_all _ _ _ hC
  have hD' : ((5 : ℝ) : EReal) ≤ different cl (ix1 r) := five_of _ (of_all _ _ _ hD (ix1 r))
  have low : ∀ j, (cl (ix2 r j)).toNat < 2 ^ 31 := fun j => low_of _ (IntOp.cmpi_sge.1 (hC' (ix2 r j)))
  refine ⟨fun d => finite_of _ (hA' (ix2 r d)), fun d => finite_of _ (hB' (ix2 r d)), low, ?_⟩
  rw [different_apply, count, EReal.coe_le_coe_iff] at hD'
  have h5 : 5 ≤ (Finset.univ.filter fun j => first cl (ix2 r j) = 1#1).card := by exact_mod_cast hD'
  refine h5.trans (Finset.card_le_card_of_injOn (Row.col fun j => cl (ix2 r j)) ?_ ?_)
  · intro j hj
    have hj := (first_apply cl r j (Finset.mem_filter.mp hj).2).1
    refine Finset.mem_image_of_mem _ (Finset.mem_filter.mpr ⟨Finset.mem_univ j, ?_⟩)
    rw [BitVec.slt_eq_decide, toInt_of_low _ (low j), show (100000#32).toInt = 100000 by decide, decide_eq_true_eq] at hj
    exact Int.ofNat_lt.mp hj
  · intro j hj k hk e
    have hj := (first_apply cl r j (Finset.mem_filter.mp hj).2).2
    have hk := (first_apply cl r k (Finset.mem_filter.mp hk).2).2
    have e : cl (ix2 r j) = cl (ix2 r k) := BitVec.eq_of_toNat_eq e
    rcases lt_trichotomy j k with h | h | h
    · exact absurd e.symm (hk j h)
    · exact h
    · exact absurd e (hj k h)

end Cert.Proof.Rescore.Inputs
-- ==== Proof.Rescore.Claims.lean ====
module

public import proofs.«01_k».proof.Defs
public import proofs.«01_k».proof.Proof.Gen.Rescore
public import proofs.«01_k».proof.Proof.Rescore.Arrays
public import proofs.«01_k».proof.Proof.Rescore.RefRow
public import proofs.«01_k».proof.Proof.Rescore.Inputs

/-!
The claims of the rescoring call: it runs to its end at both instances, and its three results are the reference's.
-/

@[expose] public section

noncomputable section

namespace Cert.Proof.Rescore

open Idealize.ShloMosaic Idealize.SL.Sem

/-- The two programs are one text, so a run of the one is a run of the other. -/
theorem same_run (m : (ℓ : Loc Cert.RescoreIdeal.nD Cert.RescoreIdeal.τ Cert.RescoreIdeal.sig) → Buf (Elt Bits) ℓ)
    (ρ : Dev Cert.RescoreIdeal.nD → PrngReg) :
    (θ_run (Cert.Rescore.defs (F := Bits)) (onTc (τ := Cert.Rescore.τ) (Cert.Rescore.main (F := Bits))) ⟨m, fun _ => 0, ρ⟩
        (fun r => (∀ c : Dev Cert.Rescore.nD,
          r.2.mem ((c.tc : Thread Cert.Rescore.nD Cert.Rescore.τ).loc Cert.Rescore.main_arg0) = m ((c.tc : Thread Cert.Rescore.nD Cert.Rescore.τ).loc Cert.Rescore.main_arg0)
          ∧ r.2.mem ((c.tc : Thread Cert.Rescore.nD Cert.Rescore.τ).loc Cert.Rescore.main_arg1) = m ((c.tc : Thread Cert.Rescore.nD Cert.Rescore.τ).loc Cert.Rescore.main_arg1)
          ∧ r.2.mem ((c.tc : Thread Cert.Rescore.nD Cert.Rescore.τ).loc Cert.Rescore.main_arg2) = m ((c.tc : Thread Cert.Rescore.nD Cert.Rescore.τ).loc Cert.Rescore.main_arg2)
          ∧ r.2.mem ((c.tc : Thread Cert.Rescore.nD Cert.Rescore.τ).loc Cert.Rescore.main_arg3) = m ((c.tc : Thread Cert.Rescore.nD Cert.Rescore.τ).loc Cert.Rescore.main_arg3)) ∧ r.2.sem = fun _ => 0)) =
    (θ_run (Cert.RescoreIdeal.defs (F := Bits)) (onTc (τ := Cert.RescoreIdeal.τ) (Cert.RescoreIdeal.main (F := Bits))) ⟨m, fun _ => 0, ρ⟩
        (fun r => (∀ c : Dev Cert.RescoreIdeal.nD,
          r.2.mem ((c.tc : Thread Cert.RescoreIdeal.nD Cert.RescoreIdeal.τ).loc Cert.RescoreIdeal.main_arg0) = m ((c.tc : Thread Cert.RescoreIdeal.nD Cert.RescoreIdeal.τ).loc Cert.RescoreIdeal.main_arg0)
          ∧ r.2.mem ((c.tc : Thread Cert.RescoreIdeal.nD Cert.RescoreIdeal.τ).loc Cert.RescoreIdeal.main_arg1) = m ((c.tc : Thread Cert.RescoreIdeal.nD Cert.RescoreIdeal.τ).loc Cert.RescoreIdeal.main_arg1)
          ∧ r.2.mem ((c.tc : Thread Cert.RescoreIdeal.nD Cert.RescoreIdeal.τ).loc Cert.RescoreIdeal.main_arg2) = m ((c.tc : Thread Cert.RescoreIdeal.nD Cert.RescoreIdeal.τ).loc Cert.RescoreIdeal.main_arg2)
          ∧ r.2.mem ((c.tc : Thread Cert.RescoreIdeal.nD Cert.RescoreIdeal.τ).loc Cert.RescoreIdeal.main_arg3) = m ((c.tc : Thread Cert.RescoreIdeal.nD Cert.RescoreIdeal.τ).loc Cert.RescoreIdeal.main_arg3)) ∧ r.2.sem = fun _ => 0)) := by
  chain_rfl

theorem frame_kernel : Cert.quiescent_Rescore := fun m ρ _ => (same_run m ρ).mpr (run_kept (F := Bits) m ρ)
theorem frame_kernelIdeal : Cert.quiescent_RescoreIdeal := fun m ρ _ => run_kept (F := Ideal) m ρ
theorem frame_kernelIdeal_inputs : Cert.quiescent_RescoreIdeal_pre_inputs := fun m ρ _ => run_kept (F := Ideal) m ρ

theorem frame_referenceIdeal : Cert.quiescent_RescoreReferenceIdeal := fun m ρ _ =>
  (θ_run Cert.RescoreReferenceIdeal.defs _ _).mono
    (fun r h => ⟨fun c => (h c).2.2.2, Idealize.ShloMosaic.sem_eq_zero_of_no_sems (by decide) r.2⟩)
    (Cert.RescoreReferenceIdeal.Value.run (F := Ideal) m ρ)
theorem frame_referenceIdeal_inputs : Cert.quiescent_RescoreReferenceIdeal_pre_inputs := fun m ρ _ =>
  frame_referenceIdeal m ρ trivial

open Cert.RescoreIdeal Cert.RescoreIdeal.Gen in
/-- A final memory's three results are the reference's functions of the arguments. -/
theorem results (m : (ℓ : Loc nD τ sig) → Buf (Elt Ideal) ℓ) (r)
    (h : Pipeline.FramePost cfgs (dats m) 0 (Pipeline.afterTail₀ cfgs (dats m) 0 (V0 m) [hostOps1]) r) (c : Dev nD)
    (hpre : Cert.Pre_inputs.fn (F := Ideal) (aQ m c) (aG m c) (aC m c) (aP m c) = fun _ => 1#1) :
    r.2.mem ((c.tc : Thread nD τ).loc main_v0_0) = Ref.retrieved (aQ m c) (aG m c) (aC m c) (aP m c)
    ∧ r.2.mem ((c.tc : Thread nD τ).loc main_v2) = Ref.distances (aQ m c) (aG m c) (aC m c) (aP m c)
    ∧ r.2.mem ((c.tc : Thread nD τ).loc main_v3) = Ref.weights (aQ m c) (aG m c) (aC m c) (aP m c) := by
  have ok := Inputs.ok _ _ _ _ hpre
  refine ⟨((h c).1 4).trans ((arr4 m c ok).trans (funext fun i => ?_)),
    ((h c).2 main_v2 (by decide)).trans (funext fun i => ?_), ((h c).2 main_v3 (by decide)).trans (funext fun i => ?_)⟩
  · refine Eq.trans ?_ ((Ref.retrieved_row _ _ _ _ (i 0) (ok (i 0)) (i 1)).symm.trans (congrArg _ (eq_ix2 i).symm))
    rfl
  · rw [show i = ix1 (i 0) from eq_ix1 i]
    refine (after_v2 m c (i 0)).trans ?_
    rw [arr6 m c ok]
    exact (Ref.distances_row _ _ _ _ (i 0) (ok (i 0))).symm
  · rw [show i = ix2 (i 0) (i 1) from eq_ix2 i]
    refine (after_v3 m c (i 0) (i 1)).trans ?_
    exact (arr5 m c ok (i 0) (i 1)).trans (Ref.weights_row _ _ _ _ (i 0) (ok (i 0)) (i 1)).symm

theorem retrieved_congr {q q' g g' cl cl' par par'} (hq : q' = q) (hg : g' = g) (hc : cl' = cl) (hp : par' = par) :
    Ref.retrieved q' g' cl' par' = Ref.retrieved q g cl par ∧ Ref.distances q' g' cl' par' = Ref.distances q g cl par
      ∧ Ref.weights q' g' cl' par' = Ref.weights q g cl par := by
  subst hq hg hc hp
  exact ⟨rfl, rfl, rfl⟩

theorem algebraic : Cert.algebraic_RescoreIdeal_RescoreReferenceIdeal_pre_inputs := by
  intro m ρ m' ρ' hpre hag
  refine ⟨fun c => Ref.retrieved (aQ m c) (aG m c) (aC m c) (aP m c), fun c => Ref.distances (aQ m c) (aG m c) (aC m c) (aP m c),
    fun c => Ref.weights (aQ m c) (aG m c) (aC m c) (aP m c), ?_, ?_⟩
  · exact (θ_run Cert.RescoreIdeal.defs _ _).mono (fun r h c =>
      have w := results m r h.1 c (hpre c)
      ⟨w.1, w.2.1, w.2.2, kept m r h.1 c⟩) (run_main (F := Ideal) m ρ)
  · exact (θ_run Cert.RescoreReferenceIdeal.defs _ _).mono (fun r h c =>
      have w := h c
      have e := retrieved_congr (hag c).1 (hag c).2.1 (hag c).2.2.1 (hag c).2.2.2
      ⟨w.1.trans e.1, w.2.1.trans e.2.1, w.2.2.1.trans e.2.2, w.2.2.2⟩) (Ref.run m' ρ')

end Cert.Proof.Rescore
-- ==== Proof.Select.Slots.lean ====
module

public import proofs.«01_k».proof.Proof.Gen.SelectIdeal.Skeleton
public import Idealize.ShloMosaic.Lib.Pipeline.ValueKit
public import Idealize.ShloMosaic.Lib.Pipeline.ReadBack
public import Idealize.ShloMosaic.Lib.Pointwise

/-!
The five slots that a lane keeps, and how a value with its name is pushed through them. The kernel keeps slot `i` of
lane `l` at column `128 i + l`; a newcomer takes a slot when it is strictly greater than what the slot holds, and what
was there goes on to the next slot.
-/

@[expose] public section

noncomputable section

namespace Cert.Proof.Select

open Cert.SelectIdeal Cert.SelectIdeal.Gen
open Idealize.ShloMosaic

/-- A value and its name. -/
abbrev P := Ideal .f32 × BitVec 32

/-- Whether the newcomer is strictly greater. -/
def gt (x s : P) : BitVec 1 := FloatOps.cmpf (F := Ideal) .ogt x.1 s.1

/-- What stays in the slot. -/
def stay (x s : P) : P := (Scalar.select (gt x s) x.1 s.1, Scalar.select (gt x s) x.2 s.2)

/-- What goes on to the next slot. -/
def goOn (x s : P) : P := (Scalar.select (gt x s) s.1 x.1, Scalar.select (gt x s) s.2 x.2)

/-- What arrives at slot `i`. -/
def arrive (s : ℕ → P) (x : P) : ℕ → P
  | 0 => x
  | i + 1 => goOn (arrive s x i) (s i)

/-- The slots after a push. -/
def push (s : ℕ → P) (x : P) (i : ℕ) : P := stay (arrive s x i) (s i)

/-- The column of slot `i` of a lane. -/
def colAt (i : ℕ) (l : Fin 128) : Fin 640 := ⟨(128 * i + l.val) % 640, Nat.mod_lt _ (by decide)⟩

theorem colAt_val {i : ℕ} (hi : i < 5) (l : Fin 128) : (colAt i l).val = 128 * i + l.val :=
  Nat.mod_eq_of_lt (by omega)

/-- The slots of a lane, in two arrays that hold the values and the names. -/
def slots (X : Vec Ideal S1024x640 .f32) (Y : Vec Ideal S1024x640 .i32) (r : Fin 1024) (l : Fin 128) (i : ℕ) : P :=
  (X (ix2 r (colAt i l)), Y (ix2 r (colAt i l)))

/-- A load of a slot of all lanes. -/
theorem ld_slot {e : EltTy} (X : S1024x640.Idx → Elt Ideal e) (i o : ℕ) (hi : i < 5) (ho : o = 128 * i)
    (inb : ∀ a, (![0, o] : Fin 2 → ℕ) a + (![1024, 128] : Fin 2 → ℕ) a ≤ S1024x640.size a) (r : Fin 1024) (l : Fin 128) :
    View.ld X (Rect.unit (s := S1024x640) ![0, o] ![1024, 128] inb) (ix2 r l) = X (ix2 r (colAt i l)) := by
  refine View.ld_unit_apply_of X _ _ inb (ix2 r l) (ix2 r (colAt i l)) fun a => ?_
  match a with
  | ⟨0, _⟩ => exact (Nat.zero_add _).symm
  | ⟨1, _⟩ => exact (colAt_val hi l).trans (congrArg (· + l.val) ho.symm)

/-- An array that holds, in slot `i` of each lane, what `g` says. -/
def fromSlots {α : Type} (g : Fin 1024 → Fin 128 → ℕ → α) (y : S1024x640.Idx) : α :=
  g ⟨(y 0).val, (y 0).isLt⟩ ⟨(y 1).val % 128, Nat.mod_lt _ (by decide)⟩ ((y 1).val / 128)

theorem fromSlots_col {α : Type} (g : Fin 1024 → Fin 128 → ℕ → α) (r : Fin 1024) (l : Fin 128) (i : ℕ) (hi : i < 5) :
    fromSlots g (ix2 r (colAt i l)) = g r l i := by
  have h := colAt_val hi l
  have e1 : (colAt i l).val % 128 = l.val := by rw [h]; omega
  have e2 : (colAt i l).val / 128 = i := by rw [h]; omega
  show g r ⟨(colAt i l).val % 128, _⟩ ((colAt i l).val / 128) = _
  rw [e2]
  congr 1
  exact Fin.ext e1

theorem fromSlots_emb {α : Type} (g : Fin 1024 → Fin 128 → ℕ → α) (i o : ℕ) (hi : i < 5) (ho : o = 128 * i)
    (inb : ∀ a, (![0, o] : Fin 2 → ℕ) a + (![1024, 128] : Fin 2 → ℕ) a ≤ S1024x640.size a) (r : Fin 1024) (l : Fin 128) :
    fromSlots g ((Rect.unit (s := S1024x640) ![0, o] ![1024, 128] inb).emb (ix2 r l)) = g r l i := by
  rw [← fromSlots_col g r l i hi]
  congr 1
  funext a
  refine Fin.ext ((Rect.idx_unit_val (s := S1024x640) ![0, o] ![1024, 128] inb (ix2 r l) a).trans ?_)
  match a with
  | ⟨0, _⟩ => exact Nat.zero_add _
  | ⟨1, _⟩ => exact (congrArg (· + l.val) ho).trans (colAt_val hi l).symm

/-- The greatest of the eight similarities of group `g` of a block at a lane, as the kernel takes it. -/
def groupMax (s : FVec Ideal S1024x2048 .f32) (g : Fin 2) (r : Fin 1024) (l : Fin 128) : Ideal .f32 :=
  let a (t : Fin 8) : Ideal .f32 := s (ix2 r ⟨1024 * g.val + 128 * t.val + l.val, by omega⟩)
  max (max (max (max (max (max (max (a 0) (a 1)) (a 2)) (a 3)) (a 4)) (a 5)) (a 6)) (a 7)

/-- The name of a group. -/
def name (n : BitVec 32) (g : Fin 2) (l : Fin 128) : BitVec 32 :=
  BitVec.ofNat 32 l.val + (n * 2#32 + BitVec.ofNat 32 g.val) * 128#32

/-- The slots of a lane after a grid point. -/
def merged (n : BitVec 32) (s : FVec Ideal S1024x2048 .f32) (X : Vec Ideal S1024x640 .f32) (Y : Vec Ideal S1024x640 .i32)
    (r : Fin 1024) (l : Fin 128) : ℕ → P :=
  push (push (slots X Y r l) (groupMax s 0 r l, name n 0 l)) (groupMax s 1 r l, name n 1 l)

theorem pay13 (q : FVec Ideal S1024x64 .f32) (b : Vec Ideal S2048x64 .f32) (r : Fin 1024) (l : Fin 128) :
    k0_pay13 q b (ix2 r l) = groupMax (k0_pay12 q b) 0 r l := by
  unfold k0_pay13 groupMax
  generalize k0_pay12 q b = s
  pointwise

theorem pay14 (n : BitVec 32) (r : Fin 1024) (l : Fin 128) : k0_pay14 n (ix2 r l) = name n 0 l := by
  unfold k0_pay14 name
  pointwise
  rfl

theorem pay39 (n : BitVec 32) (r : Fin 1024) (l : Fin 128) : k0_pay39 n (iota .tc S1024x128 32 [1] iota_S1024x128_d1_w32) (ix2 r l) = name n 1 l := by
  unfold k0_pay39 name
  pointwise
  rfl

theorem pay38 (s : FVec Ideal S1024x2048 .f32) (r : Fin 1024) (l : Fin 128) :
    k0_pay38 s (ix2 r l) = groupMax s 1 r l := by
  unfold k0_pay38 groupMax
  pointwise

theorem pay57 (q : FVec Ideal S1024x64 .f32) (b : Vec Ideal S2048x64 .f32) (r : Fin 1024) (l : Fin 128) :
    k0_pay57 q b (ix2 r l) = groupMax (k0_pay56 q b) 0 r l := by
  unfold k0_pay57 groupMax
  generalize k0_pay56 q b = s
  pointwise

theorem pay58 (n : BitVec 32) (r : Fin 1024) (l : Fin 128) : k0_pay58 n (ix2 r l) = name n 0 l := by
  unfold k0_pay58 name
  pointwise
  rfl

theorem pay82 (n : BitVec 32) (r : Fin 1024) (l : Fin 128) : k0_pay82 n (iota .tc S1024x128 32 [1] iota_S1024x128_d1_w32) (ix2 r l) = name n 1 l := by
  unfold k0_pay82 name
  pointwise
  rfl

theorem pay81 (s : FVec Ideal S1024x2048 .f32) (r : Fin 1024) (l : Fin 128) :
    k0_pay81 s (ix2 r l) = groupMax s 1 r l := by
  unfold k0_pay81 groupMax
  pointwise

/-! ## All the lanes at once -/

/-- A value and its name, in every row and lane. -/
abbrev VP := FVec Ideal S1024x128 .f32 × IVec S1024x128 32

/-- The value that stays in a slot, lane by lane. -/
def vs (x s : FVec Ideal S1024x128 .f32) : FVec Ideal S1024x128 .f32 := select (cmpf .ogt x s) x s

/-- The value that goes on, lane by lane. -/
def vg (x s : FVec Ideal S1024x128 .f32) : FVec Ideal S1024x128 .f32 := select (cmpf .ogt x s) s x

theorem to_vs (x s : FVec Ideal S1024x128 .f32) : select (cmpf .ogt x s) x s = vs x s := rfl

theorem to_vg (x s : FVec Ideal S1024x128 .f32) : select (cmpf .ogt x s) s x = vg x s := rfl

/-- What stays in a slot, lane by lane. -/
def vstay (x s : VP) : VP := (vs x.1 s.1, select (cmpf .ogt x.1 s.1) x.2 s.2)

/-- What goes on, lane by lane. -/
def vgoOn (x s : VP) : VP := (vg x.1 s.1, select (cmpf .ogt x.1 s.1) s.2 x.2)

/-- What arrives at slot `i`, lane by lane. -/
def varrive (s : ℕ → VP) (x : VP) : ℕ → VP
  | 0 => x
  | i + 1 => vgoOn (varrive s x i) (s i)

/-- The slots after a push, lane by lane. -/
def vpush (s : ℕ → VP) (x : VP) (i : ℕ) : VP := vstay (varrive s x i) (s i)

/-- One row and lane. -/
def one (v : VP) (r : Fin 1024) (l : Fin 128) : P := (v.1 (ix2 r l), v.2 (ix2 r l))

theorem one_arrive (s : ℕ → VP) (x : VP) (r : Fin 1024) (l : Fin 128) (i : ℕ) :
    one (varrive s x i) r l = arrive (fun i => one (s i) r l) (one x r l) i := by
  induction i with
  | zero => rfl
  | succ i ih => exact (show one (vgoOn (varrive s x i) (s i)) r l = goOn (one (varrive s x i) r l) (one (s i) r l) from rfl).trans (by rw [ih]; rfl)

theorem one_push (s : ℕ → VP) (x : VP) (r : Fin 1024) (l : Fin 128) (i : ℕ) :
    one (vpush s x i) r l = push (fun i => one (s i) r l) (one x r l) i :=
  (show one (vstay (varrive s x i) (s i)) r l = stay (one (varrive s x i) r l) (one (s i) r l) from rfl).trans (by rw [one_arrive]; rfl)

/-- The slots of all lanes, from the loads of two arrays. -/
def vslots (X : Vec Ideal S1024x640 .f32) (Y : Vec Ideal S1024x640 .i32) : ℕ → VP
  | 0 => (View.ld X (Rect.unit ![0, 0] ![1024, 128] inb_S1024x640_S1024x128_0_0), View.ld Y (Rect.unit ![0, 0] ![1024, 128] inb_S1024x640_S1024x128_0_0))
  | 1 => (View.ld X (Rect.unit ![0, 128] ![1024, 128] inb_S1024x640_S1024x128_0_128), View.ld Y (Rect.unit ![0, 128] ![1024, 128] inb_S1024x640_S1024x128_0_128))
  | 2 => (View.ld X (Rect.unit ![0, 256] ![1024, 128] inb_S1024x640_S1024x128_0_256), View.ld Y (Rect.unit ![0, 256] ![1024, 128] inb_S1024x640_S1024x128_0_256))
  | 3 => (View.ld X (Rect.unit ![0, 384] ![1024, 128] inb_S1024x640_S1024x128_0_384), View.ld Y (Rect.unit ![0, 384] ![1024, 128] inb_S1024x640_S1024x128_0_384))
  | _ => (View.ld X (Rect.unit ![0, 512] ![1024, 128] inb_S1024x640_S1024x128_0_512), View.ld Y (Rect.unit ![0, 512] ![1024, 128] inb_S1024x640_S1024x128_0_512))

theorem one_slots (X : Vec Ideal S1024x640 .f32) (Y : Vec Ideal S1024x640 .i32) (r : Fin 1024) (l : Fin 128) (i : ℕ) (hi : i < 5) :
    one (vslots X Y i) r l = slots X Y r l i := by
  unfold slots
  rcases i with _ | _ | _ | _ | _ | i
  · exact Prod.ext (ld_slot X 0 0 (by decide) rfl _ r l) (ld_slot Y 0 0 (by decide) rfl _ r l)
  · exact Prod.ext (ld_slot X 1 128 (by decide) rfl _ r l) (ld_slot Y 1 128 (by decide) rfl _ r l)
  · exact Prod.ext (ld_slot X 2 256 (by decide) rfl _ r l) (ld_slot Y 2 256 (by decide) rfl _ r l)
  · exact Prod.ext (ld_slot X 3 384 (by decide) rfl _ r l) (ld_slot Y 3 384 (by decide) rfl _ r l)
  · exact Prod.ext (ld_slot X 4 512 (by decide) rfl _ r l) (ld_slot Y 4 512 (by decide) rfl _ r l)
  · omega

/-- A slot depends on the slots before it. -/
theorem arrive_congr (s s' : ℕ → P) (x : P) (i : ℕ) (h : ∀ j < i, s j = s' j) : arrive s x i = arrive s' x i := by
  induction i with
  | zero => rfl
  | succ i ih =>
    show goOn (arrive s x i) (s i) = goOn (arrive s' x i) (s' i)
    rw [ih fun j hj => h j (by omega), h i (by omega)]

theorem push_congr (s s' : ℕ → P) (x : P) (i : ℕ) (h : ∀ j ≤ i, s j = s' j) : push s x i = push s' x i := by
  show stay (arrive s x i) (s i) = stay (arrive s' x i) (s' i)
  rw [arrive_congr s s' x i fun j hj => h j (by omega), h i le_rfl]

/-- A stored slot of the values is a block of the array that holds the slots. -/
theorem piece_fst (w : ℕ → VP) (g : Fin 1024 → Fin 128 → ℕ → P) (i o : ℕ) (hi : i < 5) (ho : o = 128 * i)
    (inb : ∀ a, (![0, o] : Fin 2 → ℕ) a + (![1024, 128] : Fin 2 → ℕ) a ≤ S1024x640.size a)
    (h : ∀ r l i, i < 5 → one (w i) r l = g r l i) (v : FVec Ideal S1024x128 .f32) (e : v = (w i).1)
    (x : (Rect.unit (s := S1024x640) ![0, o] ![1024, 128] inb).shape.Idx) :
    v x = fromSlots (fun r l i => (g r l i).1) ((Rect.unit (s := S1024x640) ![0, o] ![1024, 128] inb).emb x) := by
  obtain ⟨r, l, rfl⟩ : ∃ (r : Fin 1024) (l : Fin 128), x = ix2 r l := ⟨x 0, x 1, eq_ix2 x⟩
  rw [fromSlots_emb _ i o hi ho inb r l, ← h r l i hi, e]
  rfl

/-- The same of the names. -/
theorem piece_snd (w : ℕ → VP) (g : Fin 1024 → Fin 128 → ℕ → P) (i o : ℕ) (hi : i < 5) (ho : o = 128 * i)
    (inb : ∀ a, (![0, o] : Fin 2 → ℕ) a + (![1024, 128] : Fin 2 → ℕ) a ≤ S1024x640.size a)
    (h : ∀ r l i, i < 5 → one (w i) r l = g r l i) (v : IVec S1024x128 32) (e : v = (w i).2)
    (x : (Rect.unit (s := S1024x640) ![0, o] ![1024, 128] inb).shape.Idx) :
    v x = fromSlots (fun r l i => (g r l i).2) ((Rect.unit (s := S1024x640) ![0, o] ![1024, 128] inb).emb x) := by
  obtain ⟨r, l, rfl⟩ : ∃ (r : Fin 1024) (l : Fin 128), x = ix2 r l := ⟨x 0, x 1, eq_ix2 x⟩
  rw [fromSlots_emb _ i o hi ho inb r l, ← h r l i hi, e]
  rfl

/-- Two pushes, lane by lane, at a row and a lane. -/
theorem one_two (s : ℕ → VP) (x x' : VP) (r : Fin 1024) (l : Fin 128) (i : ℕ) :
    one (vpush (vpush s x) x' i) r l = push (push (fun i => one (s i) r l) (one x r l)) (one x' r l) i := by
  rw [one_push]
  congr 1
  funext i
  exact one_push s x r l i

/-- The two groups of a grid point pushed through the slots that were loaded, at a row and a lane. -/
theorem one_merged (n : BitVec 32) (s : FVec Ideal S1024x2048 .f32) (X : Vec Ideal S1024x640 .f32) (Y : Vec Ideal S1024x640 .i32)
    (a a' : VP) (r : Fin 1024) (l : Fin 128) (i : ℕ) (hi : i < 5) (h : one a r l = (groupMax s 0 r l, name n 0 l))
    (h' : one a' r l = (groupMax s 1 r l, name n 1 l)) :
    one (vpush (vpush (vslots X Y) a) a' i) r l = merged n s X Y r l i := by
  rw [one_two, h, h']
  exact push_congr _ _ _ i fun j hj => push_congr _ _ _ j fun k hk => one_slots X Y r l k (by omega)

end Cert.Proof.Select
-- ==== Proof.Select.StepA.lean ====
module

public import proofs.«01_k».proof.Proof.Gen.SelectIdeal.Frame
public import proofs.«01_k».proof.Proof.Select.Slots

/-!
The slots after the first grid point: the two groups of the first block pushed through empty slots.
-/

@[expose] public section

set_option maxRecDepth 16384

noncomputable section

namespace Cert.Proof.Select

open Cert.SelectIdeal Cert.SelectIdeal.Gen
open Idealize.ShloMosaic Idealize.ShloMosaic.TcCoe Idealize.SL.Sem

variable (m : (b : Idealize.ShloMosaic.Loc nD τ sig) → Buf (Elt Ideal) b)

theorem leftA_1 (c : Dev nD) (t : Fin cfg0.N) (h0 : t.val % 49 = 0) (h1 : t.val < 48) (h2 : ¬t.val % 49 = 48) :
    (outsAt0 m c t.val t.isLt).2.1 = fromSlots fun r l i => (merged (BitVec.ofNat 32 (grid0.coords t 0).val) (k0_pay12 (k0_pay3 (iblk m c 0 t)) (X0_1 m c t))
      (k0_pay1 (F := Ideal)) k0_pay2 r l i).1 := by
  rw [outsAt0_A m c t h0 h1 h2]
  frame_open
  simp (disch := decide) only [↓ View.readCov_skip, ↓ View.readCov_cons_toLoadRect, ↓ View.readCov_fill]
  frame_out
  generalize k0_pay3 (iblk m c 0 t) = q
  generalize X0_1 m c t = b
  generalize k0_pay1 (F := Ideal) = X
  generalize k0_pay2 = Y
  generalize BitVec.ofNat 32 (grid0.coords t 0).val = n
  have h (r : Fin 1024) (l : Fin 128) (i : ℕ) (hi : i < 5) := one_merged n (k0_pay12 q b) X Y (k0_pay13 q b, k0_pay14 n) (k0_pay38 (k0_pay12 q b), k0_pay39 n (iota .tc S1024x128 32 [1] iota_S1024x128_d1_w32)) r l i hi
    (Prod.ext (pay13 q b r l) (pay14 n r l)) (Prod.ext (pay38 _ r l) (pay39 n r l))
  funext y
  refine View.canon_append_of_piecesOf _ [_, _, _, _, _, _] [_, _, _, _, _] ⟨?_, ?_, ?_, ?_, ?_, trivial⟩ y ?_
  · refine piece_fst _ _ 4 512 (by decide) rfl inb_S1024x640_S1024x128_0_512 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_fst _ _ 3 384 (by decide) rfl inb_S1024x640_S1024x128_0_384 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_fst _ _ 2 256 (by decide) rfl inb_S1024x640_S1024x128_0_256 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_fst _ _ 1 128 (by decide) rfl inb_S1024x640_S1024x128_0_128 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_fst _ _ 0 0 (by decide) rfl inb_S1024x640_S1024x128_0_0 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · exact View.cover_of_tiledL _ ![1024, 128] rfl y

theorem leftA_2 (c : Dev nD) (t : Fin cfg0.N) (h0 : t.val % 49 = 0) (h1 : t.val < 48) (h2 : ¬t.val % 49 = 48) :
    (outsAt0 m c t.val t.isLt).2.2 = fromSlots fun r l i => (merged (BitVec.ofNat 32 (grid0.coords t 0).val) (k0_pay12 (k0_pay3 (iblk m c 0 t)) (X0_1 m c t))
      (k0_pay1 (F := Ideal)) k0_pay2 r l i).2 := by
  rw [outsAt0_A m c t h0 h1 h2]
  frame_open
  simp (disch := decide) only [↓ View.readCov_skip, ↓ View.readCov_cons_toLoadRect, ↓ View.readCov_fill]
  frame_out
  generalize k0_pay3 (iblk m c 0 t) = q
  generalize X0_1 m c t = b
  generalize k0_pay1 (F := Ideal) = X
  generalize k0_pay2 = Y
  generalize BitVec.ofNat 32 (grid0.coords t 0).val = n
  have h (r : Fin 1024) (l : Fin 128) (i : ℕ) (hi : i < 5) := one_merged n (k0_pay12 q b) X Y (k0_pay13 q b, k0_pay14 n) (k0_pay38 (k0_pay12 q b), k0_pay39 n (iota .tc S1024x128 32 [1] iota_S1024x128_d1_w32)) r l i hi
    (Prod.ext (pay13 q b r l) (pay14 n r l)) (Prod.ext (pay38 _ r l) (pay39 n r l))
  funext y
  refine View.canon_append_of_piecesOf _ [_, _, _, _, _, _] [_, _, _, _, _] ⟨?_, ?_, ?_, ?_, ?_, trivial⟩ y ?_
  · refine piece_snd _ _ 4 512 (by decide) rfl inb_S1024x640_S1024x128_0_512 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_snd _ _ 3 384 (by decide) rfl inb_S1024x640_S1024x128_0_384 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_snd _ _ 2 256 (by decide) rfl inb_S1024x640_S1024x128_0_256 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_snd _ _ 1 128 (by decide) rfl inb_S1024x640_S1024x128_0_128 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_snd _ _ 0 0 (by decide) rfl inb_S1024x640_S1024x128_0_0 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · exact View.cover_of_tiledL _ ![1024, 128] rfl y

end Cert.Proof.Select
-- ==== Proof.Select.StepB.lean ====
module

public import proofs.«01_k».proof.Proof.Gen.SelectIdeal.Frame
public import proofs.«01_k».proof.Proof.Select.Slots

/-!
The slots after a grid point in the middle: the two groups of its block pushed through the slots of the point before.
-/

@[expose] public section

set_option maxRecDepth 16384

noncomputable section

namespace Cert.Proof.Select

open Cert.SelectIdeal Cert.SelectIdeal.Gen
open Idealize.ShloMosaic Idealize.ShloMosaic.TcCoe Idealize.SL.Sem

variable (m : (b : Idealize.ShloMosaic.Loc nD τ sig) → Buf (Elt Ideal) b)

theorem leftB_1 (c : Dev nD) (t : Fin cfg0.N) (h0 : ¬t.val % 49 = 0) (h1 : t.val < 48) (h2 : ¬t.val % 49 = 48) :
    (outsAt0 m c t.val t.isLt).2.1 = fromSlots fun r l i => (merged (BitVec.ofNat 32 (grid0.coords t 0).val) (k0_pay12 (k0_pay3 (iblk m c 0 t)) (X0_1 m c t))
      (outsAt0 m c (t.val - 1) (Nat.lt_of_le_of_lt (Nat.sub_le _ _) t.isLt)).2.1 (outsAt0 m c (t.val - 1) (Nat.lt_of_le_of_lt (Nat.sub_le _ _) t.isLt)).2.2 r l i).1 := by
  rw [outsAt0_B m c t h0 h1 h2]
  frame_open
  simp (disch := decide) only [↓ View.readCov_skip, ↓ View.readCov_cons_toLoadRect, ↓ View.readCov_fill]
  frame_out
  simp only [read_unread_whole]
  generalize k0_pay3 (iblk m c 0 t) = q
  generalize X0_1 m c t = b
  generalize (outsAt0 m c (t.val - 1) _).2.1 = X
  generalize (outsAt0 m c (t.val - 1) _).2.2 = Y
  generalize BitVec.ofNat 32 (grid0.coords t 0).val = n
  have h (r : Fin 1024) (l : Fin 128) (i : ℕ) (hi : i < 5) := one_merged n (k0_pay12 q b) X Y (k0_pay13 q b, k0_pay14 n) (k0_pay38 (k0_pay12 q b), k0_pay39 n (iota .tc S1024x128 32 [1] iota_S1024x128_d1_w32)) r l i hi
    (Prod.ext (pay13 q b r l) (pay14 n r l)) (Prod.ext (pay38 _ r l) (pay39 n r l))
  funext y
  refine View.canon_append_of_piecesOf _ [_, _, _, _, _] [_, _, _, _, _] ⟨?_, ?_, ?_, ?_, ?_, trivial⟩ y ?_
  · refine piece_fst _ _ 4 512 (by decide) rfl inb_S1024x640_S1024x128_0_512 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_fst _ _ 3 384 (by decide) rfl inb_S1024x640_S1024x128_0_384 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_fst _ _ 2 256 (by decide) rfl inb_S1024x640_S1024x128_0_256 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_fst _ _ 1 128 (by decide) rfl inb_S1024x640_S1024x128_0_128 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_fst _ _ 0 0 (by decide) rfl inb_S1024x640_S1024x128_0_0 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · exact View.cover_of_tiledL _ ![1024, 128] rfl y

theorem leftB_2 (c : Dev nD) (t : Fin cfg0.N) (h0 : ¬t.val % 49 = 0) (h1 : t.val < 48) (h2 : ¬t.val % 49 = 48) :
    (outsAt0 m c t.val t.isLt).2.2 = fromSlots fun r l i => (merged (BitVec.ofNat 32 (grid0.coords t 0).val) (k0_pay12 (k0_pay3 (iblk m c 0 t)) (X0_1 m c t))
      (outsAt0 m c (t.val - 1) (Nat.lt_of_le_of_lt (Nat.sub_le _ _) t.isLt)).2.1 (outsAt0 m c (t.val - 1) (Nat.lt_of_le_of_lt (Nat.sub_le _ _) t.isLt)).2.2 r l i).2 := by
  rw [outsAt0_B m c t h0 h1 h2]
  frame_open
  simp (disch := decide) only [↓ View.readCov_skip, ↓ View.readCov_cons_toLoadRect, ↓ View.readCov_fill]
  frame_out
  simp only [read_unread_whole]
  generalize k0_pay3 (iblk m c 0 t) = q
  generalize X0_1 m c t = b
  generalize (outsAt0 m c (t.val - 1) _).2.1 = X
  generalize (outsAt0 m c (t.val - 1) _).2.2 = Y
  generalize BitVec.ofNat 32 (grid0.coords t 0).val = n
  have h (r : Fin 1024) (l : Fin 128) (i : ℕ) (hi : i < 5) := one_merged n (k0_pay12 q b) X Y (k0_pay13 q b, k0_pay14 n) (k0_pay38 (k0_pay12 q b), k0_pay39 n (iota .tc S1024x128 32 [1] iota_S1024x128_d1_w32)) r l i hi
    (Prod.ext (pay13 q b r l) (pay14 n r l)) (Prod.ext (pay38 _ r l) (pay39 n r l))
  funext y
  refine View.canon_append_of_piecesOf _ [_, _, _, _, _] [_, _, _, _, _] ⟨?_, ?_, ?_, ?_, ?_, trivial⟩ y ?_
  · refine piece_snd _ _ 4 512 (by decide) rfl inb_S1024x640_S1024x128_0_512 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_snd _ _ 3 384 (by decide) rfl inb_S1024x640_S1024x128_0_384 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_snd _ _ 2 256 (by decide) rfl inb_S1024x640_S1024x128_0_256 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_snd _ _ 1 128 (by decide) rfl inb_S1024x640_S1024x128_0_128 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · refine piece_snd _ _ 0 0 (by decide) rfl inb_S1024x640_S1024x128_0_0 h _ ?_
    simp only [k0_pay4, k0_pay5, k0_pay6, k0_pay7, k0_pay8, k0_pay9, k0_pay10, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay40, k0_pay41, k0_pay42, k0_pay43, k0_pay44, k0_pay45, k0_pay46, k0_pay47, k0_pay48, k0_pay49, k0_pay50, k0_pay51, k0_pay52, k0_pay53, k0_pay54, k0_pay55, shapeCast_self, to_vs, to_vg, vpush, varrive, vstay, vgoOn, vslots]
  · exact View.cover_of_tiledL _ ![1024, 128] rfl y

end Cert.Proof.Select
-- ==== Proof.Select.StepC.lean ====
module

public import proofs.«01_k».proof.Proof.Gen.SelectIdeal.Frame
public import proofs.«01_k».proof.Proof.Select.Slots

/-!
The slots after the last grid point: the two groups of the tail block pushed through the slots of the point before.
-/

@[expose] public section

set_option maxRecDepth 16384

noncomputable section

namespace Cert.Proof.Select

open Cert.SelectIdeal Cert.SelectIdeal.Gen
open Idealize.ShloMosaic Idealize.ShloMosaic.TcCoe Idealize.SL.Sem

variable (m : (b : Idealize.ShloMosaic.Loc nD τ sig) → Buf (Elt Ideal) b)

theorem leftC_1 (c : Dev nD) (t : Fin cfg0.N) (h0 : ¬t.val % 49 = 0) (h1 : ¬t.val < 48) (h2 : t.val % 49 = 48) :
    (outsAt0 m c t.val t.isLt).2.1 = fromSlots fun r l i => (merged (BitVec.ofNat 32 (grid0.coords t 0).val) (k0_pay56 (k0_pay3 (iblk m c 0 t)) (iblk m c 2 t))
      (outsAt0 m c (t.val - 1) (Nat.lt_of_le_of_lt (Nat.sub_le _ _) t.isLt)).2.1 (outsAt0 m c (t.val - 1) (Nat.lt_of_le_of_lt (Nat.sub_le _ _) t.isLt)).2.2 r l i).1 := by
  rw [outsAt0_C m c t h0 h1 h2]
  frame_open
  simp (disch := decide) only [↓ View.readCov_skip, ↓ View.readCov_cons_toLoadRect, ↓ View.readCov_fill]
  frame_out
  simp only [read_unread_whole]
  generalize k0_pay3 (iblk m c 0 t) = q
  generalize iblk m c 2 t = b
  generalize (outsAt0 m c (t.val - 1) _).2.1 = X
  generalize (outsAt0 m c (t.val - 1) _).2.2 = Y
  generalize BitVec.ofNat 32 (grid0.coords t 0).val = n
  have h (r : Fin 1024) (l : Fin 128) (i : ℕ) (hi : i < 5) := one_merged n (k0_pay56 q b) X Y (k0_pay57 q b, k0_pay58 n) (k0_pay81 (k0_pay56 q b), k0_pay82 n (iota .tc S1024x128 32 [1] iota_S1024x128_d1_w32)) r l i hi
    (Prod.ext (pay57 q b r l) (pay58 n r l)) (Prod.ext (pay81 _ r l) (pay82 n r l))
  funext y
  refine View.canon_append_of_piecesOf _ [_, _, _, _, _] [_, _, _, _, _] ⟨?_, ?_, ?_, ?_, ?_, trivial⟩ y ?_
  · refine piece_fst _ _ 4 512 (by decide) rfl inb_S1024x640_S1024x128_0_512 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · refine piece_fst _ _ 3 384 (by decide) rfl inb_S1024x640_S1024x128_0_384 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · refine piece_fst _ _ 2 256 (by decide) rfl inb_S1024x640_S1024x128_0_256 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · refine piece_fst _ _ 1 128 (by decide) rfl inb_S1024x640_S1024x128_0_128 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · refine piece_fst _ _ 0 0 (by decide) rfl inb_S1024x640_S1024x128_0_0 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · exact View.cover_of_tiledL _ ![1024, 128] rfl y

theorem leftC_2 (c : Dev nD) (t : Fin cfg0.N) (h0 : ¬t.val % 49 = 0) (h1 : ¬t.val < 48) (h2 : t.val % 49 = 48) :
    (outsAt0 m c t.val t.isLt).2.2 = fromSlots fun r l i => (merged (BitVec.ofNat 32 (grid0.coords t 0).val) (k0_pay56 (k0_pay3 (iblk m c 0 t)) (iblk m c 2 t))
      (outsAt0 m c (t.val - 1) (Nat.lt_of_le_of_lt (Nat.sub_le _ _) t.isLt)).2.1 (outsAt0 m c (t.val - 1) (Nat.lt_of_le_of_lt (Nat.sub_le _ _) t.isLt)).2.2 r l i).2 := by
  rw [outsAt0_C m c t h0 h1 h2]
  frame_open
  simp (disch := decide) only [↓ View.readCov_skip, ↓ View.readCov_cons_toLoadRect, ↓ View.readCov_fill]
  frame_out
  simp only [read_unread_whole]
  generalize k0_pay3 (iblk m c 0 t) = q
  generalize iblk m c 2 t = b
  generalize (outsAt0 m c (t.val - 1) _).2.1 = X
  generalize (outsAt0 m c (t.val - 1) _).2.2 = Y
  generalize BitVec.ofNat 32 (grid0.coords t 0).val = n
  have h (r : Fin 1024) (l : Fin 128) (i : ℕ) (hi : i < 5) := one_merged n (k0_pay56 q b) X Y (k0_pay57 q b, k0_pay58 n) (k0_pay81 (k0_pay56 q b), k0_pay82 n (iota .tc S1024x128 32 [1] iota_S1024x128_d1_w32)) r l i hi
    (Prod.ext (pay57 q b r l) (pay58 n r l)) (Prod.ext (pay81 _ r l) (pay82 n r l))
  funext y
  refine View.canon_append_of_piecesOf _ [_, _, _, _, _] [_, _, _, _, _] ⟨?_, ?_, ?_, ?_, ?_, trivial⟩ y ?_
  · refine piece_snd _ _ 4 512 (by decide) rfl inb_S1024x640_S1024x128_0_512 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · refine piece_snd _ _ 3 384 (by decide) rfl inb_S1024x640_S1024x128_0_384 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · refine piece_snd _ _ 2 256 (by decide) rfl inb_S1024x640_S1024x128_0_256 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · refine piece_snd _ _ 1 128 (by decide) rfl inb_S1024x640_S1024x128_0_128 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · refine piece_snd _ _ 0 0 (by decide) rfl inb_S1024x640_S1024x128_0_0 h _ ?_
    simp only [k0_pay4, k0_pay5, k0_pay6, k0_pay7, k0_pay8, k0_pay9, k0_pay10, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, shapeCast_self, to_vs, to_vg, vpush, varrive, vstay, vgoOn, vslots]
  · exact View.cover_of_tiledL _ ![1024, 128] rfl y

end Cert.Proof.Select
-- ==== Proof.Select.Order.lean ====
module

public import proofs.«01_k».proof.Proof.Select.Slots
public import proofs.«01_k».proof.Proof.Rescore.Pick

/-!
What a lane's slots hold after all its groups were pushed. A group with a value above the bottom, and that differs
from every other group's value, is found at the slot whose number is the count of the greater values.
-/

@[expose] public section

noncomputable section

namespace Cert.Proof.Select

open Idealize.ShloMosaic

theorem stay_eq (x s : P) : stay x s = if s.1 < x.1 then x else s := by
  unfold stay gt
  show (Scalar.select (BitVec.ofBool (decide (s.1 < x.1))) x.1 s.1, Scalar.select (BitVec.ofBool (decide (s.1 < x.1))) x.2 s.2) = _
  rw [Scalar.select_ofBool, Scalar.select_ofBool]
  by_cases h : s.1 < x.1 <;> simp [h]

theorem goOn_eq (x s : P) : goOn x s = if s.1 < x.1 then s else x := by
  unfold goOn gt
  show (Scalar.select (BitVec.ofBool (decide (s.1 < x.1))) s.1 x.1, Scalar.select (BitVec.ofBool (decide (s.1 < x.1))) s.2 x.2) = _
  rw [Scalar.select_ofBool, Scalar.select_ofBool]
  by_cases h : s.1 < x.1 <;> simp [h]

theorem stay_or (x s : P) : stay x s = x ∨ stay x s = s := by
  rw [stay_eq]; split
  · exact Or.inl rfl
  · exact Or.inr rfl

theorem goOn_or (x s : P) : goOn x s = x ∨ goOn x s = s := by
  rw [goOn_eq]; split
  · exact Or.inr rfl
  · exact Or.inl rfl

theorem goOn_le (x s : P) : (goOn x s).1 ≤ x.1 := by
  rw [goOn_eq]; split
  · exact le_of_lt ‹_›
  · exact le_rfl

/-- The slots after the first `k` of a lane's groups were pushed. -/
def after (f : ℕ → P) : ℕ → ℕ → P
  | 0 => fun _ => ((⊥ : EReal), 4294967295#32)
  | k + 1 => push (after f k) (f k)

/-- What is in a slot was there or was pushed. -/
theorem arrive_or (s : ℕ → P) (x : P) (i : ℕ) : arrive s x i = x ∨ ∃ j < i, arrive s x i = s j := by
  induction i with
  | zero => exact Or.inl rfl
  | succ i ih =>
    show goOn (arrive s x i) (s i) = x ∨ ∃ j < i + 1, goOn (arrive s x i) (s i) = s j
    rcases goOn_or (arrive s x i) (s i) with h | h
    · rw [h]
      rcases ih with ih | ⟨j, hj, ih⟩
      · exact Or.inl ih
      · exact Or.inr ⟨j, by omega, ih⟩
    · exact Or.inr ⟨i, by omega, h⟩

theorem after_or (f : ℕ → P) (k i : ℕ) : after f k i = ((⊥ : EReal), 4294967295#32) ∨ ∃ j < k, after f k i = f j := by
  induction k generalizing i with
  | zero => exact Or.inl rfl
  | succ k ih =>
    have up (i : ℕ) : after f k i = ((⊥ : EReal), 4294967295#32) ∨ ∃ j < k + 1, after f k i = f j :=
      (ih i).imp id fun ⟨j, hj, h⟩ => ⟨j, by omega, h⟩
    show stay (arrive (after f k) (f k) i) (after f k i) = _ ∨ ∃ j < k + 1, stay (arrive (after f k) (f k) i) (after f k i) = f j
    rcases stay_or (arrive (after f k) (f k) i) (after f k i) with h | h
    · rw [h]
      rcases arrive_or (after f k) (f k) i with h | ⟨j, _, h⟩
      · exact Or.inr ⟨k, by omega, h⟩
      · rw [h]; exact up j
    · rw [h]; exact up i

/-- Below the threshold everything that arrives stays below. -/
theorem arrive_lt (v : EReal) (s : ℕ → P) (x : P) (hx : x.1 < v) (i : ℕ) : (arrive s x i).1 < v := by
  induction i with
  | zero => exact hx
  | succ i ih => exact lt_of_le_of_lt (goOn_le _ _) ih

theorem arrive_lt_from (v : EReal) (s : ℕ → P) (x : P) (i j : ℕ) (hij : i ≤ j) (hi : (arrive s x i).1 < v) : (arrive s x j).1 < v := by
  induction j, hij using Nat.le_induction with
  | base => exact hi
  | succ j _ ih => exact lt_of_le_of_lt (goOn_le _ _) ih

theorem arrive_gt (v : EReal) (s : ℕ → P) (x : P) (c : ℕ) (hs : ∀ i < c, v < (s i).1) (hx : v < x.1) : v < (arrive s x c).1 := by
  rcases arrive_or s x c with h | ⟨j, hj, h⟩
  · rw [h]; exact hx
  · rw [h]; exact hs j hj

/-- Before the wanted group came: the first `c` slots are above the threshold, the others below. -/
def Before (v : EReal) (c : ℕ) (s : ℕ → P) : Prop := (∀ i < c, v < (s i).1) ∧ ∀ i, c ≤ i → (s i).1 < v

/-- After: it is at slot `c`. -/
def Holds (b : P) (c : ℕ) (s : ℕ → P) : Prop := (∀ i < c, b.1 < (s i).1) ∧ s c = b ∧ ∀ i, c < i → (s i).1 < b.1

theorem stay_lt {v : EReal} {x s : P} (hx : x.1 < v) (hs : s.1 < v) : (stay x s).1 < v := by
  rcases stay_or x s with h | h <;> rw [h] <;> assumption

theorem stay_gt {v : EReal} {x s : P} (hx : v < x.1) (hs : v < s.1) : v < (stay x s).1 := by
  rcases stay_or x s with h | h <;> rw [h] <;> assumption

theorem stay_old {x s : P} (h : x.1 ≤ s.1) : stay x s = s := by rw [stay_eq, if_neg (not_lt.mpr h)]

theorem stay_new {x s : P} (h : s.1 < x.1) : stay x s = x := by rw [stay_eq, if_pos h]

theorem goOn_old {x s : P} (h : x.1 ≤ s.1) : goOn x s = x := by rw [goOn_eq, if_neg (not_lt.mpr h)]

theorem goOn_new {x s : P} (h : s.1 < x.1) : goOn x s = s := by rw [goOn_eq, if_pos h]

theorem Before.push_lt {v : EReal} {c : ℕ} {s : ℕ → P} (h : Before v c s) (x : P) (hx : x.1 < v) : Before v c (push s x) := by
  refine ⟨fun i hi => ?_, fun i hi => stay_lt (arrive_lt v s x hx i) (h.2 i hi)⟩
  show v < (stay _ _).1
  rw [stay_old (le_of_lt (lt_trans (arrive_lt v s x hx i) (h.1 i hi)))]
  exact h.1 i hi

theorem Before.push_gt {v : EReal} {c : ℕ} {s : ℕ → P} (h : Before v c s) (x : P) (hx : v < x.1) : Before v (c + 1) (push s x) := by
  have hc (i : ℕ) (hi : i ≤ c) : v < (arrive s x i).1 := arrive_gt v s x i (fun j hj => h.1 j (by omega)) hx
  refine ⟨fun i hi => ?_, fun i hi => ?_⟩
  · by_cases e : i = c
    · subst e
      show v < (stay _ _).1
      rw [stay_new (lt_trans (h.2 i le_rfl) (hc i le_rfl))]
      exact hc i le_rfl
    · exact stay_gt (hc i (by omega)) (h.1 i (by omega))
  · refine stay_lt (arrive_lt_from v s x (c + 1) i hi ?_) (h.2 i (by omega))
    show (goOn _ _).1 < v
    rw [goOn_new (lt_trans (h.2 c le_rfl) (hc c le_rfl))]
    exact h.2 c le_rfl

theorem Before.push_self {b : P} {c : ℕ} {s : ℕ → P} (h : Before b.1 c s) : Holds b c (push s b) := by
  have hc (i : ℕ) (hi : i ≤ c) : arrive s b i = b := by
    induction i with
    | zero => rfl
    | succ i ih =>
      show goOn _ _ = b
      rw [ih (by omega), goOn_old (le_of_lt (h.1 i (by omega)))]
  have e1 : (arrive s b (c + 1)).1 < b.1 := by
    show (goOn _ _).1 < b.1
    rw [hc c le_rfl, goOn_new (h.2 c le_rfl)]
    exact h.2 c le_rfl
  refine ⟨fun i hi => ?_, ?_, fun i hi => stay_lt (arrive_lt_from _ s b (c + 1) i hi e1) (h.2 i (by omega))⟩
  · show b.1 < (stay _ _).1
    rw [hc i (by omega), stay_old (le_of_lt (h.1 i hi))]
    exact h.1 i hi
  · show stay _ _ = b
    rw [hc c le_rfl, stay_new (h.2 c le_rfl)]

theorem Holds.push_lt {b : P} {c : ℕ} {s : ℕ → P} (h : Holds b c s) (x : P) (hx : x.1 < b.1) : Holds b c (push s x) := by
  refine ⟨fun i hi => ?_, ?_, fun i hi => stay_lt (arrive_lt _ s x hx i) (h.2.2 i hi)⟩
  · show b.1 < (stay _ _).1
    rw [stay_old (le_of_lt (lt_trans (arrive_lt _ s x hx i) (h.1 i hi)))]
    exact h.1 i hi
  · show stay _ _ = b
    rw [h.2.1]
    exact stay_old (le_of_lt (arrive_lt _ s x hx c))

theorem Holds.push_gt {b : P} {c : ℕ} {s : ℕ → P} (h : Holds b c s) (x : P) (hx : b.1 < x.1) : Holds b (c + 1) (push s x) := by
  have hc (i : ℕ) (hi : i ≤ c) : b.1 < (arrive s x i).1 := arrive_gt _ s x i (fun j hj => h.1 j (by omega)) hx
  have e1 : arrive s x (c + 1) = b := by
    show goOn _ _ = b
    rw [h.2.1, goOn_new (hc c le_rfl)]
  have e2 : (arrive s x (c + 1 + 1)).1 < b.1 := by
    show (goOn (arrive s x (c + 1)) (s (c + 1))).1 < b.1
    rw [e1, goOn_new (h.2.2 (c + 1) (by omega))]
    exact h.2.2 (c + 1) (by omega)
  refine ⟨fun i hi => ?_, ?_, fun i hi => stay_lt (arrive_lt_from _ s x (c + 1 + 1) i hi e2) (h.2.2 i (by omega))⟩
  · by_cases e : i = c
    · subst e
      show b.1 < (stay _ _).1
      rw [h.2.1, stay_new (hc i le_rfl)]
      exact hc i le_rfl
    · exact stay_gt (hc i (by omega)) (h.1 i (by omega))
  · show stay (arrive s x (c + 1)) (s (c + 1)) = b
    rw [e1, stay_new (h.2.2 (c + 1) (by omega))]

/-- How many of the first `k` groups are above the threshold. -/
def above (f : ℕ → P) (v : EReal) (k : ℕ) : ℕ := open Classical in ((Finset.range k).filter fun j => v < (f j).1).card

theorem above_succ (f : ℕ → P) (v : EReal) (k : ℕ) : above f v (k + 1) = if v < (f k).1 then above f v k + 1 else above f v k := by
  classical
  unfold above
  rw [Finset.range_add_one, Finset.filter_insert]
  split
  · rw [Finset.card_insert_of_notMem (by simp)]
  · rfl

/-- The wanted group stays at the slot that the count of the greater ones names. -/
theorem after_holds (f : ℕ → P) (b n : ℕ) (hb : b < n) (hbot : (⊥ : EReal) < (f b).1) (hne : ∀ j < n, j ≠ b → (f j).1 ≠ (f b).1) :
    after f n (above f (f b).1 n) = f b := by
  have key (k : ℕ) (hk : k ≤ n) : (k ≤ b → Before (f b).1 (above f (f b).1 k) (after f k)) ∧ (b < k → Holds (f b) (above f (f b).1 k) (after f k)) := by
    induction k with
    | zero =>
      refine ⟨fun _ => ⟨fun i hi => ?_, fun i _ => hbot⟩, fun h => absurd h (by omega)⟩
      unfold above at hi
      simp at hi
    | succ k ih =>
      obtain ⟨ih1, ih2⟩ := ih (by omega)
      rw [above_succ]
      refine ⟨fun h => ?_, fun h => ?_⟩
      · rcases lt_or_gt_of_ne (hne k (by omega) (by omega)) with h' | h'
        · rw [if_neg (not_lt.mpr (le_of_lt h'))]
          exact (ih1 (by omega)).push_lt _ h'
        · rw [if_pos h']
          exact (ih1 (by omega)).push_gt _ h'
      · by_cases e : k = b
        · subst e
          rw [if_neg (lt_irrefl _)]
          exact (ih1 le_rfl).push_self
        · rcases lt_or_gt_of_ne (hne k (by omega) e) with h' | h'
          · rw [if_neg (not_lt.mpr (le_of_lt h'))]
            exact (ih2 (by omega)).push_lt _ h'
          · rw [if_pos h']
            exact (ih2 (by omega)).push_gt _ h'
  exact ((key n le_rfl).2 hb).2.1

/-! ## The sort by value -/

/-- The position of the `j`-th greatest value. -/
abbrev at_ {N : ℕ} (g : Fin N → EReal) (j : Fin N) : Fin N := sortedFrom (Rescore.Pick.ahead N g) j

theorem at_anti {N : ℕ} (g : Fin N → EReal) (i j : Fin N) (h : i < j) : g (at_ g j) ≤ g (at_ g i) := by
  have hT := Rescore.Pick.ahead_total N g
  have h' := sortedFrom_noInversion (Rescore.Pick.ahead N g) (Rescore.Pick.ahead N g)
    (fun a b hab => by
      cases hba : Rescore.Pick.ahead N g b a
      · rfl
      · have := hT.trans a b a hab hba
        rw [hT.irrefl] at this
        exact absurd this (by decide))
    (fun a b h => h)
    (fun a b c hab hbc => by
      unfold Rescore.Pick.ahead at *
      simp only [Bool.or_eq_false_iff, Bool.and_eq_false_iff, decide_eq_false_iff_not, not_lt] at *
      refine ⟨le_trans hab.1 hbc.1, ?_⟩
      by_cases e : g a = g c
      · right
        have e1 : g a = g b := le_antisymm hab.1 (e ▸ hbc.1)
        have e2 : g b = g c := e1.symm.trans e
        have h1 := hab.2.resolve_left (fun n => n e1)
        have h2 := hbc.2.resolve_left (fun n => n e2)
        exact le_trans h2 h1
      · exact Or.inl e) i j h
  unfold Rescore.Pick.ahead at h'
  simp only [Bool.or_eq_false_iff, decide_eq_false_iff_not, not_lt] at h'
  exact h'.1

/-- A position that is none of the first `K` holds at most what the next one holds. -/
theorem at_rest {N : ℕ} (g : Fin N → EReal) (K : Fin N) (x : Fin N) (h : ∀ j < K, x ≠ at_ g j) : g x ≤ g (at_ g K) := by
  obtain ⟨j, rfl⟩ := sortedFrom_surjective (Rescore.Pick.ahead N g) x
  rcases lt_trichotomy j K with h' | h' | h'
  · exact absurd rfl (h j h')
  · subst h'; exact le_rfl
  · exact at_anti g K j h'

end Cert.Proof.Select
-- ==== Proof.Select.Left.lean ====
module

public import proofs.«01_k».proof.Proof.Select.StepA
public import proofs.«01_k».proof.Proof.Select.StepB
public import proofs.«01_k».proof.Proof.Select.StepC
public import proofs.«01_k».proof.Proof.Select.Order
public import proofs.«01_k».proof.Proof.Rescore.Elem

/-!
The slots after each grid point: the groups of all the points so far, pushed one after the other.
-/

@[expose] public section

noncomputable section

namespace Cert.Proof.Select

open Cert.SelectIdeal Cert.SelectIdeal.Gen
open Idealize.ShloMosaic Idealize.ShloMosaic.TcCoe Idealize.SL.Sem

variable (m : (b : Idealize.ShloMosaic.Loc nD τ sig) → Buf (Elt Ideal) b)

/-- The similarities of a grid point. -/
def sims (c : Dev nD) (n : ℕ) : FVec Ideal S1024x2048 .f32 :=
  if h : n < cfg0.N then
    if n < 48 then k0_pay12 (k0_pay3 (iblk m c 0 ⟨n, h⟩)) (X0_1 m c ⟨n, h⟩) else k0_pay56 (k0_pay3 (iblk m c 0 ⟨n, h⟩)) (iblk m c 2 ⟨n, h⟩)
  else fun _ => (⊥ : EReal)

/-- Group `k` of a lane: its greatest similarity and its name. -/
def item (S : ℕ → FVec Ideal S1024x2048 .f32) (r : Fin 1024) (l : Fin 128) (k : ℕ) : P :=
  (groupMax (S (k / 2)) ⟨k % 2, Nat.mod_lt _ (by decide)⟩ r l, BitVec.ofNat 32 (128 * k + l.val))

theorem fromSlots_congr {α : Type} (g g' : Fin 1024 → Fin 128 → ℕ → α) (h : ∀ r l i, i < 5 → g r l i = g' r l i) :
    fromSlots g = fromSlots g' := by
  funext y
  have hy : (y 1).val < 640 := (y 1).isLt
  exact h _ _ _ (by omega)

theorem name_eq (n : ℕ) (g : Fin 2) (l : Fin 128) : name (BitVec.ofNat 32 n) g l = BitVec.ofNat 32 (128 * (2 * n + g.val) + l.val) := by
  unfold name
  apply BitVec.eq_of_toNat_eq
  simp only [BitVec.toNat_add, BitVec.toNat_mul, BitVec.toNat_ofNat]
  omega

/-- A grid point takes the slots on by its two groups. -/
theorem merged_after (S : ℕ → FVec Ideal S1024x2048 .f32) (n : ℕ) (X : Vec Ideal S1024x640 .f32) (Y : Vec Ideal S1024x640 .i32)
    (r : Fin 1024) (l : Fin 128) (h : ∀ i < 5, slots X Y r l i = after (item S r l) (2 * n) i) (i : ℕ) (hi : i < 5) :
    merged (BitVec.ofNat 32 n) (S n) X Y r l i = after (item S r l) (2 * n + 2) i := by
  have e0 : (groupMax (S n) 0 r l, name (BitVec.ofNat 32 n) 0 l) = item S r l (2 * n) := by
    unfold item
    rw [name_eq, show 2 * n / 2 = n by omega]
    congr 2
    exact Fin.ext (show 0 = 2 * n % 2 by omega)
  have e1 : (groupMax (S n) 1 r l, name (BitVec.ofNat 32 n) 1 l) = item S r l (2 * n + 1) := by
    unfold item
    rw [name_eq, show (2 * n + 1) / 2 = n by omega]
    congr 2
    exact Fin.ext (show 1 = (2 * n + 1) % 2 by omega)
  unfold merged
  rw [e0, e1]
  exact push_congr _ _ _ i fun j hj => push_congr _ _ _ j fun k hk => h k (by omega)

theorem coords_eq : ∀ t : Fin cfg0.N, (grid0.coords t 0).val = t.val := by decide +kernel

theorem slots_from (f : Fin 1024 → Fin 128 → ℕ → P) (r : Fin 1024) (l : Fin 128) (i : ℕ) (hi : i < 5) :
    slots (fromSlots fun r l i => (f r l i).1) (fromSlots fun r l i => (f r l i).2) r l i = f r l i :=
  Prod.ext (fromSlots_col (fun r l i => (f r l i).1) r l i hi) (fromSlots_col (fun r l i => (f r l i).2) r l i hi)

theorem slots_init (r : Fin 1024) (l : Fin 128) (i : ℕ) :
    slots (k0_pay1 (F := Ideal)) (k0_pay2 : IVec S1024x640 32) r l i = ((⊥ : EReal), 4294967295#32) := by
  unfold slots k0_pay1 k0_pay2
  pointwise
  rw [Rescore.negInf]

theorem left (c : Dev nD) (n : ℕ) (hn : n < cfg0.N) :
    (outsAt0 m c n hn).2.1 = fromSlots (fun r l i => (after (item (sims m c) r l) (2 * n + 2) i).1) ∧
    (outsAt0 m c n hn).2.2 = fromSlots (fun r l i => (after (item (sims m c) r l) (2 * n + 2) i).2) := by
  have hN : cfg0.N = 49 := rfl
  induction n with
  | zero =>
    have e : sims m c 0 = k0_pay12 (k0_pay3 (iblk m c 0 ⟨0, hn⟩)) (X0_1 m c ⟨0, hn⟩) := by
      unfold sims; rw [dif_pos hn, if_pos (by decide)]
    have hc := coords_eq ⟨0, hn⟩
    have hm (r : Fin 1024) (l : Fin 128) (i : ℕ) (hi : i < 5) :=
      merged_after (sims m c) 0 (k0_pay1 (F := Ideal)) (k0_pay2 : IVec S1024x640 32) r l (fun i _ => slots_init r l i) i hi
    constructor
    · refine (leftA_1 m c ⟨0, hn⟩ (by show 0 % 49 = 0; decide) (by show 0 < 48; decide) (by show ¬0 % 49 = 48; decide)).trans (fromSlots_congr _ _ fun r l i hi => ?_)
      rw [hc, ← e]
      exact congrArg Prod.fst (hm r l i hi)
    · refine (leftA_2 m c ⟨0, hn⟩ (by show 0 % 49 = 0; decide) (by show 0 < 48; decide) (by show ¬0 % 49 = 48; decide)).trans (fromSlots_congr _ _ fun r l i hi => ?_)
      rw [hc, ← e]
      exact congrArg Prod.snd (hm r l i hi)
  | succ n ih =>
    obtain ⟨ih1, ih2⟩ := ih (by omega)
    have hc := coords_eq ⟨n + 1, hn⟩
    have hm (r : Fin 1024) (l : Fin 128) (i : ℕ) (hi : i < 5) :=
      merged_after (sims m c) (n + 1) (fromSlots fun r l i => (after (item (sims m c) r l) (2 * n + 2) i).1)
        (fromSlots fun r l i => (after (item (sims m c) r l) (2 * n + 2) i).2) r l (fun i hi => slots_from _ r l i hi) i hi
    by_cases h48 : n + 1 < 48
    · have e : sims m c (n + 1) = k0_pay12 (k0_pay3 (iblk m c 0 ⟨n + 1, hn⟩)) (X0_1 m c ⟨n + 1, hn⟩) := by
        unfold sims; rw [dif_pos hn, if_pos h48]
      constructor
      · refine (leftB_1 m c ⟨n + 1, hn⟩ (by show ¬(n + 1) % 49 = 0; omega) h48 (by show ¬(n + 1) % 49 = 48; omega)).trans (fromSlots_congr _ _ fun r l i hi => ?_)
        rw [hc, ← e]
        rw [← ih1, ← ih2] at hm
        exact congrArg Prod.fst (hm r l i hi)
      · refine (leftB_2 m c ⟨n + 1, hn⟩ (by show ¬(n + 1) % 49 = 0; omega) h48 (by show ¬(n + 1) % 49 = 48; omega)).trans (fromSlots_congr _ _ fun r l i hi => ?_)
        rw [hc, ← e]
        rw [← ih1, ← ih2] at hm
        exact congrArg Prod.snd (hm r l i hi)
    · have e : sims m c (n + 1) = k0_pay56 (k0_pay3 (iblk m c 0 ⟨n + 1, hn⟩)) (iblk m c 2 ⟨n + 1, hn⟩) := by
        unfold sims; rw [dif_pos hn, if_neg h48]
      constructor
      · refine (leftC_1 m c ⟨n + 1, hn⟩ (by show ¬(n + 1) % 49 = 0; omega) h48 (by show (n + 1) % 49 = 48; omega)).trans (fromSlots_congr _ _ fun r l i hi => ?_)
        rw [hc, ← e]
        rw [← ih1, ← ih2] at hm
        exact congrArg Prod.fst (hm r l i hi)
      · refine (leftC_2 m c ⟨n + 1, hn⟩ (by show ¬(n + 1) % 49 = 0; omega) h48 (by show (n + 1) % 49 = 48; omega)).trans (fromSlots_congr _ _ fun r l i hi => ?_)
        rw [hc, ← e]
        rw [← ih1, ← ih2] at hm
        exact congrArg Prod.snd (hm r l i hi)

end Cert.Proof.Select
-- ==== Proof.Select.OutC.lean ====
module

public import proofs.«01_k».proof.Proof.Select.StepC

@[expose] public section

set_option maxRecDepth 16384

noncomputable section

namespace Cert.Proof.Select

open Cert.SelectIdeal Cert.SelectIdeal.Gen
open Idealize.ShloMosaic Idealize.ShloMosaic.TcCoe Idealize.SL.Sem

variable (m : (b : Idealize.ShloMosaic.Loc nD τ sig) → Buf (Elt Ideal) b)

/-- The last payload over the two arrays. -/
def pick (W : Vec Ideal S1024x640 .f32) (Z : Vec Ideal S1024x640 .i32) : Vec Ideal S1024x8 .i32 :=
  let v := k0_pay105 W Z
  k0_pay11 Z (k0_pay106 v) (k0_pay108 W Z v) (k0_pay110 W Z v) (k0_pay112 W Z v) (k0_pay113 W Z v) (k0_pay114 W Z v)

/-- A load of the whole of what was stored. -/
theorem readCov_all {sg : RefSig} {κ : Kind} {sp : Space} {S : Shape} {e : EltTy} (v : View sg κ sp S e) {off : Fin S.rank → ℕ}
    (inb : ∀ a, off a + S.size a ≤ S.size a) (L : List (View.Piece (Elt Ideal) S e)) (h : ∀ a, off a = 0) :
    v.readCov L (Rect.unit off (no_index S.size) inb).toLoadRect = View.canon L := by
  rw [View.readCov_eq_canon']
  exact View.ld_unit_lit inb (View.canon L) h

theorem outC (c : Dev nD) (t : Fin cfg0.N) (h0 : ¬t.val % 49 = 0) (h1 : ¬t.val < 48) (h2 : t.val % 49 = 48) :
    (outsAt0 m c t.val t.isLt).1 = pick (outsAt0 m c t.val t.isLt).2.1 (outsAt0 m c t.val t.isLt).2.2 := by
  rw [outsAt0_C m c t h0 h1 h2]
  frame_open
  simp (disch := decide) only [↓ View.readCov_skip, ↓ View.readCov_cons_toLoadRect, ↓ View.readCov_fill]
  simp (disch := decide) only [readCov_all]
  frame_out
  rfl

end Cert.Proof.Select
-- ==== Proof.Select.Extract.lean ====
module

public import proofs.«01_k».proof.Proof.Select.OutC
public import proofs.«01_k».proof.Proof.Select.Order
public import proofs.«01_k».proof.Proof.Rescore.Row

/-!
The five rounds that read the best names out of the slots: each takes the greatest value and the least name among the
slots that hold it, then puts the slots of that name at the bottom. When the five best values differ from each other and
from all the rest, round `k` gives the name of the `k`-th best.
-/

@[expose] public section

noncomputable section

namespace Cert.Proof.Select

open Cert.SelectIdeal Cert.SelectIdeal.Gen
open Idealize.ShloMosaic

/-- A round's best value. -/
def best (v : FVec Ideal S1024x640 .f32) : FVec Ideal S1024x1 .f32 :=
  shapeCast S1024x1 (multiReduction .maximumf [1] S1024 v 0xFF800000#32 reduces_S1024x640_S1024 (.inl rfl) rfl)
    shapeCasts_S1024_S1024x1

/-- The least name among those at the best value. -/
def least (z : Vec Ideal S1024x640 .i32) (v : FVec Ideal S1024x640 .f32) : IVec S1024x1 32 :=
  shapeCast S1024x1
    (multiReductionI .minsi [1] S1024
      (select (cmpf .oeq v (broadcastTo S1024x640 (best v) broadcasts_S1024x1_S1024x640)) z
        (broadcast S1024x640 1073741824#32) : Vec Ideal S1024x640 .i32)
      2147483647#32 reduces_S1024x640_S1024 rfl)
    shapeCasts_S1024_S1024x1

/-- A round: every slot of the name is put at the bottom. -/
def next (z : Vec Ideal S1024x640 .i32) (v : FVec Ideal S1024x640 .f32) : FVec Ideal S1024x640 .f32 :=
  select (cmpi .eq z (broadcastTo S1024x640 (least z v) broadcasts_S1024x1_S1024x640))
    (broadcast S1024x640 (Scalar.ofBits .f32 0xFF800000#32)) v

/-- The values after `k` rounds. -/
def rounds (z : Vec Ideal S1024x640 .i32) (w : FVec Ideal S1024x640 .f32) : ℕ → FVec Ideal S1024x640 .f32
  | 0 => w
  | k + 1 => next z (rounds z w k)

theorem pick_eq (w : Vec Ideal S1024x640 .f32) (z : Vec Ideal S1024x640 .i32) :
    pick w z = concatenate S1024x8 1 [⟨S1024x1, least z (rounds z w 0)⟩, ⟨S1024x1, least z (rounds z w 1)⟩,
      ⟨S1024x1, least z (rounds z w 2)⟩, ⟨S1024x1, least z (rounds z w 3)⟩, ⟨S1024x1, least z (rounds z w 4)⟩,
      ⟨S1024x1, broadcast S1024x1 4294967295#32⟩, ⟨S1024x1, broadcast S1024x1 4294967295#32⟩, ⟨S1024x1, broadcast S1024x1 4294967295#32⟩]
      concatenates_S1024x1_S1024x1_S1024x1_S1024x1_S1024x1_S1024x1_S1024x1_S1024x1_S1024x8_d1 := by
  with_unfolding_all rfl

theorem pick_apply (w : Vec Ideal S1024x640 .f32) (z : Vec Ideal S1024x640 .i32) (r : Fin 1024) (k : Fin 8) :
    pick w z (ix2 r k) = if k.val < 5 then least z (rounds z w k.val) (ix2 r 0) else 4294967295#32 := by
  have e : pick w z = concatenate S1024x8 1 (List.ofFn fun n : Fin 8 => (⟨S1024x1, if n.val < 5 then least z (rounds z w n.val) else broadcast S1024x1 4294967295#32⟩ : (s : Shape) × (s.Idx → BitVec 32)))
    concatenates_S1024x1_S1024x1_S1024x1_S1024x1_S1024x1_S1024x1_S1024x1_S1024x1_S1024x8_d1 := (pick_eq w z).trans rfl
  rw [e]
  pointwise
  split <;> rfl

theorem best_apply (v : FVec Ideal S1024x640 .f32) (r : Fin 1024) (z : Fin 1) :
    best v (ix2 r z) = Finset.univ.sup fun j => v (ix2 r j) := by
  unfold best
  pointwise
  rw [Rescore.negInf]; rfl

theorem least_apply (z : Vec Ideal S1024x640 .i32) (v : FVec Ideal S1024x640 .f32) (r : Fin 1024) (o : Fin 1) :
    least z v (ix2 r o) = Finset.univ.fold IntOp.minsi 2147483647#32
      fun j => if v (ix2 r j) = best v (ix2 r 0) then z (ix2 r j) else 1073741824#32 := by
  unfold least
  pointwise

theorem next_apply (z : Vec Ideal S1024x640 .i32) (v : FVec Ideal S1024x640 .f32) (r : Fin 1024) (j : Fin 640) :
    next z v (ix2 r j) = if z (ix2 r j) = least z v (ix2 r 0) then ⊥ else v (ix2 r j) := by
  unfold next
  pointwise
  rw [Rescore.negInf]
  exact (Scalar.select_ofBool (_ == _) _ _).trans (by simp only [beq_iff_eq])

section row

variable {N : ℕ} (hN : N ≤ 2 ^ 30) (g : Fin N → EReal) (b : ℕ → Fin N)
  (hdec : ∀ k < 5, g (b (k + 1)) < g (b k)) (hrest : ∀ k ≤ 5, ∀ x, (∀ j < k, x ≠ b j) → g x ≤ g (b k))
  (w : FVec Ideal S1024x640 .f32) (z : Vec Ideal S1024x640 .i32) (r : Fin 1024)
  (hall : ∀ i : Fin 640, (w (ix2 r i) = (⊥ : EReal) ∧ z (ix2 r i) = 4294967295#32) ∨ ∃ x : Fin N, w (ix2 r i) = g x ∧ z (ix2 r i) = BitVec.ofNat 32 x.val)
  (hin : ∀ k < 5, ∃ i : Fin 640, w (ix2 r i) = g (b k) ∧ z (ix2 r i) = BitVec.ofNat 32 (b k).val)

include hN in
theorem name_inj (x y : Fin N) (h : BitVec.ofNat 32 x.val = BitVec.ofNat 32 y.val) : x = y := by
  have := congrArg BitVec.toNat h
  rw [BitVec.toNat_ofNat, BitVec.toNat_ofNat, Nat.mod_eq_of_lt (by omega), Nat.mod_eq_of_lt (by omega)] at this
  exact Fin.ext this

include hdec in
theorem best_lt (j k : ℕ) (hjk : j < k) (hk : k ≤ 5) : g (b k) < g (b j) := by
  induction k, hjk using Nat.le_induction with
  | base => exact hdec j (by omega)
  | succ k _ ih => exact lt_trans (hdec k (by omega)) (ih (by omega))

include hN hdec hrest hall hin in
theorem round_spec (k : ℕ) (hk : k ≤ 5) :
    (∀ i : Fin 640, rounds z w k (ix2 r i) = if ∃ j < k, z (ix2 r i) = BitVec.ofNat 32 (b j).val then ⊥ else w (ix2 r i)) ∧
    ∀ k' < k, least z (rounds z w k') (ix2 r 0) = BitVec.ofNat 32 (b k').val := by
  induction k with
  | zero => exact ⟨fun i => by rw [if_neg (by rintro ⟨j, hj, _⟩; omega)]; rfl, fun k' h => absurd h (by omega)⟩
  | succ k ih =>
    obtain ⟨ih1, ih2⟩ := ih (by omega)
    have hbot : (⊥ : EReal) < g (b k) := lt_of_le_of_lt bot_le (hdec k (by omega))
    obtain ⟨i0, hw0, hz0⟩ := hin k (by omega)
    have h0 : rounds z w k (ix2 r i0) = g (b k) := by
      rw [ih1, if_neg, hw0]
      rintro ⟨j, hj, e⟩
      have := name_inj hN _ _ (hz0.symm.trans e)
      have hlt := best_lt g b hdec j k hj (by omega)
      rw [this] at hlt
      exact lt_irrefl _ hlt
    have hle (i : Fin 640) : rounds z w k (ix2 r i) ≤ g (b k) := by
      rw [ih1]
      split
      · exact bot_le
      · rename_i hm
        rcases hall i with ⟨hw, _⟩ | ⟨x, hw, hz⟩
        · rw [hw]; exact bot_le
        · rw [hw]
          refine hrest k (by omega) x fun j hj e => hm ⟨j, hj, ?_⟩
          rw [hz, e]
    have hbest : best (rounds z w k) (ix2 r 0) = g (b k) := by
      rw [best_apply]
      refine le_antisymm (Finset.sup_le fun i _ => hle i) ?_
      rw [← h0]
      exact Finset.le_sup (f := fun i => rounds z w k (ix2 r i)) (Finset.mem_univ i0)
    have hleast : least z (rounds z w k) (ix2 r 0) = BitVec.ofNat 32 (b k).val := by
      have hlow : (BitVec.ofNat 32 (b k).val).toInt = (b k).val := by
        rw [Rescore.toInt_of_low, BitVec.toNat_ofNat, Nat.mod_eq_of_lt (by omega)]
        rw [BitVec.toNat_ofNat, Nat.mod_eq_of_lt (by omega)]; omega
      rw [least_apply, hbest]
      apply Rescore.fold_least
      · rw [hlow, show (2147483647#32).toInt = 2147483647 by decide]; omega
      · exact ⟨i0, by rw [if_pos h0, hz0]⟩
      · intro i
        split
        · rename_i hi
          rw [ih1] at hi
          split at hi
          · exact absurd hi.symm (ne_of_gt hbot)
          · rename_i hm
            rcases hall i with ⟨hw, _⟩ | ⟨x, hw, hz⟩
            · rw [hw] at hi
              exact absurd hi.symm (ne_of_gt hbot)
            · have e : x = b k := by
                by_contra hne
                have := hrest (k + 1) (by omega) x fun j hj e => by
                  by_cases hjk : j = k
                  · subst hjk; exact hne e
                  · exact hm ⟨j, by omega, by rw [hz, e]⟩
                rw [← hw, hi] at this
                exact absurd (hdec k (by omega)) (not_lt.mpr this)
              rw [hz, e]
        · rw [hlow, show (1073741824#32).toInt = 1073741824 by decide]; omega
    refine ⟨fun i => ?_, fun k' h => ?_⟩
    · show next z (rounds z w k) (ix2 r i) = _
      rw [next_apply, hleast, ih1]
      by_cases h : z (ix2 r i) = BitVec.ofNat 32 (b k).val
      · rw [if_pos h, if_pos ⟨k, by omega, h⟩]
      · rw [if_neg h]
        by_cases h' : ∃ j < k, z (ix2 r i) = BitVec.ofNat 32 (b j).val
        · obtain ⟨j, hj, e⟩ := h'
          rw [if_pos ⟨j, hj, e⟩, if_pos ⟨j, by omega, e⟩]
        · rw [if_neg h', if_neg]
          rintro ⟨j, hj, e⟩
          by_cases hjk : j = k
          · subst hjk; exact h e
          · exact h' ⟨j, by omega, e⟩
    · by_cases e : k' = k
      · subst e; exact hleast
      · exact ih2 k' (by omega)

end row

end Cert.Proof.Select
-- ==== Proof.Select.Whole.lean ====
module

public import proofs.«01_k».proof.Proof.Select.Left
public import proofs.«01_k».proof.Proof.Select.Extract

/-!
What the last grid point writes: in each row, the five best groups' names in order, when their values differ from each
other and from all the rest.
-/

@[expose] public section

noncomputable section

namespace Cert.Proof.Select

open Cert.SelectIdeal Cert.SelectIdeal.Gen
open Idealize.ShloMosaic Idealize.ShloMosaic.TcCoe Idealize.SL.Sem

/-- The value of a group, in the order of the names. -/
def groupVal (S : ℕ → FVec Ideal S1024x2048 .f32) (r : Fin 1024) (x : Fin 12544) : EReal :=
  (item S r ⟨x.val % 128, Nat.mod_lt _ (by decide)⟩ (x.val / 128)).1

/-- The name in the order of the names. -/
def ofLane (l : Fin 128) (k : ℕ) (hk : k < 98) : Fin 12544 := ⟨128 * k + l.val, by omega⟩

theorem item_of (S : ℕ → FVec Ideal S1024x2048 .f32) (r : Fin 1024) (l : Fin 128) (k : ℕ) (hk : k < 98) :
    item S r l k = (groupVal S r (ofLane l k hk), BitVec.ofNat 32 (ofLane l k hk).val) := by
  unfold groupVal ofLane
  have h1 : (128 * k + l.val) % 128 = l.val := by omega
  have h2 : (128 * k + l.val) / 128 = k := by omega
  simp only [h1, h2]
  rfl

section row

variable (S : ℕ → FVec Ideal S1024x2048 .f32) (r : Fin 1024) (b : ℕ → Fin 12544)
  (hdec : ∀ k < 5, groupVal S r (b (k + 1)) < groupVal S r (b k))
  (hrest : ∀ k ≤ 5, ∀ x, (∀ j < k, x ≠ b j) → groupVal S r x ≤ groupVal S r (b k))

/-- The slots' values at the end. -/
def lastVals (S : ℕ → FVec Ideal S1024x2048 .f32) : Vec Ideal S1024x640 .f32 := fromSlots fun r l i => (after (item S r l) 98 i).1

/-- The slots' names at the end. -/
def lastNames (S : ℕ → FVec Ideal S1024x2048 .f32) : Vec Ideal S1024x640 .i32 := fromSlots fun r l i => (after (item S r l) 98 i).2

theorem last_all (i : Fin 640) : (lastVals S (ix2 r i) = (⊥ : EReal) ∧ lastNames S (ix2 r i) = 4294967295#32) ∨
    ∃ x : Fin 12544, lastVals S (ix2 r i) = groupVal S r x ∧ lastNames S (ix2 r i) = BitVec.ofNat 32 x.val := by
  have e1 : lastVals S (ix2 r i) = (after (item S r ⟨i.val % 128, Nat.mod_lt _ (by decide)⟩) 98 (i.val / 128)).1 := rfl
  have e2 : lastNames S (ix2 r i) = (after (item S r ⟨i.val % 128, Nat.mod_lt _ (by decide)⟩) 98 (i.val / 128)).2 := rfl
  rw [e1, e2]
  rcases after_or (item S r ⟨i.val % 128, Nat.mod_lt _ (by decide)⟩) 98 (i.val / 128) with h | ⟨j, hj, h⟩
  · left; rw [h]; exact ⟨rfl, rfl⟩
  · right; rw [h, item_of S r _ j hj]; exact ⟨_, rfl, rfl⟩

include hdec hrest in
theorem last_in (k : ℕ) (hk : k < 5) : ∃ i : Fin 640, lastVals S (ix2 r i) = groupVal S r (b k) ∧ lastNames S (ix2 r i) = BitVec.ofNat 32 (b k).val := by
  classical
  have hx : (b k).val < 12544 := (b k).isLt
  let l : Fin 128 := ⟨(b k).val % 128, Nat.mod_lt _ (by decide)⟩
  have hkb : (b k).val / 128 < 98 := by omega
  have hof : ofLane l ((b k).val / 128) hkb = b k := Fin.ext (show 128 * ((b k).val / 128) + (b k).val % 128 = (b k).val by omega)
  have hf : item S r l ((b k).val / 128) = (groupVal S r (b k), BitVec.ofNat 32 (b k).val) := by
    rw [item_of S r l _ hkb, hof]
  have hbot : (⊥ : EReal) < groupVal S r (b k) := lt_of_le_of_lt bot_le (hdec k hk)
  have hinj (j j' : ℕ) (hj : j < 98) (hj' : j' < 98) (h : ofLane l j hj = ofLane l j' hj') : j = j' := by
    have : 128 * j + l.val = 128 * j' + l.val := congrArg Fin.val h
    omega
  have hne (j : ℕ) (hj : j < 98) (hjb : j ≠ (b k).val / 128) : (item S r l j).1 ≠ (item S r l ((b k).val / 128)).1 := by
    rw [hf, item_of S r l j hj]
    intro e
    have hxb : ofLane l j hj ≠ b k := fun h => hjb (hinj _ _ hj hkb (h.trans hof.symm))
    by_cases h : ∃ i < k, ofLane l j hj = b i
    · obtain ⟨i, hi, h⟩ := h
      have := best_lt (groupVal S r) b hdec i k hi (by omega)
      rw [← h] at this
      exact absurd e.symm (ne_of_lt this)
    · have := hrest (k + 1) (by omega) (ofLane l j hj) fun i hi h' => by
        by_cases hik : i = k
        · subst hik; exact hxb h'
        · exact h ⟨i, by omega, h'⟩
      exact absurd (lt_of_le_of_lt this (hdec k hk)) (by rw [show groupVal S r (ofLane l j hj) = groupVal S r (b k) from e]; exact lt_irrefl _)
  have hh := after_holds (item S r l) ((b k).val / 128) 98 hkb (by rw [hf]; exact hbot) hne
  have hc : above (item S r l) (item S r l ((b k).val / 128)).1 98 ≤ k := by
    unfold above
    rw [hf]
    refine le_trans ?_ (le_trans (Finset.card_image_le (s := Finset.range k) (f := fun i => (b i).val)) (Finset.card_range k).le)
    refine Finset.card_le_card_of_injOn (fun j => 128 * j + l.val) (fun j hj => ?_) (fun j _ j' _ h => by
      have h : 128 * j + l.val = 128 * j' + l.val := h
      omega)
    have hj' := Finset.mem_filter.mp (Finset.mem_coe.mp hj)
    have hj98 : j < 98 := Finset.mem_range.mp hj'.1
    have hgt := hj'.2
    rw [item_of S r l j hj98] at hgt
    have : ∃ i < k, ofLane l j hj98 = b i := by
      by_contra h
      exact absurd (hrest k (by omega) (ofLane l j hj98) fun i hi e => h ⟨i, hi, e⟩) (not_le.mpr hgt)
    obtain ⟨i, hi, e⟩ := this
    exact Finset.mem_coe.mpr (Finset.mem_image.mpr ⟨i, Finset.mem_range.mpr hi, (congrArg Fin.val e).symm⟩)
  refine ⟨colAt (above (item S r l) (item S r l ((b k).val / 128)).1 98) l, ?_, ?_⟩
  · unfold lastVals
    rw [fromSlots_col _ r l _ (by omega), hh, hf]
  · unfold lastNames
    rw [fromSlots_col _ r l _ (by omega), hh, hf]

include hdec hrest in
theorem pick_last (k : Fin 8) : pick (lastVals S) (lastNames S) (ix2 r k) = if k.val < 5 then BitVec.ofNat 32 (b k.val).val else 4294967295#32 := by
  rw [pick_apply]
  split
  · exact (round_spec (by decide) (groupVal S r) b hdec hrest (lastVals S) (lastNames S) r (last_all S r)
      (fun k hk => last_in S r b hdec hrest k hk) 5 le_rfl).2 k.val ‹_›
  · rfl

end row

/-- The last grid point's output. -/
theorem out_last (m : (b : Idealize.ShloMosaic.Loc nD τ sig) → Buf (Elt Ideal) b) (c : Dev nD) (hn : 48 < cfg0.N) :
    (outsAt0 m c 48 hn).1 = pick (lastVals (sims m c)) (lastNames (sims m c)) := by
  obtain ⟨h1, h2⟩ := left m c 48 hn
  refine (outC m c ⟨48, hn⟩ (by show ¬48 % 49 = 0; decide) (by show ¬48 < 48; decide) (by show 48 % 49 = 48; decide)).trans ?_
  rw [h1, h2]
  rfl

end Cert.Proof.Select
-- ==== Proof.Select.Ref.lean ====
module

public import proofs.«01_k».proof.Proof.Gen.SelectReferenceIdeal.Run
public import proofs.«01_k».proof.Proof.Rescore.Elem
public import Idealize.ShloMosaic.Lib.Pointwise

/-!
The reference of the group selection, written as a few named functions of its arguments, and what they are at an index.
-/

@[expose] public section

noncomputable section

namespace Cert.Proof.Select.Ref

open Cert.SelectReferenceIdeal Cert.SelectReferenceIdeal.Gen
open Idealize.ShloMosaic Idealize.ShloMosaic.TcCoe Idealize.SL.Sem

/-- The rows scaled to length one. -/
def norm (v : FVec Ideal S1024x64 .f32) : FVec Ideal S1024x64 .f32 :=
  Host.divf v
    (broadcastInDim S1024x64 ![0, 1] bcast_S1024x1_S1024x64_0_1
      (maximumf
        (Host.sqrt (broadcastInDim S1024x1 ![0] bcast_S1024_S1024x1_0
          (Host.reduceAdd (mulf v v) (constant S_ .f32 0x00000000#32) reducesTo_S1024x64_S1024_d1 h_S_)))
        (broadcastInDim S1024x1 ![] bcast_S_S1024x1 (constant S_ .f32 0x2B8CBCCC#32))))

/-- The similarities. -/
def sim (q : FVec Ideal S1024x64 .f32) (w : FVec Ideal S100000x64 .f32) : FVec Ideal S1024x100000 .f32 :=
  Host.dotGeneral dot_S1024x64_S64x100000_S1024x100000_1_0_0_1_n_n none (norm q)
    (transpose S64x100000 [1, 0] w transposes_S100000x64_S64x100000_1_0)

/-- The similarities with the gap in between. -/
def joined (s : FVec Ideal S1024x100000 .f32) : FVec Ideal S1024x100352 .f32 :=
  concatenate S1024x100352 1 [⟨S1024x98304, extractStridedSlice S1024x98304 ![0, 0] s slices_S1024x100000_S1024x98304_0_0⟩,
    ⟨S1024x352, broadcastInDim S1024x352 ![] bcast_S_S1024x352 (constant S_ .f32 0xFF800000#32)⟩,
    ⟨S1024x1696, extractStridedSlice S1024x1696 ![0, 98304] s slices_S1024x100000_S1024x1696_0_98304⟩]
    concatenates_S1024x98304_S1024x352_S1024x1696_S1024x100352_d1

/-- The greatest of each group. -/
def greatest (x : FVec Ideal S1024x100352 .f32) : FVec Ideal S1024x98x128 .f32 :=
  Host.reduce FloatOps.maximumf (shapeCast S1024x98x8x128 x shapeCasts_S1024x100352_S1024x98x8x128) (constant S_ .f32 0xFF800000#32)
    reducesTo_S1024x98x8x128_S1024x98x128_d2 h_S_

/-- The same, in the order of the names. -/
def groupBest (q : FVec Ideal S1024x64 .f32) (w : FVec Ideal S100000x64 .f32) : FVec Ideal S1024x12544 .f32 :=
  shapeCast S1024x12544 (greatest (joined (sim q w))) shapeCasts_S1024x98x128_S1024x12544

/-- The reference's result. -/
def result (x : FVec Ideal S1024x12544 .f32) : IVec S1024x8 32 :=
  concatenate S1024x8 1 [⟨S1024x5, (Host.topK S1024x5 1 (FloatOps.cmpfTotal .gt) x sliceFits_S1024x12544_S1024x5).2⟩,
    ⟨S1024x3, broadcastInDim S1024x3 ![] bcast_S_S1024x3 (constantI S_ 32 4294967295#32)⟩] concatenates_S1024x5_S1024x3_S1024x8_d1

theorem norm_apply (v : FVec Ideal S1024x64 .f32) (r : Fin 1024) (d : Fin 64) :
    norm v (ix2 r d) = Rescore.nrm (fun k => v (ix2 r k)) d := by
  unfold norm Rescore.nrm
  pointwise

theorem sim_apply (q : FVec Ideal S1024x64 .f32) (w : FVec Ideal S100000x64 .f32) (r : Fin 1024) (j : Fin 100000) :
    sim q w (ix2 r j) = ∑ d : Fin 64, Rescore.nrm (fun k => q (ix2 r k)) d * w (ix2 j d) := by
  unfold sim
  pointwise [norm_apply]

theorem joined_low (s : FVec Ideal S1024x100000 .f32) (r : Fin 1024) (p : Fin 98304) :
    joined s (ix2 r ⟨p.val, by omega⟩) = s (ix2 r ⟨p.val, by omega⟩) := by
  unfold joined
  pointwise

theorem joined_gap (s : FVec Ideal S1024x100000 .f32) (r : Fin 1024) (p : Fin 352) :
    joined s (ix2 r ⟨98304 + p.val, by omega⟩) = (⊥ : EReal) := by
  unfold joined
  pointwise
  exact Rescore.negInf

theorem joined_high (s : FVec Ideal S1024x100000 .f32) (r : Fin 1024) (p : Fin 1696) :
    joined s (ix2 r ⟨98656 + p.val, by omega⟩) = s (ix2 r ⟨98304 + p.val, by omega⟩) := by
  unfold joined
  pointwise
  rw [dif_neg (by omega), dif_neg (by omega)]
  have e : 98304 + (98656 + p.val - 98304 - 352) = 98304 + p.val := by omega
  simp only [e]

theorem greatest_apply (x : FVec Ideal S1024x100352 .f32) (r : Fin 1024) (k : Fin 98) (l : Fin 128) :
    greatest x (ix3 r k l) = Finset.univ.sup fun t : Fin 8 => x (ix2 r ⟨1024 * k.val + 128 * t.val + l.val, by omega⟩) := by
  unfold greatest
  pointwise
  rw [Rescore.negInf]
  show Finset.univ.sup (fun t : Fin 8 => x (ix2 r ⟨k.val * 1024 + t.val * 128 + l.val, by omega⟩)) = _
  have e (t : Fin 8) : k.val * 1024 + t.val * 128 + l.val = 1024 * k.val + 128 * t.val + l.val := by omega
  simp only [e]

theorem groupBest_apply (q : FVec Ideal S1024x64 .f32) (w : FVec Ideal S100000x64 .f32) (r : Fin 1024) (k : Fin 98) (l : Fin 128) :
    groupBest q w (ix2 r ⟨128 * k.val + l.val, by omega⟩) = greatest (joined (sim q w)) (ix3 r k l) := by
  unfold groupBest
  pointwise

/-- A run of the reference ends with the result. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18)
          = result (groupBest (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run (F := Ideal) m ρ)

end Cert.Proof.Select.Ref
-- ==== Proof.Select.NoTie.lean ====
module

public import proofs.«01_k».proof.Proof.Gen.Pre_no_tie
public import proofs.«01_k».proof.Proof.Select.Ref
public import proofs.«01_k».proof.Proof.Select.Order
public import proofs.«01_k».proof.Proof.Rescore.RefRow
public import proofs.«01_k».proof.Proof.Rescore.Inputs

/-!
The groups of a row in the order of their values: what the precondition says of them, and what the reference returns.
-/

@[expose] public section

noncomputable section

namespace Cert.Proof.Select.Ref

open Idealize.ShloMosaic

theorem gt_total (a b : EReal) : (FloatOps.cmpfTotal (F := Ideal) (φ := .f32) .gt a b == 1#1) = decide (b < a) := by
  rw [Ideal.cmpfTotal_def]
  show (BitVec.ofBool (decide (b < a)) == 1#1) = _
  cases decide (b < a) <;> rfl

/-- The `k`-th best group of a row. -/
def bestOf (x : FVec Ideal Cert.SelectReferenceIdeal.S1024x12544 .f32) (r : Fin 1024) (k : ℕ) : Fin 12544 :=
  at_ (fun y => x (ix2 r y)) ⟨k % 12544, Nat.mod_lt _ (by decide)⟩

theorem bestOf_rest (x : FVec Ideal Cert.SelectReferenceIdeal.S1024x12544 .f32) (r : Fin 1024) (k : ℕ) (hk : k ≤ 5) (y : Fin 12544)
    (h : ∀ j < k, y ≠ bestOf x r j) : x (ix2 r y) ≤ x (ix2 r (bestOf x r k)) := by
  refine at_rest (fun y => x (ix2 r y)) ⟨k % 12544, Nat.mod_lt _ (by decide)⟩ y fun j hj e => ?_
  have hj' : j.val < k % 12544 := hj
  rw [Nat.mod_eq_of_lt (by omega)] at hj'
  refine h j.val hj' (e.trans ?_)
  unfold bestOf
  congr 1
  exact Fin.ext (Nat.mod_eq_of_lt j.isLt).symm

theorem cast_eq {K : ℕ} (hK : K ≤ 12544) (z : Fin K) : z.castLE hK = ⟨z.val % 12544, Nat.mod_lt _ (by decide)⟩ :=
  Fin.ext (Nat.mod_eq_of_lt (by omega : z.val < 12544)).symm

section pre

open Cert.Pre_no_tie Cert.Pre_no_tie.Gen

theorem fn_eq (q : FVec Ideal S1024x64 .f32) (w : FVec Ideal S100000x64 .f32) : Cert.Pre_no_tie.fn (F := Ideal) q w =
    Host.reduce IntOp.andi
      (cmpf .ogt
        (extractStridedSlice S1024x5 ![0, 0] (Host.topK S1024x6 1 (FloatOps.cmpfTotal .gt) (groupBest q w) sliceFits_S1024x12544_S1024x6).1 slices_S1024x6_S1024x5_0_0)
        (extractStridedSlice S1024x5 ![0, 1] (Host.topK S1024x6 1 (FloatOps.cmpfTotal .gt) (groupBest q w) sliceFits_S1024x12544_S1024x6).1 slices_S1024x6_S1024x5_0_1))
      (constantI S_ 1 1#1) reducesTo_S1024x5_S_d0_1 h_S_ := by
  unfold Cert.Pre_no_tie.fn Cert.Pre_no_tie.fn_part1; rfl

theorem steps_apply (v : FVec Ideal S1024x6 .f32) (r : Fin 1024) (k : Fin 5)
    (h : cmpf .ogt (extractStridedSlice S1024x5 ![0, 0] v slices_S1024x6_S1024x5_0_0)
      (extractStridedSlice S1024x5 ![0, 1] v slices_S1024x6_S1024x5_0_1) (ix2 r k) = 1#1) :
    v (ix2 r ⟨k.val + 1, by omega⟩) < v (ix2 r ⟨k.val, by omega⟩) := by
  have e1 : extractStridedSlice S1024x5 ![0, 0] v slices_S1024x6_S1024x5_0_0 (ix2 r k) = v (ix2 r ⟨k.val, by omega⟩) := by pointwise
  have e2 : extractStridedSlice S1024x5 ![0, 1] v slices_S1024x6_S1024x5_0_1 (ix2 r k) = v (ix2 r ⟨k.val + 1, by omega⟩) := by
    pointwise
    have e : 1 + k.val = k.val + 1 := by omega
    simp only [e]
  rw [← e1, ← e2]
  by_contra hn
  rw [show cmpf .ogt (extractStridedSlice S1024x5 ![0, 0] v slices_S1024x6_S1024x5_0_0)
      (extractStridedSlice S1024x5 ![0, 1] v slices_S1024x6_S1024x5_0_1) (ix2 r k) =
    BitVec.ofBool (decide (extractStridedSlice S1024x5 ![0, 1] v slices_S1024x6_S1024x5_0_1 (ix2 r k)
      < extractStridedSlice S1024x5 ![0, 0] v slices_S1024x6_S1024x5_0_0 (ix2 r k))) from rfl, decide_eq_false hn] at h
  exact absurd h (by decide)

/-- The five best of a row differ from each other and from all the rest. -/
theorem bestOf_lt (q : FVec Ideal S1024x64 .f32) (w : FVec Ideal S100000x64 .f32)
    (h : Cert.Pre_no_tie.fn (F := Ideal) q w = fun _ => 1#1) (r : Fin 1024) (k : ℕ) (hk : k < 5) :
    groupBest q w (ix2 r (bestOf (groupBest q w) r (k + 1))) < groupBest q w (ix2 r (bestOf (groupBest q w) r k)) := by
  rw [fn_eq] at h
  have h0 := congrFun h (fun d => d.elim0)
  have h1 := Host.reduce_andi_all _ _ reducesTo_S1024x5_S_d0_1 h_S_ _ h0 (ix2 r ⟨k, hk⟩)
  have h2 := steps_apply _ r ⟨k, hk⟩ h1
  generalize groupBest q w = x at h2 ⊢
  have t1 := (Rescore.Ref.topK_row (by decide) (FloatOps.cmpfTotal (F := Ideal) (φ := .f32) .gt) x sliceFits_S1024x12544_S1024x6 r ⟨k + 1, by omega⟩ gt_total).1
  have t0 := (Rescore.Ref.topK_row (by decide) (FloatOps.cmpfTotal (F := Ideal) (φ := .f32) .gt) x sliceFits_S1024x12544_S1024x6 r ⟨k, by omega⟩ gt_total).1
  rw [cast_eq] at t0 t1
  rw [t1, t0] at h2
  exact h2

end pre

section res

open Cert.SelectReferenceIdeal Cert.SelectReferenceIdeal.Gen

theorem result_apply (x : FVec Ideal S1024x12544 .f32) (r : Fin 1024) (k : Fin 8) :
    result x (ix2 r k) = if k.val < 5 then BitVec.ofNat 32 (bestOf x r k.val).val else 4294967295#32 := by
  unfold result
  generalize hT : Host.topK S1024x5 1 (FloatOps.cmpfTotal .gt) x sliceFits_S1024x12544_S1024x5 = T
  pointwise
  split
  · rename_i hk
    have t := (Rescore.Ref.topK_row (by decide) (FloatOps.cmpfTotal (F := Ideal) (φ := .f32) .gt) x sliceFits_S1024x12544_S1024x5 r ⟨k.val, hk⟩ gt_total).2
    rw [cast_eq] at t
    rw [← hT]
    exact t
  · rfl

end res

end Cert.Proof.Select.Ref
-- ==== Proof.Select.Blocks.lean ====
module

public import proofs.«01_k».proof.Proof.Select.Whole
public import proofs.«01_k».proof.Proof.Select.NoTie
public import Idealize.ShloMosaic.Lib.Pipeline.ValueKit.Geometry

/-!
The similarities of the grid points, out of the arguments, and each group's greatest one: the reference's.
-/

@[expose] public section

noncomputable section

namespace Cert.Proof.Select

open Cert.SelectIdeal Cert.SelectIdeal.Gen
open Idealize.ShloMosaic Idealize.ShloMosaic.TcCoe Idealize.SL.Sem

/-! ## What the payloads are at an index -/

/-- A query row's product with a queue row. -/
def prod (q : Fin 64 → EReal) (w : Fin 64 → EReal) : EReal := ∑ d : Fin 64, Rescore.nrm q d * w d

theorem pay3 (v : Vec Ideal S1024x64 .f32) (r : Fin 1024) (d : Fin 64) :
    k0_pay3 v (ix2 r d) = Rescore.nrm (fun k => v (ix2 r k)) d := by
  unfold k0_pay3 Rescore.nrm
  pointwise

theorem pay12 (v : Vec Ideal S1024x64 .f32) (b : Vec Ideal S2048x64 .f32) (r : Fin 1024) (j : Fin 2048) :
    k0_pay12 (k0_pay3 v) b (ix2 r j) = prod (fun k => v (ix2 r k)) (fun d => b (ix2 j d)) := by
  unfold k0_pay12 prod
  pointwise [pay3]

theorem pay56 (v : Vec Ideal S1024x64 .f32) (b : Vec Ideal S2048x64 .f32) (r : Fin 1024) (j : Fin 2048) :
    k0_pay56 (k0_pay3 v) b (ix2 r j) = if j.val < 352 then (⊥ : EReal) else prod (fun k => v (ix2 r k)) (fun d => b (ix2 j d)) := by
  unfold k0_pay56 prod
  pointwise [pay3]
  rw [Rescore.negInf]
  have e : IntOp.cmpi .sge (BitVec.ofNat 32 j.val) 352#32 = BitVec.ofBool (!decide (j.val < 352)) := by
    show BitVec.ofBool ((352#32).sle (BitVec.ofNat 32 j.val)) = _
    have h1 : (BitVec.ofNat 32 j.val).toInt = (j.val : Int) := by
      rw [BitVec.toInt_eq_toNat_of_lt] <;> rw [BitVec.toNat_ofNat] <;> omega
    have h2 : (352#32).toInt = 352 := rfl
    rw [BitVec.sle_eq_decide, h1, h2]
    congr 1
    by_cases h : j.val < 352 <;> simp [h] <;> omega
  rw [e]
  refine (Scalar.select_ofBool _ _ _).trans ?_
  by_cases h : j.val < 352 <;> simp [h]

/-! ## The blocks -/

variable (m : (b : Idealize.ShloMosaic.Loc nD τ sig) → Buf (Elt Ideal) b) (c : Dev nD)

/-- The two arguments. -/
abbrev aQ : Vec Ideal S1024x64 .f32 := m ((c : Thread nD τ).loc main_arg0)
abbrev aW : Vec Ideal S100000x64 .f32 := m ((c : Thread nD τ).loc main_arg1)

theorem idx0 : ∀ t : Fin cfg0.N, win0_0.index t = ![0, 0] := (by decide +kernel : ∀ t : Fin grid0.N, _)
theorem idx1 : ∀ t : Fin cfg0.N, t.val < 48 → win0_1.index t = ![t.val, 0] := (by decide +kernel : ∀ t : Fin grid0.N, _)
theorem idx2 : ∀ t : Fin cfg0.N, win0_2.index t = ![0, 0] := (by decide +kernel : ∀ t : Fin grid0.N, _)

theorem blk0 (t : Fin cfg0.N) (r : Fin 1024) (d : Fin 64) : iblk m c 0 t (ix2 r d) = aQ m c (ix2 r d) := by
  unfold iblk
  blk_simp
  show V m c main_arg0 _ = m _ _
  rw [V_main_arg0]
  refine congrArg (m ((c : Thread nD τ).loc main_arg0)) ?_
  have e := idx0 t
  blk_ext [e]

theorem blk1 (t : Fin cfg0.N) (ht : t.val < 48) (j : Fin 2048) (d : Fin 64) :
    X0_1 m c t (ix2 j d) = aW m c (ix2 ⟨2048 * t.val + j.val, by omega⟩ d) := by
  unfold X0_1 Pipeline.Window.fill
  rw [dif_pos (moved0_1 t _)]
  unfold iblk
  blk_simp
  show V m c main_arg1 _ = m _ _
  rw [V_main_arg1]
  refine congrArg (m ((c : Thread nD τ).loc main_arg1)) ?_
  have e := idx1 t ht
  blk_ext [e]

theorem tail_eq : V m c main_v0 = extractStridedSlice S2048x64 ![97952, 0] (aW m c) slices_S100000x64_S2048x64_97952_0 := by
  show StableHlo.after hostOps0 (fun b => m (c, b)) main_v0 = _
  after_results_simp

theorem blk2 (t : Fin cfg0.N) (j : Fin 2048) (d : Fin 64) :
    iblk m c 2 t (ix2 j d) = aW m c (ix2 ⟨97952 + j.val, by omega⟩ d) := by
  unfold iblk
  blk_simp
  show V m c main_v0 _ = _
  rw [tail_eq]
  have e := idx2 t
  trans extractStridedSlice S2048x64 ![97952, 0] (aW m c) slices_S100000x64_S2048x64_97952_0 (ix2 j d)
  · refine congrArg _ ?_
    blk_ext [e]
  · pointwise

/-! ## The similarities are the reference's, the gap included -/

theorem sim_eq (r : Fin 1024) (j : Fin 100000) :
    Ref.sim (aQ m c) (aW m c) (ix2 r j) = prod (fun k => aQ m c (ix2 r k)) (fun d => aW m c (ix2 j d)) :=
  Ref.sim_apply _ _ r j

theorem sims_eq (n : ℕ) (hn : n < 49) (r : Fin 1024) (j : Fin 2048) :
    sims m c n (ix2 r j) = Ref.joined (Ref.sim (aQ m c) (aW m c)) (ix2 r ⟨2048 * n + j.val, by omega⟩) := by
  have hN : cfg0.N = 49 := rfl
  unfold sims
  rw [dif_pos (by omega)]
  by_cases h : n < 48
  · rw [if_pos h]
    refine (pay12 _ _ r j).trans ?_
    refine Eq.trans ?_ (Ref.joined_low (Ref.sim (aQ m c) (aW m c)) r ⟨2048 * n + j.val, by omega⟩).symm
    refine Eq.trans ?_ (sim_eq m c r _).symm
    simp only [blk0, blk1 m c ⟨n, by omega⟩ h]
  · obtain rfl : n = 48 := by omega
    rw [if_neg h]
    refine (pay56 _ _ r j).trans ?_
    by_cases hj : j.val < 352
    · rw [if_pos hj]
      exact (Ref.joined_gap (Ref.sim (aQ m c) (aW m c)) r ⟨j.val, hj⟩).symm
    · rw [if_neg hj]
      have e1 : 2048 * 48 + j.val = 98656 + (j.val - 352) := by omega
      have e2 : 97952 + j.val = 98304 + (j.val - 352) := by omega
      simp only [e1]
      refine Eq.trans ?_ (Ref.joined_high (Ref.sim (aQ m c) (aW m c)) r ⟨j.val - 352, by omega⟩).symm
      refine Eq.trans ?_ (sim_eq m c r _).symm
      simp only [blk0, blk2, e2]

theorem sup_eight (f : Fin 8 → EReal) : Finset.univ.sup f = max (max (max (max (max (max (max (f 0) (f 1)) (f 2)) (f 3)) (f 4)) (f 5)) (f 6)) (f 7) := by
  refine le_antisymm (Finset.sup_le fun t _ => ?_) ?_
  · fin_cases t <;> simp
  · have h (t : Fin 8) : f t ≤ Finset.univ.sup f := Finset.le_sup (Finset.mem_univ t)
    simp only [max_le_iff]
    exact ⟨⟨⟨⟨⟨⟨⟨h 0, h 1⟩, h 2⟩, h 3⟩, h 4⟩, h 5⟩, h 6⟩, h 7⟩

theorem groupVal_eq (r : Fin 1024) (x : Fin 12544) :
    groupVal (sims m c) r x = Ref.groupBest (aQ m c) (aW m c) (ix2 r x) := by
  have hx : x.val < 12544 := x.isLt
  have e : x = ⟨128 * (x.val / 128) + x.val % 128, by omega⟩ := Fin.ext (by show x.val = 128 * (x.val / 128) + x.val % 128; omega)
  refine Eq.trans ?_ (congrArg (fun y => Ref.groupBest (aQ m c) (aW m c) (ix2 r y)) e.symm)
  refine Eq.trans ?_ (Ref.groupBest_apply (aQ m c) (aW m c) r ⟨x.val / 128, by omega⟩ ⟨x.val % 128, by omega⟩).symm
  refine Eq.trans ?_ (Ref.greatest_apply (Ref.joined (Ref.sim (aQ m c) (aW m c))) r ⟨x.val / 128, by omega⟩ ⟨x.val % 128, by omega⟩).symm
  rw [sup_eight]
  have h (t : Fin 8) : sims m c (x.val / 128 / 2) (ix2 r ⟨1024 * (x.val / 128 % 2) + 128 * t.val + x.val % 128, by omega⟩)
      = Ref.joined (Ref.sim (aQ m c) (aW m c)) (ix2 r ⟨1024 * (x.val / 128) + 128 * t.val + x.val % 128, by omega⟩) := by
    refine (sims_eq m c _ (by omega) r _).trans ?_
    have e : 2048 * (x.val / 128 / 2) + (1024 * (x.val / 128 % 2) + 128 * t.val + x.val % 128)
      = 1024 * (x.val / 128) + 128 * t.val + x.val % 128 := by omega
    simp only [e]
  exact congrArg₂ max (congrArg₂ max (congrArg₂ max (congrArg₂ max (congrArg₂ max (congrArg₂ max (congrArg₂ max
    (h 0) (h 1)) (h 2)) (h 3)) (h 4)) (h 5)) (h 6)) (h 7)

/-- With no tie, the last grid point writes the reference's result. -/
theorem out_eq (hpre : Cert.Pre_no_tie.fn (F := Ideal) (aQ m c) (aW m c) = fun _ => 1#1) (hn : 48 < cfg0.N) :
    (outsAt0 m c 48 hn).1 = Ref.result (Ref.groupBest (aQ m c) (aW m c)) := by
  rw [out_last]
  funext i
  obtain ⟨r, hr⟩ : ∃ r : Fin 1024, r = i 0 := ⟨_, rfl⟩
  obtain ⟨k, hk⟩ : ∃ k : Fin 8, k = i 1 := ⟨_, rfl⟩
  rw [show i = ix2 r k from by rw [hr, hk]; exact eq_ix2 i]
  refine (pick_last (sims m c) r (Ref.bestOf (Ref.groupBest (aQ m c) (aW m c)) r) (fun k hk => ?_) (fun k hk x h => ?_) k).trans
    (Ref.result_apply _ r k).symm
  · rw [groupVal_eq, groupVal_eq]
    exact Ref.bestOf_lt _ _ hpre r k hk
  · rw [groupVal_eq, groupVal_eq]
    exact Ref.bestOf_rest _ r k hk x h

end Cert.Proof.Select
-- ==== Proof.Select.Claims.lean ====
module

public import proofs.«01_k».proof.Defs
public import proofs.«01_k».proof.Proof.Gen.Select
public import proofs.«01_k».proof.Proof.Gen.SelectIdeal.Value
public import proofs.«01_k».proof.Proof.Select.Blocks

/-!
The claims of the group selection: it runs to its end at both instances, and its result is the reference's when no two of
the greatest groups tie.
-/

@[expose] public section

noncomputable section

namespace Cert.Proof.Select

open Idealize.ShloMosaic Idealize.SL.Sem

section kept

open Cert.SelectIdeal Cert.SelectIdeal.Gen

variable {F : FTy → Type} [FloatOps F] [∀ e, Nonempty (Elt F e)] (m : (ℓ : Loc nD τ sig) → Buf (Elt F) ℓ) (ρ : Dev nD → PrngReg)

theorem run_kept :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => ⟨Value.kept_main_arg0 m r h.1 c, Value.kept_main_arg1 m r h.1 c⟩, h.2⟩) (run_main_quiescent m ρ)

end kept

/-- The two programs are one text, so a run of the one is a run of the other. -/
theorem same_run (m : (ℓ : Loc Cert.SelectIdeal.nD Cert.SelectIdeal.τ Cert.SelectIdeal.sig) → Buf (Elt Bits) ℓ)
    (ρ : Dev Cert.SelectIdeal.nD → PrngReg) :
    (θ_run (Cert.Select.defs (F := Bits)) (onTc (τ := Cert.Select.τ) (Cert.Select.main (F := Bits))) ⟨m, fun _ => 0, ρ⟩
        (fun r => (∀ c : Dev Cert.Select.nD,
          r.2.mem ((c.tc : Thread Cert.Select.nD Cert.Select.τ).loc Cert.Select.main_arg0) = m ((c.tc : Thread Cert.Select.nD Cert.Select.τ).loc Cert.Select.main_arg0)
          ∧ r.2.mem ((c.tc : Thread Cert.Select.nD Cert.Select.τ).loc Cert.Select.main_arg1) = m ((c.tc : Thread Cert.Select.nD Cert.Select.τ).loc Cert.Select.main_arg1)) ∧ r.2.sem = fun _ => 0)) =
    (θ_run (Cert.SelectIdeal.defs (F := Bits)) (onTc (τ := Cert.SelectIdeal.τ) (Cert.SelectIdeal.main (F := Bits))) ⟨m, fun _ => 0, ρ⟩
        (fun r => (∀ c : Dev Cert.SelectIdeal.nD,
          r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)) ∧ r.2.sem = fun _ => 0)) := by
  chain_rfl

theorem frame_kernel : Cert.quiescent_Select := fun m ρ _ => (same_run m ρ).mpr (run_kept (F := Bits) m ρ)
theorem frame_kernelIdeal : Cert.quiescent_SelectIdeal := fun m ρ _ => run_kept (F := Ideal) m ρ
theorem frame_kernelIdeal_no_tie : Cert.quiescent_SelectIdeal_pre_no_tie := fun m ρ _ => run_kept (F := Ideal) m ρ

theorem frame_referenceIdeal : Cert.quiescent_SelectReferenceIdeal := fun m ρ _ =>
  (θ_run Cert.SelectReferenceIdeal.defs _ _).mono
    (fun r h => ⟨fun c => (h c).2, Idealize.ShloMosaic.sem_eq_zero_of_no_sems (by decide) r.2⟩) (Ref.run m ρ)
theorem frame_referenceIdeal_no_tie : Cert.quiescent_SelectReferenceIdeal_pre_no_tie := fun m ρ _ =>
  frame_referenceIdeal m ρ trivial

open Cert.SelectIdeal Cert.SelectIdeal.Gen in
/-- The array after the run. -/
theorem array_eq (m : (ℓ : Loc nD τ sig) → Buf (Elt Ideal) ℓ) (c : Dev nD)
    (hpre : Cert.Pre_no_tie.fn (F := Ideal) (aQ m c) (aW m c) = fun _ => 1#1) :
    Value.G3 m c = Ref.result (Ref.groupBest (aQ m c) (aW m c)) :=
  (Value.G3_last m c).trans ((congrArg (fun p => p.1) (Value.outsAt0_sweep m c 48 (by decide)).symm).trans (out_eq m c hpre (by decide)))

theorem result_congr {q q' : FVec Ideal Cert.SelectReferenceIdeal.S1024x64 .f32} {w w' : FVec Ideal Cert.SelectReferenceIdeal.S100000x64 .f32}
    (hq : q' = q) (hw : w' = w) : Ref.result (Ref.groupBest q' w') = Ref.result (Ref.groupBest q w) := by
  rw [hq, hw]

theorem algebraic : Cert.algebraic_SelectIdeal_SelectReferenceIdeal_pre_no_tie := by
  intro m ρ m' ρ' hpre hag
  refine ⟨fun c => Ref.result (Ref.groupBest (aQ m c) (aW m c)), ?_, ?_⟩
  · exact (θ_run Cert.SelectIdeal.defs _ _).mono (fun r h c =>
      ⟨(h c).1.trans (array_eq m c (hpre c)), (h c).2⟩) (Cert.SelectIdeal.Value.run (F := Ideal) m ρ)
  · exact (θ_run Cert.SelectReferenceIdeal.defs _ _).mono (fun r h c =>
      ⟨(h c).1.trans (result_congr (hag c).1 (hag c).2), (h c).2⟩) (Ref.run m' ρ')

end Cert.Proof.Select
-- ==== Proof.lean ====
/-
  The certificate's proof: the gather runs to its end at both instances, and leaves the rows the reference takes;
  the rescoring of the gathered rows runs to its end at both instances, and leaves the reference's three results;
  the group selection runs to its end at both instances, and leaves the names of the reference's five greatest groups.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.Pre_candidates
public import proofs.«01_k».proof.Proof.Gen.Reference.Run
public import proofs.«01_k».proof.Proof.Gen.ReferenceIdeal.Run
public import proofs.«01_k».proof.Proof.Rows
public import proofs.«01_k».proof.Proof.Rescore.Claims
public import proofs.«01_k».proof.Proof.Select.Claims

@[expose] public section

noncomputable section

namespace Cert.Proof.Gather

open Idealize.ShloMosaic Idealize.SL.Sem

theorem nonneg_ideal (m : (ℓ : Loc Cert.KernelIdeal.nD Cert.KernelIdeal.τ Cert.KernelIdeal.sig) → Buf (Elt Ideal) ℓ) (h : Cert.Pre_KernelIdeal m) (d : Dev Cert.KernelIdeal.nD) :
    NonNeg (m (cLoc d)) := fun x => congrFun (h d) x
theorem nonneg_bits (m : (ℓ : Loc Cert.KernelIdeal.nD Cert.KernelIdeal.τ Cert.KernelIdeal.sig) → Buf (Elt Bits) ℓ) (h : Cert.Pre_Kernel m) (d : Dev Cert.KernelIdeal.nD) :
    NonNeg (m (cLoc d)) := fun x => congrFun (h d) x

variable {F : FTy → Type} [FloatOps F]

theorem preOK (m : (ℓ : Loc Cert.KernelIdeal.nD Cert.KernelIdeal.τ Cert.KernelIdeal.sig) → Buf (Elt F) ℓ) (h : ∀ d, NonNeg (m (cLoc d))) : PreOK m := fun d r => by
  have e : ixI r = ixI (r % 40960) := by unfold ixI; congr 2; exact (Nat.mod_mod r 40960).symm
  rw [e]
  exact lt_of_eq_of_lt (congrArg BitVec.toNat (list_apply (m (cLoc d)) ⟨r % 40960, Nat.mod_lt _ (by decide)⟩)) (pair_lt (m (cLoc d)) (h d) _)

/-- The program runs to its end, with the reference's rows in its result. -/
theorem run_rows [∀ e, Nonempty (Elt F e)] (m : (ℓ : Loc Cert.KernelIdeal.nD Cert.KernelIdeal.τ Cert.KernelIdeal.sig) → Buf (Elt F) ℓ)
    (ρ : Dev Cert.KernelIdeal.nD → PrngReg) (h : ∀ d, NonNeg (m (cLoc d))) :
    θ_run (Cert.KernelIdeal.defs (F := F)) (Cert.KernelIdeal.threads (F := F)) ⟨m, fun _ => 0, ρ⟩ fun r =>
      (∀ d : Dev Cert.KernelIdeal.nD, r.2.mem (oLoc d) = refR (m (aLoc d)) (m (cLoc d)) ∧ r.2.mem (aLoc d) = m (aLoc d) ∧ r.2.mem (cLoc d) = m (cLoc d))
        ∧ r.2.sem = fun _ => 0 :=
  (θ_run Cert.KernelIdeal.defs _ _).mono (fun _ hr => ⟨fun d => ⟨(hr.1 d).1.trans (rows_eq (m (cLoc d)) (h d) (m (aLoc d))), (hr.1 d).2⟩, hr.2⟩)
    (run_main m ρ (preOK m h))

theorem frame_kernel : Cert.quiescent_Kernel := fun m ρ hpre =>
  (θ_run Cert.KernelIdeal.defs _ _).mono (fun _ h => ⟨fun c => (h.1 c).2, h.2⟩) (run_rows (F := Bits) m ρ (nonneg_bits m hpre))
theorem frame_kernelIdeal : Cert.quiescent_KernelIdeal := fun m ρ hpre =>
  (θ_run Cert.KernelIdeal.defs _ _).mono (fun _ h => ⟨fun c => (h.1 c).2, h.2⟩) (run_rows (F := Ideal) m ρ (nonneg_ideal m hpre))

/-- The reference runs to its end, with those rows in its result. -/
theorem run_ref (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD,
        r.2.mem ((c.tc : Thread _ _).loc Cert.ReferenceIdeal.main_v10) = refR (m ((c.tc : Thread _ _).loc Cert.ReferenceIdeal.main_arg0)) (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1))
      ∧ r.2.sem = fun _ => 0 :=
  (θ_run Cert.ReferenceIdeal.defs _ _).mono
    (fun r h => ⟨fun c => ⟨(h c).1.trans (res_eq m c), (h c).2⟩, Idealize.ShloMosaic.sem_eq_zero_of_no_sems (by decide) r.2⟩)
    (Cert.ReferenceIdeal.Value.run m ρ)

set_option maxRecDepth 8192 in
set_option maxHeartbeats 4000000 in
theorem resBits_eq (m : (ℓ : Loc Cert.Reference.nD Cert.Reference.τ Cert.Reference.sig) → Buf (Elt Bits) ℓ) (c : Dev Cert.Reference.nD) :
    Cert.Reference.Value.res_main_v10 m c = refR (F := Bits) (m ((c.tc : Thread _ _).loc Cert.Reference.main_arg0)) (m ((c.tc : Thread _ _).loc Cert.Reference.main_arg1)) := by
  unfold Cert.Reference.Value.res_main_v10 refR; rfl

theorem frame_reference : Cert.quiescent_Reference := fun m ρ _ =>
  (θ_run Cert.Reference.defs _ _).mono (fun r h => ⟨fun c => (h c).2, Idealize.ShloMosaic.sem_eq_zero_of_no_sems (by decide) r.2⟩) (Cert.Reference.Value.run (F := Bits) m ρ)
theorem frame_referenceIdeal : Cert.quiescent_ReferenceIdeal := fun m ρ _ =>
  (θ_run Cert.ReferenceIdeal.defs _ _).mono (fun _ h => ⟨fun c => (h.1 c).2, h.2⟩) (run_ref (F := Ideal) m ρ)

theorem refR_congr {q q' : Cert.KernelIdeal.S100000x64.Idx → F .f32} {a a' : Cert.KernelIdeal.S1024x40.Idx → BitVec 32} (hq : q' = q) (ha : a' = a) :
    refR q' a' = refR q a := by rw [hq, ha]

theorem bitexact : Cert.bitexact_Kernel_Reference := by
  intro m ρ m' ρ' hpre hag
  refine ⟨fun c => refR (F := Bits) (m (aLoc c)) (m (cLoc c)), ?_, ?_⟩
  · exact (θ_run Cert.KernelIdeal.defs _ _).mono (fun _ h => h.1) (run_rows (F := Bits) m ρ (nonneg_bits m hpre))
  · exact (θ_run Cert.Reference.defs _ _).mono (fun _ h c => ⟨((h c).1.trans (resBits_eq m' c)).trans (refR_congr (F := Bits) (hag c).1 (hag c).2), (h c).2⟩)
      (Cert.Reference.Value.run (F := Bits) m' ρ')

theorem algebraic : Cert.algebraic_KernelIdeal_ReferenceIdeal := by
  intro m ρ m' ρ' hpre hag
  refine ⟨fun c => refR (F := Ideal) (m (aLoc c)) (m (cLoc c)), ?_, ?_⟩
  · exact (θ_run Cert.KernelIdeal.defs _ _).mono (fun _ h => h.1) (run_rows (F := Ideal) m ρ (nonneg_ideal m hpre))
  · exact (θ_run Cert.ReferenceIdeal.defs _ _).mono (fun _ h c => ⟨(h.1 c).1.trans (refR_congr (F := Ideal) (hag c).1 (hag c).2), (h.1 c).2⟩) (run_ref (F := Ideal) m' ρ')

end Cert.Proof.Gather

theorem Cert.Proof.claim : Cert.Claim :=
  ⟨Cert.Kernel.Gen.facts, Cert.KernelIdeal.Gen.facts, Cert.ReferenceIdeal.Gen.facts, Cert.Reference.Gen.facts,
    Cert.Rescore.Gen.facts, Cert.RescoreIdeal.Gen.facts, Cert.RescoreReferenceIdeal.Gen.facts,
    Cert.Select.Gen.facts, Cert.SelectIdeal.Gen.facts, Cert.SelectReferenceIdeal.Gen.facts,
    Cert.Pre_candidates.Gen.facts, Cert.Pre_inputs.Gen.facts, Cert.Pre_no_tie.Gen.facts,
    Gather.frame_kernel, Gather.frame_kernelIdeal, Gather.frame_referenceIdeal, Gather.frame_reference,
    Rescore.frame_kernel, Rescore.frame_kernelIdeal, Rescore.frame_kernelIdeal_inputs, Rescore.frame_referenceIdeal, Rescore.frame_referenceIdeal_inputs,
    Select.frame_kernel, Select.frame_kernelIdeal, Select.frame_kernelIdeal_no_tie, Select.frame_referenceIdeal, Select.frame_referenceIdeal_no_tie,
    trivial, Gather.bitexact, Gather.algebraic, trivial, Rescore.algebraic, trivial, Select.algebraic⟩
